-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_h [hPre_finite_h : Cert.Pre_finite_h.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_h.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).1 = (fun _ => 1#1)
    ∧ (Cert.Pre_finite_h.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.1 = (fun _ => 1#1)
    ∧ (Cert.Pre_finite_h.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_h [hPre_finite_h : Cert.Pre_finite_h.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_h.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).1 = (fun _ => 1#1)
    ∧ (Cert.Pre_finite_h.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.1 = (fun _ => 1#1)
    ∧ (Cert.Pre_finite_h.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2 = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_finite_h [hKernel4Ideal : Cert.Kernel4Ideal.Facts] [hPre_finite_h : Cert.Pre_finite_h.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_h m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_finite_h [hReference4Ideal : Cert.Reference4Ideal.Facts] [hPre_finite_h : Cert.Pre_finite_h.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_h m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v125) = v0 c
          ∧ r.2.mem ((c.tc : Thread Cert.Reference3Ideal.nD Cert.Reference3Ideal.τ).loc Cert.Reference3Ideal.main_v115) = v1 c
          ∧ r.2.mem ((c.tc : Thread Cert.Reference3Ideal.nD Cert.Reference3Ideal.τ).loc Cert.Reference3Ideal.main_v124) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite_h [hKernel4Ideal : Cert.Kernel4Ideal.Facts] [hReference4Ideal : Cert.Reference4Ideal.Facts] [hPre_finite_h : Cert.Pre_finite_h.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_h m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_idx_in_rows : Cert.Pre_idx_in_rows.Facts) (hPre_finite_h : Cert.Pre_finite_h.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_Reference (hReference := hReference) (hPre_idx_in_rows := hPre_idx_in_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_h (hKernel4Ideal := hKernel4Ideal) (hPre_finite_h := hPre_finite_h)
    ∧ quiescent_Reference4Ideal (hReference4Ideal := hReference4Ideal)
    ∧ quiescent_Reference4Ideal_pre_finite_h (hReference4Ideal := hReference4Ideal) (hPre_finite_h := hPre_finite_h)
    ∧ preserves_Kernel_KernelIdeal
    ∧ algebraic_KernelIdeal_ReferenceIdeal (hKernelIdeal := hKernelIdeal) (hReferenceIdeal := hReferenceIdeal) (hPre_idx_in_rows := hPre_idx_in_rows)
    ∧ bitexact_Kernel_Reference (hKernel := hKernel) (hReference := hReference) (hPre_idx_in_rows := hPre_idx_in_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_h (hKernel4Ideal := hKernel4Ideal) (hReference4Ideal := hReference4Ideal) (hPre_finite_h := hPre_finite_h)
-- ==== Pre_finite_h.lean ====
abbrev S2x8x24576x256 : Shape := ⟨4, ![2, 8, 24576, 256]⟩
abbrev S24576x128 : Shape := ⟨2, ![24576, 128]⟩
abbrev S24576x1024 : Shape := ⟨2, ![24576, 1024]⟩
abbrev S2x8x8192x256 : Shape := ⟨4, ![2, 8, 8192, 256]⟩
abbrev S8192x128 : Shape := ⟨2, ![8192, 128]⟩
abbrev S8192x1024 : Shape := ⟨2, ![8192, 1024]⟩
abbrev S8x6144 : Shape := ⟨2, ![8, 6144]⟩
abbrev S1024x256 : Shape := ⟨2, ![1024, 256]⟩
abbrev S256x1024 : Shape := ⟨2, ![256, 1024]⟩
abbrev S1024 : Shape := ⟨1, ![1024]⟩
abbrev S_ : Shape := ⟨0, ![]⟩

class Facts : Prop where
  bitsLt_bf16_f32 : FTy.bits .bf16 < FTy.bits .f32
  bcast_S_S24576x1024 : S_.BroadcastsInDim S24576x1024 (![] : Fin 0 → Fin S24576x1024.rank)
  bcast_S_S8192x1024 : S_.BroadcastsInDim S8192x1024 (![] : Fin 0 → Fin S8192x1024.rank)
  bcast_S_S1024x256 : S_.BroadcastsInDim S1024x256 (![] : Fin 0 → Fin S1024x256.rank)

variable [Facts]

def fn {F : FTy → Type} [FloatOps F] (main_arg0 : IVec S2x8x24576x256 32) (main_arg1 : FVec F S24576x128 .f32) (main_arg2 : FVec F S24576x1024 .bf16) (main_arg3 : FVec F S24576x1024 .f32) (main_arg4 : IVec S2x8x8192x256 32) (main_arg5 : FVec F S8192x128 .f32) (main_arg6 : FVec F S8192x1024 .bf16) (main_arg7 : FVec F S8192x1024 .f32) (main_arg8 : FVec F S8x6144 .f32) (main_arg9 : FVec F S1024x256 .f32) (main_arg10 : FVec F S1024x256 .f32) (main_arg11 : FVec F S256x1024 .f32) (main_arg12 : FVec F S1024 .f32) (main_arg13 : FVec F S1024 .f32) : IVec S24576x1024 1 × IVec S8192x1024 1 × IVec S1024x256 1 :=
  let main_v0 : FVec F S24576x1024 .f32 := (extf .f32 · bitsLt_bf16_f32) main_arg2
  let main_v1 : FVec F S24576x1024 .f32 := Host.absf main_v0
  let main_cst : FVec F S_ .f32 := constant S_ .f32 0x7F800000#32
  let main_v2 : FVec F S24576x1024 .f32 := broadcastInDim S24576x1024 ![] bcast_S_S24576x1024 main_cst
  let main_v3 : IVec S24576x1024 1 := cmpf .olt main_v1 main_v2
  let main_v4 : FVec F S8192x1024 .f32 := (extf .f32 · bitsLt_bf16_f32) main_arg6
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S1024x256 .f32 := Host.absf main_arg9
  let main_cst_1 : FVec F S_ .f32 := constant S_ .f32 0x7F800000#32
  let main_v9 : FVec F S1024x256 .f32 := broadcastInDim S1024x256 ![] bcast_S_S1024x256 main_cst_1
  let main_v10 : IVec S1024x256 1 := cmpf .olt main_v8 main_v9
  (main_v3, main_v7, main_v10)
-- ==== Pre_idx_in_rows.lean ====
abbrev S524288x256 : Shape := ⟨2, ![524288, 256]⟩
abbrev S1x393216 : Shape := ⟨2, ![1, 393216]⟩
abbrev S_ : Shape := ⟨0, ![]⟩

class Facts : Prop where
  bcast_S_S1x393216 : S_.BroadcastsInDim S1x393216 (![] : Fin 0 → Fin S1x393216.rank)

variable [Facts]

def fn {F : FTy → Type} [FloatOps F] (main_arg0 : IVec S524288x256 32) (main_arg1 : IVec S1x393216 32) : IVec S1x393216 1 :=
  let main_c : IVec S_ 32 := constantI S_ 32 0#32
  let main_v0 : IVec S1x393216 32 := broadcastInDim S1x393216 ![] bcast_S_S1x393216 main_c
  let main_v1 : IVec S1x393216 1 := cmpi .sge main_arg1 main_v0
  let main_c_0 : IVec S_ 32 := constantI S_ 32 524288#32
  let main_v2 : IVec S1x393216 32 := broadcastInDim S1x393216 ![] bcast_S_S1x393216 main_c_0
  let main_v3 : IVec S1x393216 1 := cmpi .slt main_arg1 main_v2
  let main_v4 : IVec S1x393216 1 := andi main_v1 main_v3
  main_v4
-- ==== Kernel.lean ====
abbrev S524288x256 : Shape := ⟨2, ![524288, 256]⟩
abbrev S1x393216 : Shape := ⟨2, ![1, 393216]⟩
abbrev S393216x256 : Shape := ⟨2, ![393216, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S524288x128 : Shape := ⟨2, ![524288, 128]⟩

abbrev nBuf : Table → Nat
  | .hbm => 3
  | .local .scVector .vmem => 2
  | _ => 0

abbrev bufTy : (tb : Table) → Fin (nBuf tb) → BufTy
  | .hbm, ⟨0, _⟩ => ⟨S524288x256, .i32⟩
  | .hbm, ⟨1, _⟩ => ⟨S1x393216, .i32⟩
  | .hbm, ⟨2, _⟩ => ⟨S393216x256, .i32⟩
  | .local .scVector .vmem, ⟨0, _⟩ => ⟨S2x1x128, .i32⟩
  | .local .scVector .vmem, ⟨1, _⟩ => ⟨S2x128x256, .i32⟩
  | _, _ => ⟨S524288x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c96_i32_27_r0 : BitVec 32 := 96#32
  let v32_r0 : BitVec 32 := Scalar.addi c0_i32_26_r0 c96_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c96_i32_62_r0 : BitVec 32 := 96#32
  let v74_r0 : BitVec 1 := Scalar.cmpi .eq v73_r0 c96_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c95_i32_68_r0 : BitVec 32 := 95#32
  let v83_r0 : BitVec 1 := Scalar.cmpi .sge arg5_r0 c95_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_104_r0 : BitVec 32 := 0#32
  let c128_i32_101_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c96_i32_62_r0 : BitVec 32 := 96#32
  let v74_r0 : BitVec 1 := Scalar.cmpi .eq v73_r0 c96_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v76_r0 : BitVec 32 := Scalar.addi v75_r0 v4
  let v145_r0 : BitVec 32 := Scalar.muli c128_i32_101_r0 v76_r0
  ![0, v145_r0.toNat]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c95_i32_59_r0 : BitVec 32 := 95#32
  let v70_r0 : BitVec 32 := Scalar.select v69_r0 c95_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let v144_r0 : BitVec 32 := Scalar.muli c128_i32_100_r0 v66_r0
  ![0, v144_r0.toNat]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_104_r1 : BitVec 32 := 0#32
  let c0_i32_105_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c96_i32_62_r0 : BitVec 32 := 96#32
  let v74_r0 : BitVec 1 := Scalar.cmpi .eq v73_r0 c96_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c95_i32_55_r0 : BitVec 32 := 95#32
  let v65_r0 : BitVec 1 := Scalar.cmpi .eq arg5_r0 c95_i32_55_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c95_i32_59_r0 : BitVec 32 := 95#32
  let v70_r0 : BitVec 32 := Scalar.select v69_r0 c95_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c95_i32_59_r0 : BitVec 32 := 95#32
  let v70_r0 : BitVec 32 := Scalar.select v69_r0 c95_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x393216.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x393216.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S393216x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S393216x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x393216.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x393216.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S393216x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S393216x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c95_i32_33_r0 : BitVec 32 := 95#32
  let v37_r0 : BitVec 32 := Scalar.select v36_r0 c95_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S393216x256.size a)
theorem k0_off19_inb : ∀ (i : grid0.Coords) (v33_4_r0 : BitVec 32) (k0_hw5 : k0_chk5 i v33_4_r0), ∀ a, (k0_off19 i v33_4_r0) a + S128x256.size a ≤ S393216x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S524288x256 : Shape := ⟨2, ![524288, 256]⟩
abbrev S1x393216 : Shape := ⟨2, ![1, 393216]⟩
abbrev S393216 : Shape := ⟨1, ![393216]⟩
abbrev S393216x1 : Shape := ⟨2, ![393216, 1]⟩
abbrev S393216x256 : Shape := ⟨2, ![393216, 256]⟩

abbrev nBuf : Space → Nat
  | .hbm => 5
  | .vmem => 0
  | .smem => 0
  | _ => 0

abbrev bufTy : (tb : Table) → Fin (tcTables nBuf tb) → BufTy
  | .hbm, ⟨0, _⟩ => ⟨S524288x256, .i32⟩
  | .hbm, ⟨1, _⟩ => ⟨S1x393216, .i32⟩
  | .hbm, ⟨2, _⟩ => ⟨S393216, .i32⟩
  | .hbm, ⟨3, _⟩ => ⟨S393216x1, .i32⟩
  | .hbm, ⟨4, _⟩ => ⟨S393216x256, .i32⟩
  | _, _ => ⟨S524288x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x6144 : Shape := ⟨2, ![8, 6144]⟩
abbrev S1024x11296 : Shape := ⟨2, ![1024, 11296]⟩
abbrev S1024x6144 : Shape := ⟨2, ![1024, 6144]⟩
abbrev S1024x5120 : Shape := ⟨2, ![1024, 5120]⟩
abbrev S1024x11264 : Shape := ⟨2, ![1024, 11264]⟩
abbrev S1024x32 : Shape := ⟨2, ![1024, 32]⟩
abbrev S_ : Shape := ⟨0, ![]⟩
abbrev S1024x128 : Shape := ⟨2, ![1024, 128]⟩
abbrev S32768x1024 : Shape := ⟨2, ![32768, 1024]⟩
abbrev S8x6x1024 : Shape := ⟨3, ![8, 6, 1024]⟩
abbrev S24576x11264 : Shape := ⟨2, ![24576, 11264]⟩
abbrev S24576x128 : Shape := ⟨2, ![24576, 128]⟩
abbrev S1024x1024 : Shape := ⟨2, ![1024, 1024]⟩
abbrev S1x6x1024 : Shape := ⟨3, ![1, 6, 1024]⟩
abbrev S1024x2816 : Shape := ⟨2, ![1024, 2816]⟩
abbrev S6x1024 : Shape := ⟨2, ![6, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 16
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024x11296, .f32⟩
  | .hbm, ⟨3, _⟩ => ⟨S1024x6144, .f32⟩
  | .hbm, ⟨4, _⟩ => ⟨S1024x5120, .f32⟩
  | .hbm, ⟨5, _⟩ => ⟨S1024x11264, .f32⟩
  | .hbm, ⟨6, _⟩ => ⟨S1024x11264, .bf16⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S32768x1024, .f32⟩
  | .hbm, ⟨13, _⟩ => ⟨S8x6x1024, .f32⟩
  | .hbm, ⟨14, _⟩ => ⟨S24576x11264, .bf16⟩
  | .hbm, ⟨15, _⟩ => ⟨S24576x128, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2816, .bf16⟩
  | .local _ .vmem, ⟨5, _⟩ => ⟨S1024x2816, .bf16⟩
  | .local _ .vmem, ⟨6, _⟩ => ⟨S1024x128, .bf16⟩
  | .local _ .vmem, ⟨7, _⟩ => ⟨S1024x2816, .bf16⟩
  | .local _ .vmem, ⟨8, _⟩ => ⟨S1024x2816, .bf16⟩
  | .local _ .vmem, ⟨9, _⟩ => ⟨S1024x128, .f32⟩
  | .local _ .vmem, ⟨10, _⟩ => ⟨S1024x128, .f32⟩
  | .local _ .vmem, ⟨11, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![24, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c4096_i32 : BitVec 32 := 4096#32
  let v2 : BitVec 32 := Scalar.divsi v1 c4096_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4096_i32 c0_i32_2
  let v9 : BitVec 32 := Scalar.extui v8
  let c0_i32_3 : BitVec 32 := 0#32
  let v10 : BitVec 1 := Scalar.cmpi .slt c4096_i32 c0_i32_3
  let v11 : BitVec 32 := Scalar.extui v10
  let v12 : BitVec 32 := Scalar.subi v9 v11
  let v13 : BitVec 1 := Scalar.cmpi .ne v7 v12
  let v14 : BitVec 32 := Scalar.remsi v1 c4096_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x4096x1024 : Shape := ⟨3, ![8, 4096, 1024]⟩
abbrev S8x6144 : Shape := ⟨2, ![8, 6144]⟩
abbrev S1024x11296 : Shape := ⟨2, ![1024, 11296]⟩
abbrev S6x4096x1024 : Shape := ⟨3, ![6, 4096, 1024]⟩
abbrev S6x1024 : Shape := ⟨2, ![6, 1024]⟩
abbrev S6x1x1024 : Shape := ⟨3, ![6, 1, 1024]⟩
abbrev S_ : Shape := ⟨0, ![]⟩
abbrev S6x4096 : Shape := ⟨2, ![6, 4096]⟩
abbrev S6x4096x1 : Shape := ⟨3, ![6, 4096, 1]⟩
abbrev S6x4096x11296 : Shape := ⟨3, ![6, 4096, 11296]⟩
abbrev S24576x11296 : Shape := ⟨2, ![24576, 11296]⟩
abbrev S24576x6144 : Shape := ⟨2, ![24576, 6144]⟩
abbrev S24576x32 : Shape := ⟨2, ![24576, 32]⟩
abbrev S24576x5120 : Shape := ⟨2, ![24576, 5120]⟩
abbrev S24576x11264 : Shape := ⟨2, ![24576, 11264]⟩
abbrev S24576x128 : Shape := ⟨2, ![24576, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024x11296, .f32⟩
  | .hbm, ⟨3, _⟩ => ⟨S6x4096x1024, .f32⟩
  | .hbm, ⟨4, _⟩ => ⟨S6x1024, .f32⟩
  | .hbm, ⟨5, _⟩ => ⟨S6x1x1024, .f32⟩
  | .hbm, ⟨6, _⟩ => ⟨S6x1024, .f32⟩
  | .hbm, ⟨7, _⟩ => ⟨S6x1x1024, .f32⟩
  | .hbm, ⟨8, _⟩ => ⟨S_, .f32⟩
  | .hbm, ⟨9, _⟩ => ⟨S6x4096, .f32⟩
  | .hbm, ⟨10, _⟩ => ⟨S6x4096x1, .f32⟩
  | .hbm, ⟨11, _⟩ => ⟨S_, .f32⟩
  | .hbm, ⟨12, _⟩ => ⟨S6x4096x1, .f32⟩
  | .hbm, ⟨13, _⟩ => ⟨S6x4096x1, .f32⟩
  | .hbm, ⟨14, _⟩ => ⟨S6x4096x1024, .f32⟩
  | .hbm, ⟨15, _⟩ => ⟨S6x4096x1024, .f32⟩
  | .hbm, ⟨16, _⟩ => ⟨S6x4096x1024, .f32⟩
  | .hbm, ⟨17, _⟩ => ⟨S_, .f32⟩
  | .hbm, ⟨18, _⟩ => ⟨S6x4096, .f32⟩
  | .hbm, ⟨19, _⟩ => ⟨S6x4096x1, .f32⟩
  | .hbm, ⟨20, _⟩ => ⟨S_, .f32⟩
  | .hbm, ⟨21, _⟩ => ⟨S6x4096x1, .f32⟩
  | .hbm, ⟨22, _⟩ => ⟨S6x4096x1, .f32⟩
  | .hbm, ⟨23, _⟩ => ⟨S_, .f32⟩
  | .hbm, ⟨24, _⟩ => ⟨S6x4096x1, .f32⟩
  | .hbm, ⟨25, _⟩ => ⟨S6x4096x1, .f32⟩
  | .hbm, ⟨26, _⟩ => ⟨S6x4096x1, .f32⟩
  | .hbm, ⟨27, _⟩ => ⟨S6x4096x1024, .f32⟩
  | .hbm, ⟨28, _⟩ => ⟨S6x4096x1024, .f32⟩
  | .hbm, ⟨29, _⟩ => ⟨S_, .f32⟩
  | .hbm, ⟨30, _⟩ => ⟨S6x1x1024, .f32⟩
  | .hbm, ⟨31, _⟩ => ⟨S6x1x1024, .f32⟩
  | .hbm, ⟨32, _⟩ => ⟨S6x4096x1024, .f32⟩
  | .hbm, ⟨33, _⟩ => ⟨S6x4096x1024, .f32⟩
  | .hbm, ⟨34, _⟩ => ⟨S6x4096x1024, .f32⟩
  | .hbm, ⟨35, _⟩ => ⟨S6x4096x1024, .f32⟩
  | .hbm, ⟨36, _⟩ => ⟨S6x4096x11296, .f32⟩
  | .hbm, ⟨37, _⟩ => ⟨S24576x11296, .f32⟩
  | .hbm, ⟨38, _⟩ => ⟨S24576x6144, .f32⟩
  | .hbm, ⟨39, _⟩ => ⟨S24576x32, .f32⟩
  | .hbm, ⟨40, _⟩ => ⟨S24576x5120, .f32⟩
  | .hbm, ⟨41, _⟩ => ⟨S24576x11264, .f32⟩
  | .hbm, ⟨42, _⟩ => ⟨S24576x11264, .bf16⟩
  | .hbm, ⟨43, _⟩ => ⟨S_, .i32⟩
  | .hbm, ⟨44, _⟩ => ⟨S_, .f32⟩
  | .hbm, ⟨45, _⟩ => ⟨S24576x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_call0_v0 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel3.lean ====
abbrev S24576x2048 : Shape := ⟨2, ![24576, 2048]⟩
abbrev S24576x11264 : Shape := ⟨2, ![24576, 11264]⟩
abbrev S8x4096x1024 : Shape := ⟨3, ![8, 4096, 1024]⟩
abbrev S8x6144 : Shape := ⟨2, ![8, 6144]⟩
abbrev S2048x1024 : Shape := ⟨2, ![2048, 1024]⟩
abbrev S1024x1024 : Shape := ⟨2, ![1024, 1024]⟩
abbrev S3x1024 : Shape := ⟨2, ![3, 1024]⟩
abbrev S1024 : Shape := ⟨1, ![1024]⟩
abbrev S1024x64 : Shape := ⟨2, ![1024, 64]⟩
abbrev S_ : Shape := ⟨0, ![]⟩
abbrev S1024x128 : Shape := ⟨2, ![1024, 128]⟩
abbrev S1024x256 : Shape := ⟨2, ![1024, 256]⟩
abbrev S32768x1024 : Shape := ⟨2, ![32768, 1024]⟩
abbrev S8x6x1024 : Shape := ⟨3, ![8, 6, 1024]⟩
abbrev S1x1024 : Shape := ⟨2, ![1, 1024]⟩
abbrev S24576x1024 : Shape := ⟨2, ![24576, 1024]⟩
abbrev S2x24576x512 : Shape := ⟨3, ![2, 24576, 512]⟩
abbrev S24576x128 : Shape := ⟨2, ![24576, 128]⟩
abbrev S512x2048 : Shape := ⟨2, ![512, 2048]⟩
abbrev S512x1024 : Shape := ⟨2, ![512, 1024]⟩
abbrev S1x6x1024 : Shape := ⟨3, ![1, 6, 1024]⟩
abbrev S2x512x512 : Shape := ⟨3, ![2, 512, 512]⟩
abbrev S512x128 : Shape := ⟨2, ![512, 128]⟩
abbrev S520x1024 : Shape := ⟨2, ![520, 1024]⟩
abbrev S8x1024 : Shape := ⟨2, ![8, 1024]⟩
abbrev S6x1024 : Shape := ⟨2, ![6, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S256x256 : Shape := ⟨2, ![256, 256]⟩
abbrev S1x256x256 : Shape := ⟨3, ![1, 256, 256]⟩
abbrev S256x128 : Shape := ⟨2, ![256, 128]⟩

abbrev nBuf : Space → Nat
  | .hbm => 30
  | .vmem => 32
  | .smem => 0
  | _ => 0

abbrev bufTy : (tb : Table) → Fin (tcTables nBuf tb) → BufTy
  | .hbm, ⟨0, _⟩ => ⟨S24576x2048, .bf16⟩
  | .hbm, ⟨1, _⟩ => ⟨S24576x11264, .bf16⟩
  | .hbm, ⟨2, _⟩ => ⟨S8x4096x1024, .f32⟩
  | .hbm, ⟨3, _⟩ => ⟨S8x6144, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S3x1024, .f32⟩
  | .hbm, ⟨8, _⟩ => ⟨S1024, .f32⟩
  | .hbm, ⟨9, _⟩ => ⟨S1024, .f32⟩
  | .hbm, ⟨10, _⟩ => ⟨S1024x64, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S1024x256, .bf16⟩
  | .hbm, ⟨19, _⟩ => ⟨S32768x1024, .f32⟩
  | .hbm, ⟨20, _⟩ => ⟨S8x6x1024, .f32⟩
  | .hbm, ⟨21, _⟩ => ⟨S2048x1024, .bf16⟩
  | .hbm, ⟨22, _⟩ => ⟨S1024x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S24576x1024, .f32⟩
  | .hbm, ⟨27, _⟩ => ⟨S24576x1024, .bf16⟩
  | .hbm, ⟨28, _⟩ => ⟨S2x24576x512, .bf16⟩
  | .hbm, ⟨29, _⟩ => ⟨S24576x128, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x6x1024, .f32⟩
  | .local _ .vmem, ⟨15, _⟩ => ⟨S1x6x1024, .f32⟩
  | .local _ .vmem, ⟨16, _⟩ => ⟨S2048x1024, .bf16⟩
  | .local _ .vmem, ⟨17, _⟩ => ⟨S1024x1024, .bf16⟩
  | .local _ .vmem, ⟨18, _⟩ => ⟨S1024x1024, .bf16⟩
  | .local _ .vmem, ⟨19, _⟩ => ⟨S3x1024, .f32⟩
  | .local _ .vmem, ⟨20, _⟩ => ⟨S1x1024, .f32⟩
  | .local _ .vmem, ⟨21, _⟩ => ⟨S1x1024, .f32⟩
  | .local _ .vmem, ⟨22, _⟩ => ⟨S1024x256, .bf16⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S2x512x512, .bf16⟩
  | .local _ .vmem, ⟨28, _⟩ => ⟨S2x512x512, .bf16⟩
  | .local _ .vmem, ⟨29, _⟩ => ⟨S512x128, .f32⟩
  | .local _ .vmem, ⟨30, _⟩ => ⟨S512x128, .f32⟩
  | .local _ .vmem, ⟨31, _⟩ => ⟨S520x1024, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c10_i32 : BitVec 32 := 10#32
  let c0_i32 : BitVec 32 := 0#32
  ![v1.toNat, c10_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S24576x2048 : Shape := ⟨2, ![24576, 2048]⟩
abbrev S24576x11264 : Shape := ⟨2, ![24576, 11264]⟩
abbrev S8x4096x1024 : Shape := ⟨3, ![8, 4096, 1024]⟩
abbrev S8x6144 : Shape := ⟨2, ![8, 6144]⟩
abbrev S2048x1024 : Shape := ⟨2, ![2048, 1024]⟩
abbrev S1024x1024 : Shape := ⟨2, ![1024, 1024]⟩
abbrev S3x1024 : Shape := ⟨2, ![3, 1024]⟩
abbrev S1024 : Shape := ⟨1, ![1024]⟩
abbrev S1024x64 : Shape := ⟨2, ![1024, 64]⟩
abbrev S6x4096x1024 : Shape := ⟨3, ![6, 4096, 1024]⟩
abbrev S6x1024 : Shape := ⟨2, ![6, 1024]⟩
abbrev S6x1x1024 : Shape := ⟨3, ![6, 1, 1024]⟩
abbrev S24576x1024 : Shape := ⟨2, ![24576, 1024]⟩
abbrev S_ : Shape := ⟨0, ![]⟩
abbrev S6x4098x1024 : Shape := ⟨3, ![6, 4098, 1024]⟩
abbrev S1x1024 : Shape := ⟨2, ![1, 1024]⟩
abbrev S1x1x1024 : Shape := ⟨3, ![1, 1, 1024]⟩
abbrev S6x4096x2048 : Shape := ⟨3, ![6, 4096, 2048]⟩
abbrev S6x4096 : Shape := ⟨2, ![6, 4096]⟩
abbrev S6x4096x1 : Shape := ⟨3, ![6, 4096, 1]⟩
abbrev S24576x256 : Shape := ⟨2, ![24576, 256]⟩
abbrev S24576x512 : Shape := ⟨2, ![24576, 512]⟩
abbrev S1x24576x512 : Shape := ⟨3, ![1, 24576, 512]⟩
abbrev S2x24576x512 : Shape := ⟨3, ![2, 24576, 512]⟩

abbrev nBuf : Space → Nat
  | .hbm => 155
  | .vmem => 0
  | .smem => 0
  | _ => 0

abbrev hbmTy0_0 (i : Nat) : BufTy := match i % 128 with
  | 0 => ⟨S24576x2048, .bf16⟩
  | 1 => ⟨S24576x11264, .bf16⟩
  | 2 => ⟨S8x4096x1024, .f32⟩
  | 3 => ⟨S8x6144, .f32⟩
  | 4 => ⟨S2048x1024, .f32⟩
  | 5 => ⟨S1024x1024, .f32⟩
  | 6 => ⟨S1024x1024, .f32⟩
  | 7 => ⟨S3x1024, .f32⟩
  | 8 => ⟨S1024, .f32⟩
  | 9 => ⟨S1024, .f32⟩
  | 10 => ⟨S1024x64, .f32⟩
  | 11 => ⟨S6x4096x1024, .f32⟩
  | 12 => ⟨S6x1024, .f32⟩
  | 13 => ⟨S6x1x1024, .f32⟩
  | 14 => ⟨S6x1024, .f32⟩
  | 15 => ⟨S6x1x1024, .f32⟩
  | 16 => ⟨S6x1024, .f32⟩
  | 17 => ⟨S6x1x1024, .f32⟩
  | 18 => ⟨S24576x1024, .bf16⟩
  | 19 => ⟨S24576x1024, .f32⟩
  | 20 => ⟨S6x4096x1024, .f32⟩
  | 21 => ⟨S24576x1024, .bf16⟩
  | 22 => ⟨S24576x1024, .f32⟩
  | 23 => ⟨S6x4096x1024, .f32⟩
  | 24 => ⟨S24576x1024, .bf16⟩
  | 25 => ⟨S24576x1024, .f32⟩
  | 26 => ⟨S6x4096x1024, .f32⟩
  | 27 => ⟨S24576x1024, .bf16⟩
  | 28 => ⟨S24576x1024, .f32⟩
  | 29 => ⟨S6x4096x1024, .f32⟩
  | 30 => ⟨S24576x1024, .bf16⟩
  | 31 => ⟨S24576x1024, .f32⟩
  | 32 => ⟨S6x4096x1024, .f32⟩
  | 33 => ⟨S6x4096x1024, .f32⟩
  | 34 => ⟨S_, .i32⟩
  | 35 => ⟨S_, .f32⟩
  | 36 => ⟨S6x4098x1024, .f32⟩
  | 37 => ⟨S1x1024, .f32⟩
  | 38 => ⟨S1024, .f32⟩
  | 39 => ⟨S6x4096x1024, .f32⟩
  | 40 => ⟨S1x1x1024, .f32⟩
  | 41 => ⟨S6x4096x1024, .f32⟩
  | 42 => ⟨S6x4096x1024, .f32⟩
  | 43 => ⟨S1x1024, .f32⟩
  | 44 => ⟨S1024, .f32⟩
  | 45 => ⟨S6x4096x1024, .f32⟩
  | 46 => ⟨S1x1x1024, .f32⟩
  | 47 => ⟨S6x4096x1024, .f32⟩
  | 48 => ⟨S6x4096x1024, .f32⟩
  | 49 => ⟨S6x4096x1024, .f32⟩
  | 50 => ⟨S1x1024, .f32⟩
  | 51 => ⟨S1024, .f32⟩
  | 52 => ⟨S6x4096x1024, .f32⟩
  | 53 => ⟨S1x1x1024, .f32⟩
  | 54 => ⟨S6x4096x1024, .f32⟩
  | 55 => ⟨S6x4096x1024, .f32⟩
  | 56 => ⟨S6x4096x1024, .f32⟩
  | 57 => ⟨S24576x2048, .f32⟩
  | 58 => ⟨S6x4096x2048, .f32⟩
  | 59 => ⟨S6x4096x1024, .f32⟩
  | 60 => ⟨S6x4096x1024, .f32⟩
  | 61 => ⟨S6x4096x1024, .f32⟩
  | 62 => ⟨S6x4096x1024, .f32⟩
  | 63 => ⟨S6x4096x1024, .f32⟩
  | 64 => ⟨S_, .f32⟩
  | 65 => ⟨S6x4096x1024, .f32⟩
  | 66 => ⟨S6x4096x1024, .f32⟩
  | 67 => ⟨S_, .f32⟩
  | 68 => ⟨S6x4096x1024, .f32⟩
  | 69 => ⟨S6x4096x1024, .f32⟩
  | 70 => ⟨S6x4096x1024, .f32⟩
  | 71 => ⟨S6x4096x1024, .f32⟩
  | 72 => ⟨S6x4096x1024, .f32⟩
  | 73 => ⟨S_, .f32⟩
  | 74 => ⟨S6x4096x1024, .f32⟩
  | 75 => ⟨S6x4096x1024, .f32⟩
  | 76 => ⟨S_, .f32⟩
  | 77 => ⟨S6x4096x1024, .f32⟩
  | 78 => ⟨S6x4096x1024, .f32⟩
  | 79 => ⟨S6x4096x1024, .f32⟩
  | 80 => ⟨S6x4096x1024, .f32⟩
  | 81 => ⟨S6x4096x1024, .f32⟩
  | 82 => ⟨S_, .f32⟩
  | 83 => ⟨S6x4096x1024, .f32⟩
  | 84 => ⟨S6x4096x1024, .f32⟩
  | 85 => ⟨S6x4096x1024, .f32⟩
  | 86 => ⟨S6x4096x1024, .f32⟩
  | 87 => ⟨S6x4096x1024, .f32⟩
  | 88 => ⟨S_, .f32⟩
  | 89 => ⟨S6x4096, .f32⟩
  | 90 => ⟨S6x4096x1, .f32⟩
  | 91 => ⟨S_, .f32⟩
  | 92 => ⟨S6x4096x1, .f32⟩
  | 93 => ⟨S6x4096x1, .f32⟩
  | 94 => ⟨S6x4096x1024, .f32⟩
  | 95 => ⟨S6x4096x1024, .f32⟩
  | 96 => ⟨S6x4096x1024, .f32⟩
  | 97 => ⟨S_, .f32⟩
  | 98 => ⟨S6x4096, .f32⟩
  | 99 => ⟨S6x4096x1, .f32⟩
  | 100 => ⟨S_, .f32⟩
  | 101 => ⟨S6x4096x1, .f32⟩
  | 102 => ⟨S6x4096x1, .f32⟩
  | 103 => ⟨S_, .f32⟩
  | 104 => ⟨S6x4096x1, .f32⟩
  | 105 => ⟨S6x4096x1, .f32⟩
  | 106 => ⟨S6x4096x1, .f32⟩
  | 107 => ⟨S6x4096x1024, .f32⟩
  | 108 => ⟨S6x4096x1024, .f32⟩
  | 109 => ⟨S1x1x1024, .f32⟩
  | 110 => ⟨S6x4096x1024, .f32⟩
  | 111 => ⟨S6x4096x1024, .f32⟩
  | 112 => ⟨S1x1x1024, .f32⟩
  | 113 => ⟨S6x4096x1024, .f32⟩
  | 114 => ⟨S6x4096x1024, .f32⟩
  | 115 => ⟨S_, .f32⟩
  | 116 => ⟨S6x4096, .f32⟩
  | 117 => ⟨S6x4096x1, .f32⟩
  | 118 => ⟨S_, .f32⟩
  | 119 => ⟨S6x4096x1, .f32⟩
  | 120 => ⟨S6x4096x1, .f32⟩
  | 121 => ⟨S6x4096x1024, .f32⟩
  | 122 => ⟨S6x4096x1024, .f32⟩
  | 123 => ⟨S6x4096x1024, .f32⟩
  | 124 => ⟨S_, .f32⟩
  | 125 => ⟨S6x4096, .f32⟩
  | 126 => ⟨S6x4096x1, .f32⟩
  | 127 => ⟨S_, .f32⟩
  | _ => ⟨S24576x2048, .bf16⟩

abbrev hbmTy0_1 (i : Nat) : BufTy := match i % 128 with
  | 0 => ⟨S6x4096x1, .f32⟩
  | 1 => ⟨S6x4096x1, .f32⟩
  | 2 => ⟨S_, .f32⟩
  | 3 => ⟨S6x4096x1, .f32⟩
  | 4 => ⟨S6x4096x1, .f32⟩
  | 5 => ⟨S6x4096x1, .f32⟩
  | 6 => ⟨S6x4096x1024, .f32⟩
  | 7 => ⟨S6x4096x1024, .f32⟩
  | 8 => ⟨S_, .f32⟩
  | 9 => ⟨S6x1x1024, .f32⟩
  | 10 => ⟨S6x1x1024, .f32⟩
  | 11 => ⟨S6x4096x1024, .f32⟩
  | 12 => ⟨S6x4096x1024, .f32⟩
  | 13 => ⟨S6x4096x1024, .f32⟩
  | 14 => ⟨S6x4096x1024, .f32⟩
  | 15 => ⟨S24576x1024, .f32⟩
  | 16 => ⟨S24576x1024, .bf16⟩
  | 17 => ⟨S24576x256, .bf16⟩
  | 18 => ⟨S24576x256, .bf16⟩
  | 19 => ⟨S24576x512, .bf16⟩
  | 20 => ⟨S24576x256, .bf16⟩
  | 21 => ⟨S24576x256, .bf16⟩
  | 22 => ⟨S24576x512, .bf16⟩
  | 23 => ⟨S1x24576x512, .bf16⟩
  | 24 => ⟨S1x24576x512, .bf16⟩
  | 25 => ⟨S2x24576x512, .bf16⟩
  | 26 => ⟨S24576x1024, .f32⟩
  | _ => ⟨S24576x2048, .bf16⟩

abbrev hbmTy (i : Nat) : BufTy := match i / 128 with
  | 0 => hbmTy0_0 i
  | 1 => hbmTy0_1 i
  | _ => ⟨S24576x2048, .bf16⟩

abbrev bufTy : (tb : Table) → Fin (tcTables nBuf tb) → BufTy
  | .hbm, ⟨i, _⟩ => hbmTy i
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst : Ref sig .tc := ⟨.hbm, 64, rfl⟩
abbrev main_v51 : Ref sig .tc := ⟨.hbm, 65, rfl⟩
abbrev main_v52 : Ref sig .tc := ⟨.hbm, 66, rfl⟩
abbrev main_cst_0 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_1 : Ref sig .tc := ⟨.hbm, 73, rfl⟩
abbrev main_v58 : Ref sig .tc := ⟨.hbm, 74, rfl⟩
abbrev main_v59 : Ref sig .tc := ⟨.hbm, 75, rfl⟩
abbrev main_cst_2 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_3 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_4 : Ref sig .tc := ⟨.hbm, 88, rfl⟩
abbrev main_v70 : Ref sig .tc := ⟨.hbm, 89, rfl⟩
abbrev main_v71 : Ref sig .tc := ⟨.hbm, 90, rfl⟩
abbrev main_cst_5 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_6 : Ref sig .tc := ⟨.hbm, 97, rfl⟩
abbrev main_v77 : Ref sig .tc := ⟨.hbm, 98, rfl⟩
abbrev main_v78 : Ref sig .tc := ⟨.hbm, 99, rfl⟩
abbrev main_cst_7 : Ref sig .tc := ⟨.hbm, 100, rfl⟩
abbrev main_v79 : Ref sig .tc := ⟨.hbm, 101, rfl⟩
abbrev main_v80 : Ref sig .tc := ⟨.hbm, 102, rfl⟩
abbrev main_cst_8 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_9 : Ref sig .tc := ⟨.hbm, 115, rfl⟩
abbrev main_v92 : Ref sig .tc := ⟨.hbm, 116, rfl⟩
abbrev main_v93 : Ref sig .tc := ⟨.hbm, 117, rfl⟩
abbrev main_cst_10 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_11 : Ref sig .tc := ⟨.hbm, 124, rfl⟩
abbrev main_v99 : Ref sig .tc := ⟨.hbm, 125, rfl⟩
abbrev main_v100 : Ref sig .tc := ⟨.hbm, 126, rfl⟩
abbrev main_cst_12 : Ref sig .tc := ⟨.hbm, 127, rfl⟩
abbrev main_v101 : Ref sig .tc := ⟨.hbm, 128, rfl⟩
abbrev main_v102 : Ref sig .tc := ⟨.hbm, 129, rfl⟩
abbrev main_cst_13 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_14 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩

abbrev nD : Nat := 1
abbrev τ : Topo := Topo.v7x

variable {F : FTy → Type} [FloatOps F]
-- ==== Kernel4.lean ====
abbrev S2x8x24576x256 : Shape := ⟨4, ![2, 8, 24576, 256]⟩
abbrev S24576x128 : Shape := ⟨2, ![24576, 128]⟩
abbrev S24576x1024 : Shape := ⟨2, ![24576, 1024]⟩
abbrev S2x8x8192x256 : Shape := ⟨4, ![2, 8, 8192, 256]⟩
abbrev S8192x128 : Shape := ⟨2, ![8192, 128]⟩
abbrev S8192x1024 : Shape := ⟨2, ![8192, 1024]⟩
abbrev S8x6144 : Shape := ⟨2, ![8, 6144]⟩
abbrev S1024x256 : Shape := ⟨2, ![1024, 256]⟩
abbrev S256x1024 : Shape := ⟨2, ![256, 1024]⟩
abbrev S1024 : Shape := ⟨1, ![1024]⟩
abbrev S1024x512 : Shape := ⟨2, ![1024, 512]⟩
abbrev S8x6x1024 : Shape := ⟨3, ![8, 6, 1024]⟩
abbrev S1x1024 : Shape := ⟨2, ![1, 1024]⟩
abbrev S32768x1024 : Shape := ⟨2, ![32768, 1024]⟩
abbrev S2x8x512x256 : Shape := ⟨4, ![2, 8, 512, 256]⟩
abbrev S512x128 : Shape := ⟨2, ![512, 128]⟩
abbrev S512x1024 : Shape := ⟨2, ![512, 1024]⟩
abbrev S1x6x1024 : Shape := ⟨3, ![1, 6, 1024]⟩
abbrev S512x512 : Shape := ⟨2, ![512, 512]⟩
abbrev S512x256 : Shape := ⟨2, ![512, 256]⟩
abbrev S1x1x512x256 : Shape := ⟨4, ![1, 1, 512, 256]⟩
abbrev S512x1 : Shape := ⟨2, ![512, 1]⟩
abbrev S6x1024 : Shape := ⟨2, ![6, 1024]⟩
abbrev S512 : Shape := ⟨1, ![512]⟩
abbrev S8x4096x1024 : Shape := ⟨3, ![8, 4096, 1024]⟩

abbrev nBuf : Space → Nat
  | .hbm => 25
  | .vmem => 32
  | .smem => 0
  | _ => 0

abbrev bufTy : (tb : Table) → Fin (tcTables nBuf tb) → BufTy
  | .hbm, ⟨0, _⟩ => ⟨S2x8x24576x256, .i32⟩
  | .hbm, ⟨1, _⟩ => ⟨S24576x128, .f32⟩
  | .hbm, ⟨2, _⟩ => ⟨S24576x1024, .bf16⟩
  | .hbm, ⟨3, _⟩ => ⟨S24576x1024, .f32⟩
  | .hbm, ⟨4, _⟩ => ⟨S2x8x8192x256, .i32⟩
  | .hbm, ⟨5, _⟩ => ⟨S8192x128, .f32⟩
  | .hbm, ⟨6, _⟩ => ⟨S8192x1024, .bf16⟩
  | .hbm, ⟨7, _⟩ => ⟨S8192x1024, .f32⟩
  | .hbm, ⟨8, _⟩ => ⟨S8x6144, .f32⟩
  | .hbm, ⟨9, _⟩ => ⟨S1024x256, .f32⟩
  | .hbm, ⟨10, _⟩ => ⟨S1024x256, .f32⟩
  | .hbm, ⟨11, _⟩ => ⟨S256x1024, .f32⟩
  | .hbm, ⟨12, _⟩ => ⟨S1024, .f32⟩
  | .hbm, ⟨13, _⟩ => ⟨S1024, .f32⟩
  | .hbm, ⟨14, _⟩ => ⟨S1024x512, .f32⟩
  | .hbm, ⟨15, _⟩ => ⟨S1024x512, .bf16⟩
  | .hbm, ⟨16, _⟩ => ⟨S256x1024, .bf16⟩
  | .hbm, ⟨17, _⟩ => ⟨S8x6x1024, .f32⟩
  | .hbm, ⟨18, _⟩ => ⟨S1x1024, .f32⟩
  | .hbm, ⟨19, _⟩ => ⟨S1x1024, .f32⟩
  | .hbm, ⟨20, _⟩ => ⟨S32768x1024, .f32⟩
  | .hbm, ⟨21, _⟩ => ⟨S1x1024, .f32⟩
  | .hbm, ⟨22, _⟩ => ⟨S1x1024, .f32⟩
  | .hbm, ⟨23, _⟩ => ⟨S32768x1024, .f32⟩
  | .hbm, ⟨24, _⟩ => ⟨S8x4096x1024, .f32⟩
  | .local _ .vmem, ⟨0, _⟩ => ⟨S2x8x512x256, .i32⟩
  | .local _ .vmem, ⟨1, _⟩ => ⟨S2x8x512x256, .i32⟩
  | .local _ .vmem, ⟨2, _⟩ => ⟨S512x128, .f32⟩
  | .local _ .vmem, ⟨3, _⟩ => ⟨S512x128, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x6x1024, .f32⟩
  | .local _ .vmem, ⟨9, _⟩ => ⟨S1x6x1024, .f32⟩
  | .local _ .vmem, ⟨10, _⟩ => ⟨S1024x512, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S2x8x512x256, .i32⟩
  | .local _ .vmem, ⟨17, _⟩ => ⟨S2x8x512x256, .i32⟩
  | .local _ .vmem, ⟨18, _⟩ => ⟨S512x128, .f32⟩
  | .local _ .vmem, ⟨19, _⟩ => ⟨S512x128, .f32⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S1x6x1024, .f32⟩
  | .local _ .vmem, ⟨25, _⟩ => ⟨S1x6x1024, .f32⟩
  | .local _ .vmem, ⟨26, _⟩ => ⟨S1024x512, .bf16⟩
  | .local _ .vmem, ⟨27, _⟩ => ⟨S256x1024, .bf16⟩
  | .local _ .vmem, ⟨28, _⟩ => ⟨S1x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | _, _ => ⟨S2x8x24576x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![48], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let v0 : BitVec 32 := Scalar.addi c0_i32 arg0
  let c512_i32 : BitVec 32 := 512#32
  let v1 : BitVec 32 := Scalar.muli v0 c512_i32
  let c4096_i32 : BitVec 32 := 4096#32
  let v2 : BitVec 32 := Scalar.divsi v1 c4096_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4096_i32 c0_i32_2
  let v9 : BitVec 32 := Scalar.extui v8
  let c0_i32_3 : BitVec 32 := 0#32
  let v10 : BitVec 1 := Scalar.cmpi .slt c4096_i32 c0_i32_3
  let v11 : BitVec 32 := Scalar.extui v10
  let v12 : BitVec 32 := Scalar.subi v9 v11
  let v13 : BitVec 1 := Scalar.cmpi .ne v7 v12
  let v14 : BitVec 32 := Scalar.remsi v1 c4096_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2x8x512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c48_i32 : BitVec 32 := 48#32
  let v0 : BitVec 32 := Scalar.addi c48_i32 arg0
  let c512_i32 : BitVec 32 := 512#32
  let v1 : BitVec 32 := Scalar.muli v0 c512_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

abbrev stage1_0 : Fin 2 → Memref sig .tc .vmem S2x8x512x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x6x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== Reference4Ideal.lean ====
abbrev S2x8x24576x256 : Shape := ⟨4, ![2, 8, 24576, 256]⟩
abbrev S24576x128 : Shape := ⟨2, ![24576, 128]⟩
abbrev S24576x1024 : Shape := ⟨2, ![24576, 1024]⟩
abbrev S2x8x8192x256 : Shape := ⟨4, ![2, 8, 8192, 256]⟩
abbrev S8192x128 : Shape := ⟨2, ![8192, 128]⟩
abbrev S8192x1024 : Shape := ⟨2, ![8192, 1024]⟩
abbrev S8x6144 : Shape := ⟨2, ![8, 6144]⟩
abbrev S1024x256 : Shape := ⟨2, ![1024, 256]⟩
abbrev S256x1024 : Shape := ⟨2, ![256, 1024]⟩
abbrev S1024 : Shape := ⟨1, ![1024]⟩
abbrev S2x8x32768x256 : Shape := ⟨4, ![2, 8, 32768, 256]⟩
abbrev S_ : Shape := ⟨0, ![]⟩
abbrev S1x8x32768x256 : Shape := ⟨4, ![1, 8, 32768, 256]⟩
abbrev S8x32768x256 : Shape := ⟨3, ![8, 32768, 256]⟩
abbrev S8x32768x1024 : Shape := ⟨3, ![8, 32768, 1024]⟩
abbrev S32768x128 : Shape := ⟨2, ![32768, 128]⟩
abbrev S32768x8 : Shape := ⟨2, ![32768, 8]⟩
abbrev S32768x1024 : Shape := ⟨2, ![32768, 1024]⟩
abbrev S8x4096x1024 : Shape := ⟨3, ![8, 4096, 1024]⟩
abbrev S8x1024 : Shape := ⟨2, ![8, 1024]⟩
abbrev S8x1x1024 : Shape := ⟨3, ![8, 1, 1024]⟩
abbrev S8x32768 : Shape := ⟨2, ![8, 32768]⟩
abbrev S8x32768x1 : Shape := ⟨3, ![8, 32768, 1]⟩
abbrev S32768x256 : Shape := ⟨2, ![32768, 256]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x8x24576x256, .i32⟩
  | .hbm, ⟨1, _⟩ => ⟨S24576x128, .f32⟩
  | .hbm, ⟨2, _⟩ => ⟨S24576x1024, .bf16⟩
  | .hbm, ⟨3, _⟩ => ⟨S24576x1024, .f32⟩
  | .hbm, ⟨4, _⟩ => ⟨S2x8x8192x256, .i32⟩
  | .hbm, ⟨5, _⟩ => ⟨S8192x128, .f32⟩
  | .hbm, ⟨6, _⟩ => ⟨S8192x1024, .bf16⟩
  | .hbm, ⟨7, _⟩ => ⟨S8192x1024, .f32⟩
  | .hbm, ⟨8, _⟩ => ⟨S8x6144, .f32⟩
  | .hbm, ⟨9, _⟩ => ⟨S1024x256, .f32⟩
  | .hbm, ⟨10, _⟩ => ⟨S1024x256, .f32⟩
  | .hbm, ⟨11, _⟩ => ⟨S256x1024, .f32⟩
  | .hbm, ⟨12, _⟩ => ⟨S1024, .f32⟩
  | .hbm, ⟨13, _⟩ => ⟨S1024, .f32⟩
  | .hbm, ⟨14, _⟩ => ⟨S2x8x32768x256, .i32⟩
  | .hbm, ⟨15, _⟩ => ⟨S_, .i32⟩
  | .hbm, ⟨16, _⟩ => ⟨S2x8x32768x256, .i32⟩
  | .hbm, ⟨17, _⟩ => ⟨S2x8x32768x256, .i32⟩
  | .hbm, ⟨18, _⟩ => ⟨S_, .i32⟩
  | .hbm, ⟨19, _⟩ => ⟨S2x8x32768x256, .i32⟩
  | .hbm, ⟨20, _⟩ => ⟨S2x8x32768x256, .i32⟩
  | .hbm, ⟨21, _⟩ => ⟨S2x8x32768x256, .f32⟩
  | .hbm, ⟨22, _⟩ => ⟨S2x8x32768x256, .f32⟩
  | .hbm, ⟨23, _⟩ => ⟨S1x8x32768x256, .f32⟩
  | .hbm, ⟨24, _⟩ => ⟨S8x32768x256, .f32⟩
  | .hbm, ⟨25, _⟩ => ⟨S1x8x32768x256, .f32⟩
  | .hbm, ⟨26, _⟩ => ⟨S8x32768x256, .f32⟩
  | .hbm, ⟨27, _⟩ => ⟨S1x8x32768x256, .f32⟩
  | .hbm, ⟨28, _⟩ => ⟨S8x32768x256, .f32⟩
  | .hbm, ⟨29, _⟩ => ⟨S1x8x32768x256, .f32⟩
  | .hbm, ⟨30, _⟩ => ⟨S8x32768x256, .f32⟩
  | .hbm, ⟨31, _⟩ => ⟨S8x32768x1024, .f32⟩
  | .hbm, ⟨32, _⟩ => ⟨S32768x128, .f32⟩
  | .hbm, ⟨33, _⟩ => ⟨S32768x8, .f32⟩
  | .hbm, ⟨34, _⟩ => ⟨S32768x1024, .bf16⟩
  | .hbm, ⟨35, _⟩ => ⟨S32768x1024, .f32⟩
  | .hbm, ⟨36, _⟩ => ⟨S32768x1024, .f32⟩
  | .hbm, ⟨37, _⟩ => ⟨S8x4096x1024, .f32⟩
  | .hbm, ⟨38, _⟩ => ⟨S8x1024, .f32⟩
  | .hbm, ⟨39, _⟩ => ⟨S8x1x1024, .f32⟩
  | .hbm, ⟨40, _⟩ => ⟨S8x32768, .f32⟩
  | .hbm, ⟨41, _⟩ => ⟨S8x32768x1, .f32⟩
  | .hbm, ⟨42, _⟩ => ⟨S8x32768x1024, .f32⟩
  | .hbm, ⟨43, _⟩ => ⟨S8x32768x1024, .f32⟩
  | .hbm, ⟨44, _⟩ => ⟨S_, .f32⟩
  | .hbm, ⟨45, _⟩ => ⟨S32768x1024, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S_, .f32⟩
  | .hbm, ⟨50, _⟩ => ⟨S32768x256, .f32⟩
  | .hbm, ⟨51, _⟩ => ⟨S32768x256, .f32⟩
  | .hbm, ⟨52, _⟩ => ⟨S_, .f32⟩
  | .hbm, ⟨53, _⟩ => ⟨S32768x256, .f32⟩
  | .hbm, ⟨54, _⟩ => ⟨S32768x256, .f32⟩
  | .hbm, ⟨55, _⟩ => ⟨S32768x256, .f32⟩
  | .hbm, ⟨56, _⟩ => ⟨S32768x256, .f32⟩
  | .hbm, ⟨57, _⟩ => ⟨S32768x256, .f32⟩
  | .hbm, ⟨58, _⟩ => ⟨S32768x1024, .f32⟩
  | .hbm, ⟨59, _⟩ => ⟨S32768x1024, .f32⟩
  | .hbm, ⟨60, _⟩ => ⟨S8x4096x1024, .f32⟩
  | .hbm, ⟨61, _⟩ => ⟨S_, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S_, .f32⟩
  | .hbm, ⟨77, _⟩ => ⟨S8x4096, .f32⟩
  | .hbm, ⟨78, _⟩ => ⟨S8x4096x1, .f32⟩
  | .hbm, ⟨79, _⟩ => ⟨S_, .f32⟩
  | .hbm, ⟨80, _⟩ => ⟨S8x4096x1, .f32⟩
  | .hbm, ⟨81, _⟩ => ⟨S8x4096x1, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S8x4096x1, .f32⟩
  | .hbm, ⟨86, _⟩ => ⟨S8x4096x1024, .f32⟩
  | .hbm, ⟨87, _⟩ => ⟨S8x4096x1024, .f32⟩
  | .hbm, ⟨88, _⟩ => ⟨S1x1x1024, .f32⟩
  | .hbm, ⟨89, _⟩ => ⟨S8x4096x1024, .f32⟩
  | .hbm, ⟨90, _⟩ => ⟨S8x4096x1024, .f32⟩
  | .hbm, ⟨91, _⟩ => ⟨S1x1x1024, .f32⟩
  | .hbm, ⟨92, _⟩ => ⟨S8x4096x1024, .f32⟩
  | .hbm, ⟨93, _⟩ => ⟨S8x4096x1024, .f32⟩
  | _, _ => ⟨S2x8x24576x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_1 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_2 : Ref sig .tc := ⟨.hbm, 67, rfl⟩
abbrev main_v41 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_4 : Ref sig .tc := ⟨.hbm, 76, rfl⟩
abbrev main_v48 : Ref sig .tc := ⟨.hbm, 77, rfl⟩
abbrev main_v49 : Ref sig .tc := ⟨.hbm, 78, rfl⟩
abbrev main_cst_5 : Ref sig .tc := ⟨.hbm, 79, rfl⟩
abbrev main_v50 : Ref sig .tc := ⟨.hbm, 80, rfl⟩
abbrev main_v51 : Ref sig .tc := ⟨.hbm, 81, rfl⟩
abbrev main_cst_6 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Proof.Setup.lean ====
/-
  The gather kernel on the SparseCores: the names its proof uses. One call runs on 2 SparseCores × 16 vector subcores.
  Subcore `(c, i)` is worker `16 c + i`; it moves the 96 blocks of 128 output rows numbered `96 (16 c + i) + t`. Its index
  scratch and its row scratch have two slots each; trip `t` uses slot `t % 2` of both.
-/
module

public import proofs.«01_k».proof.Proof.Gen.Kernel
public import proofs.«01_k».proof.Proof.Gen.Kernel.Skeleton
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.ShareLeaves
public import Idealize.ShloMosaic.Lib.ValueLayout
public import Idealize.ShloMosaic.Lib.ValueIdxCore
public import Idealize.ShloMosaic.Lib.ViewIndex
public import Idealize.ShloMosaic.Lib.Tactic

@[expose] public section

noncomputable section

namespace Cert.Kernel.Pf

open Cert.Kernel Cert.Kernel.Gen

open Idealize.ShloMosaic
open Idealize.ShloMosaic.ValueIdx (ix1 ix2 ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ)

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

abbrev xV : Memref sig .scVector .hbm S524288x256 .i32 := Memref.whole main_arg0_scv
abbrev iV : Memref sig .scVector .hbm S1x393216 .i32 := Memref.whole main_arg1_scv
abbrev oV : Memref sig .scVector .hbm S393216x256 .i32 := Memref.whole main_v0_scv
abbrev sI : Memref sig .scVector .vmem S2x1x128 .i32 := Memref.whole cc0_scoped0
abbrev sO : Memref sig .scVector .vmem S2x128x256 .i32 := Memref.whole cc0_scoped2

theorem inbI (n : ℕ) : ∀ a, (![n % 2, 0, 0] : Fin 3 → ℕ) a + S1x1x128.size a ≤ S2x1x128.size a := by
  have h := Nat.mod_lt n (show 0 < 2 by decide)
  intro a; match a with
  | 0 => show n % 2 + 1 ≤ 2; omega
  | 1 => show 0 + 1 ≤ 1; omega
  | 2 => show 0 + 128 ≤ 128; omega
theorem inbO (n : ℕ) : ∀ a, (![n % 2, 0, 0] : Fin 3 → ℕ) a + S1x128x256.size a ≤ S2x128x256.size a := by
  have h := Nat.mod_lt n (show 0 < 2 by decide)
  intro a; match a with
  | 0 => show n % 2 + 1 ≤ 2; omega
  | 1 => show 0 + 128 ≤ 128; omega
  | 2 => show 0 + 256 ≤ 256; omega
theorem inbS (n : ℕ) : ∀ a, (![n % 2] : Fin 1 → ℕ) a + S1.size a ≤ S2.size a := by
  have h := Nat.mod_lt n (show 0 < 2 by decide)
  intro a; match a with
  | 0 => show n % 2 + 1 ≤ 2; omega
theorem inbRow {b : ℕ} (hb : b < 3072) : ∀ a, (![128 * b, 0] : Fin 2 → ℕ) a + S128x256.size a ≤ S393216x256.size a := by
  intro a; match a with
  | 0 => show 128 * b + 128 ≤ 393216; omega
  | 1 => show 0 + 256 ≤ 256; omega
theorem inbCol {c : ℕ} (hc : c + 128 ≤ 256) : ∀ a, (![0, c] : Fin 2 → ℕ) a + S128x128.size a ≤ S128x256.size a := by
  intro a; match a with
  | 0 => show 0 + 128 ≤ 128; omega
  | 1 => show c + 128 ≤ 256; omega
theorem inbColX {c : ℕ} (hc : c + 128 ≤ 256) : ∀ a, (![0, c] : Fin 2 → ℕ) a + S524288x128.size a ≤ S524288x256.size a := by
  intro a; match a with
  | 0 => show 0 + 524288 ≤ 524288; omega
  | 1 => show c + 128 ≤ 256; omega

/-- Slot `n % 2` of the index scratch, of the row scratch, and their semaphores. -/
abbrev slotI (n : ℕ) : Memref sig .scVector .vmem S1x128 .i32 :=
  (sI.slice (Rect.unit (s := S2x1x128) ![n % 2, 0, 0] S1x1x128.size (inbI n)) (fun _ => rfl)).squeeze S1x128 squeezes_S1x1x128_S1x128
abbrev slotO (n : ℕ) : Memref sig .scVector .vmem S128x256 .i32 :=
  (sO.slice (Rect.unit (s := S2x128x256) ![n % 2, 0, 0] S1x128x256.size (inbO n)) (fun _ => rfl)).squeeze S128x256 squeezes_S1x128x256_S128x256
abbrev semI (n : ℕ) : DmaSem sig := ((cc0_scoped1.slice (Rect.unit (s := S2) ![n % 2] S1.size (inbS n))).squeeze S_ squeezes_S1_S_).sem
abbrev semO (n : ℕ) : DmaSem sig := ((cc0_scoped3.slice (Rect.unit (s := S2) ![n % 2] S1.size (inbS n))).squeeze S_ squeezes_S1_S_).sem
/-- Block `b` of the output: its rows `128 b … 128 b + 127`. -/
abbrev oBlk {b : ℕ} (hb : b < 3072) : Memref sig .scVector .hbm S128x256 .i32 :=
  oV.slice (Rect.unit (s := S393216x256) ![128 * b, 0] S128x256.size (inbRow hb)) (fun _ => rfl)

/-- The output's rows from `a` up to `b`. -/
def rowsIn (a b : ℕ) : Finset S393216x256.Idx := Finset.univ.filter fun i => a ≤ (i 0).val ∧ (i 0).val < b

theorem mem_rowsIn {a b : ℕ} {i : S393216x256.Idx} : i ∈ rowsIn a b ↔ a ≤ (i 0).val ∧ (i 0).val < b := by simp [rowsIn]

theorem rowsIn_disjoint {a b c e : ℕ} (h : b ≤ c) : Disjoint (rowsIn a b) (rowsIn c e) :=
  Finset.disjoint_left.mpr fun i hi hj => by have := mem_rowsIn.mp hi; have := mem_rowsIn.mp hj; omega

theorem rowsIn_union {a b c : ℕ} (h : a ≤ b) (h' : b ≤ c) : rowsIn a b ∪ rowsIn b c = rowsIn a c := by
  ext i; rw [Finset.mem_union, mem_rowsIn, mem_rowsIn, mem_rowsIn]; omega

theorem rowsIn_empty (a : ℕ) : rowsIn a a = ∅ := by
  ext i; rw [mem_rowsIn]; exact ⟨fun h => absurd h (by omega), fun h => absurd h (Finset.notMem_empty i)⟩

theorem rowsIn_all : rowsIn 0 393216 = Finset.univ := by
  ext i; rw [mem_rowsIn]; exact ⟨fun _ => Finset.mem_univ _, fun _ => ⟨Nat.zero_le _, (i 0).isLt⟩⟩

theorem set_oBlk {b : ℕ} (hb : b < 3072) : (oBlk hb).view.set = rowsIn (128 * b) (128 * b + 128) := by
  show ((View.whole (main_v0_scv : Ref sig .scVector)).slice _).set = _
  rw [View.set_slice]
  refine Eq.trans Finset.map_refl ?_
  ext i
  rw [Rect.mem_set_unit, mem_rowsIn]
  constructor
  · intro h; exact h 0
  · intro h a; match a with
    | 0 => exact h
    | 1 => exact ⟨Nat.zero_le _, by show (i 1).val < 0 + 256; have : (i 1).val < 256 := (i 1).isLt; omega⟩

/-! ## The values -/

/-- Word `r` of the index list. -/
def idxw (d : Dev nD) (r : ℕ) : BitVec 32 := if h : r < 393216 then m (iLoc d) (ix2 (n0 := 1) (n1 := 393216) 0 ⟨r, h⟩) else 0#32
/-- The row of `x` a word names (clamped to the last row, which a word in range never needs). -/
def rowOf (w : BitVec 32) : Fin 524288 := ⟨min w.toNat 524287, by omega⟩
/-- Element `(r, c)` of the result: `x` at the row that word `r` of the list names. -/
def gw (d : Dev nD) (r : ℕ) (c : Fin 256) : Elt F .i32 := m (xLoc d) (ix2 (n0 := 524288) (n1 := 256) (rowOf (idxw m d r)) c)
/-- The result. -/
def G (d : Dev nD) : Buf (Elt F) (oLoc d) := fun i => gw m d ((i 0).val) (i 1)

/-- What the proof asks of the launch memory: every word of the index list is a row of `x`. -/
def PreOK : Prop := ∀ (d : Dev nD) (j : S1x393216.Idx), (m (iLoc d) j).toNat < 524288

theorem idxw_lt (hpre : PreOK m) (d : Dev nD) (r : ℕ) : (idxw m d r).toNat < 524288 := by
  unfold idxw; split
  · exact hpre d _
  · decide

theorem rowOf_val (hpre : PreOK m) (d : Dev nD) (r : ℕ) : (rowOf (idxw m d r)).val = (idxw m d r).toNat := by
  have := idxw_lt m hpre d r; show min _ _ = _; omega

end Cert.Kernel.Pf

end
-- ==== Proof.Steps.lean ====
/-
  The kernel's operations one at a time: what each needs of a subcore's slots, semaphores and shares, and what it gives
  back. The offsets stand as the program writes them (`o`), with an equation to their numbers.
-/
module

public import proofs.«01_k».proof.Proof.Setup

@[expose] public section

noncomputable section

namespace Cert.Kernel.Pf

open Cert.Kernel Cert.Kernel.Gen

open Idealize.ShloMosaic
open Idealize.ShloMosaic.ValueIdx (ix1 ix2 ix3)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
/-- The subcore the body runs on. -/
abbrev thr : Thread nD τ := V d (cV L) (jV L)

local notation "WP" => wp frame (wpE (defs₀ (F := F)) 𝒱₀ (thr d L) none) Set.univ

abbrev sIloc : Loc nD τ sig := (thr d L).loc cc0_scoped0
abbrev sOloc : Loc nD τ sig := (thr d L).loc cc0_scoped2

/-! ## What a slot holds -/

/-- Slot `n % 2` of the index scratch, at some contents. -/
def IFree (n : ℕ) : sProp 𝕄 := iprop(∃ f, sIloc d L ↦[(slotI n).view.set]{fullShare} f)
/-- The slot holding block `b` of the index list. -/
def IHas (n b : ℕ) : sProp 𝕄 :=
  iprop(∃ f, ⌜∀ k : Fin 128, (slotI n).view.read (Elt F) f (ix2 0 k) = idxw m d (128 * b + k.val)⌝ ∗ sIloc d L ↦[(slotI n).view.set]{fullShare} f)
/-- Slot `n % 2` of the row scratch, at some contents. -/
def OFree (n : ℕ) : sProp 𝕄 := iprop(∃ f, sOloc d L ↦[(slotO n).view.set]{fullShare} f)
/-- The slot with its columns below `c₀` holding block `b` of the result. -/
def OHas (n b c₀ : ℕ) : sProp 𝕄 :=
  iprop(∃ f, ⌜∀ (r : Fin 128) (c : Fin 256), c.val < c₀ → (slotO n).view.read (Elt F) f (ix2 r c) = gw m d (128 * b + r.val) c⌝
    ∗ sOloc d L ↦[(slotO n).view.set]{fullShare} f)

/-- The credit of a block's copy-out. -/
abbrev NO : ℕ := (oBlk (b := 0) (by decide)).view.dmaCredit

/-- The index fetch of block `b` in flight, and the copy-out of block `b`. -/
def FetchFl (n b : ℕ) (q : PosShare TreeShare) : sProp 𝕄 :=
  Transfers.Flight countersEmb (thr d L) (.dma (semI n)) (default : HIx 1) (slotI n).view.dmaCredit iprop(IHas m d L n b ∗ iLoc d ↦{q} m (iLoc d))
def PutFl (n b : ℕ) : sProp 𝕄 :=
  Transfers.Flight countersEmb (thr d L) (.dma (semO n)) (default : HIx 1) NO
    iprop((oLoc d ↦[rowsIn (128 * b) (128 * b + 128)]{fullShare} G m d) ∗ OFree d L n)

theorem IHas_free (n b : ℕ) : IHas m d L n b ⊢ (IFree d L n : sProp 𝕄) := by
  unfold IHas IFree; iintro ⟨%f, -, H⟩; iexists f; iexact H
theorem OFree_has (n b : ℕ) : OFree d L n ⊢ (OHas m d L n b 0 : sProp 𝕄) := by
  unfold OHas OFree; iintro ⟨%f, H⟩; iexists f; isplitr
  · ipureintro; intro r c h; omega
  · iexact H

/-! ## Reads -/

theorem read_iBlk {b : ℕ} (hb : b < 3072) (h : ∀ a, (![0, 128 * b] : Fin 2 → ℕ) a + S1x128.size a ≤ S1x393216.size a)
    (k : Fin 128) : (iV.slice (Rect.unit (s := S1x393216) ![0, 128 * b] S1x128.size h) (fun _ => rfl)).view.read (Elt F) (m (iLoc d)) (ix2 0 k)
      = idxw m d (128 * b + k.val) := by
  have hk := k.isLt
  refine (View.read_apply _ _).trans ((cast_eq _ _).trans ?_)
  rw [idxw, dif_pos (show 128 * b + k.val < 393216 by omega)]
  refine congrArg (m (iLoc d)) (funext fun a => Fin.ext ?_)
  match a with
  | 0 => rfl
  | 1 => show 128 * b + 1 * k.val = 128 * b + k.val; omega

/-- The list as the stream reads it: entry `k` is word `k` of the slot's block. -/
theorem read_list (n : ℕ) (fo : Buf (Elt F) (sIloc d L)) (h : ∀ a, (![0, 0] : Fin 2 → ℕ) a + S1x128.size a ≤ S1x128.size a) (x : S128.Idx) :
    (((slotI n).slice (Rect.unit (s := S1x128) ![0, 0] S1x128.size h) (fun _ => rfl)).squeeze S128 squeezes_S1x128_S128).view.read (Elt F) fo x
      = (slotI n).view.read (Elt F) fo (ix2 0 (x 0)) := by
  show (slotI n).view.read (Elt F) fo ((Rect.unit (s := S1x128) ![0, 0] S1x128.size h).emb (Shape.reshapeEquiv _ x)) = _
  refine congrArg _ ?_
  rw [Shape.reshapeEquiv_cons_one]
  funext a; apply Fin.ext
  match a with
  | 0 => rfl
  | 1 => show 0 + 1 * (x 0).val = _; rw [Nat.one_mul, Nat.zero_add]

/-! ## The index fetch -/

theorem wp_fetch {n b : ℕ} (hb : b < 3072) {q : PosShare TreeShare} {o4 : Fin 3 → ℕ} {o5 : Fin 2 → ℕ} {o6 : Fin 1 → ℕ}
    {h4 h5 h6 : _} (e4 : o4 = ![n % 2, 0, 0]) (e5 : o5 = ![0, 128 * b]) (e6 : o6 = ![n % 2]) {hsrc hdst hsem : _} {α : Type} {k : PUnit → Prog (TpuEff nD τ sig (Elt F) Λ₀ (thr d L).2) α} {Q : α → sProp 𝕄} :
    iprop(IFree d L n ∗ (iLoc d ↦{q} m (iLoc d)) ∗ semVal (thr d L, SemLoc.dma (semI n)) 0)
      ⊢ iprop((FetchFl m d L n b q -∗ WP (k ⟨⟩) Q)
        -∗ WP (.op (.enqueueDma (iV.slice (Rect.unit (s := S1x393216) o5 S1x128.size h5) (fun _ => rfl))
            (.here ((sI.slice (Rect.unit (s := S2x1x128) o4 S1x1x128.size h4) (fun _ => rfl)).squeeze S1x128 squeezes_S1x1x128_S1x128))
            (.dma ((cc0_scoped1.slice (Rect.unit (s := S2) o6 S1.size h6)).squeeze S_ squeezes_S1_S_).sem) hsrc hdst hsem) k) Q) := by
  subst e4 e5 e6
  unfold IFree FetchFl
  iintro ⟨⟨%f, Hs⟩, Hi, Hv⟩ Hk
  iapply (Transfers.wp_dmaFromWhole countersEmb 𝒱₀ (thr d L) none (default : HIx 1) (slotI n).view.dmaCredit rfl
    (View.dmaCredit_pos _ (by decide)) subset_rfl) $$ [Hi Hs Hv]
  · isplitl [Hi]; · iexact Hi
    isplitl [Hs]; · iexact Hs
    iexact Hv
  iintro Hf
  iapply Hk
  iapply (Transfers.Flight_mono countersEmb (thr d L) ?_) $$ Hf
  unfold IHas
  iintro ⟨Hd, Hs⟩
  isplitl [Hd]
  · iexists _; isplitr
    swap; · iexact Hd
    ipureintro; intro j
    rw [View.read_write_univ]
    exact read_iBlk m d hb _ j
  iexact Hs

theorem wp_fetched {n b : ℕ} {q : PosShare TreeShare} {O : CellTallies nD τ sig (HIx 1)} {W : Waits sig (HIx 1)} {o7 : Fin 3 → ℕ} {o8 : Fin 2 → ℕ} {o9 : Fin 1 → ℕ}
    {h7 h8 h9 : _} (e7 : o7 = ![n % 2, 0, 0]) (e9 : o9 = ![n % 2]) {hsrc hdst : _} {α : Type} {k : PUnit → Prog (TpuEff nD τ sig (Elt F) Λ₀ (thr d L).2) α} {Q : α → sProp 𝕄} :
    iprop(FetchFl m d L n b q ∗ owes (thr d L) O W ∗ Transfers.MayWaits (thr d L) (default : HIx 1) O)
      ⊢ iprop((IHas m d L n b ∗ (iLoc d ↦{q} m (iLoc d)) ∗ semVal (thr d L, SemLoc.dma (semI n)) 0
            ∗ owes (thr d L) O (insert (SemLoc.dma (semI n), (default : HIx 1)) W) -∗ WP (k ⟨⟩) Q)
        -∗ WP (.op (.waitDma2 ((cc0_scoped1.slice (Rect.unit (s := S2) o9 S1.size h9)).squeeze S_ squeezes_S1_S_).sem
            (iV.slice (Rect.unit (s := S1x393216) o8 S1x128.size h8) (fun _ => rfl))
            ((sI.slice (Rect.unit (s := S2x1x128) o7 S1x1x128.size h7) (fun _ => rfl)).squeeze S1x128 squeezes_S1x1x128_S1x128) hsrc hdst) k) Q) := by
  subst e7 e9
  unfold FetchFl
  iintro ⟨Hf, HO, Hmw⟩ Hk
  iapply (Transfers.wp_waitLocalO countersEmb 𝒱₀ (thr d L) none (default : HIx 1) (rfl : (slotI n).view.dmaCredit = _)) $$ [Hf HO Hmw]
  · isplitl [Hf]; · iexact Hf
    isplitl [HO]; · iexact HO
    iapply (Transfers.MayWaits.elim (SemLoc.dma (semI n))) $$ Hmw
  iintro ⟨⟨Hs, Hi⟩, Hv, HO⟩
  iapply Hk
  isplitl [Hs]; · iexact Hs
  isplitl [Hi]; · iexact Hi
  isplitl [Hv]; · iexact Hv
  iexact HO

/-! ## The copy-out -/

theorem idx_ext2 {n₀ n₁ : ℕ} {i j : (⟨2, ![n₀, n₁]⟩ : Shape).Idx} (h₀ : (i 0).val = (j 0).val) (h₁ : (i 1).val = (j 1).val) : i = j := by
  funext a; apply Fin.ext
  match a with
  | 0 => exact h₀
  | 1 => exact h₁

theorem emb0_oBlk {b : ℕ} (hb : b < 3072) (j : S128x256.Idx) : ((oBlk hb).view.emb j (0 : Fin 2)).val = 128 * b + (j 0).val := by
  show 128 * b + 1 * (j 0).val = _; rw [Nat.one_mul]
theorem emb1_oBlk {b : ℕ} (hb : b < 3072) (j : S128x256.Idx) : ((oBlk hb).view.emb j (1 : Fin 2)).val = (j 1).val := by
  show 0 + 1 * (j 1).val = _; rw [Nat.one_mul, Nat.zero_add]

theorem put_delivers {n b : ℕ} (hb : b < 3072) (f : Buf (Elt F) (sOloc d L)) (fo : Buf (Elt F) (oLoc d))
    (hf : ∀ (r : Fin 128) (c : Fin 256), c.val < 256 → (slotO n).view.read (Elt F) f (ix2 r c) = gw m d (128 * b + r.val) c) :
    ∀ i ∈ rowsIn (128 * b) (128 * b + 128), (oBlk hb).view.write (Elt F) fo ((slotO n).view.read (Elt F) f) Finset.univ i = G m d i := by
  intro i hi
  have hi' := mem_rowsIn.mp hi
  have hc : (i 1).val < 256 := (i 1).isLt
  have e : i = (oBlk hb).view.emb (ix2 (⟨(i 0).val - 128 * b, by omega⟩ : Fin 128) (⟨(i 1).val, hc⟩ : Fin 256)) := by
    refine idx_ext2 ?_ ?_
    · rw [emb0_oBlk]; show (i 0).val = 128 * b + ((i 0).val - 128 * b); omega
    · rw [emb1_oBlk]
  refine (congrArg _ e).trans ((View.write_emb_of_mem (v := (oBlk hb).view) _ _ (Finset.mem_univ _)).trans ((cast_eq _ _).trans ?_))
  refine (hf _ _ hc).trans ?_
  unfold G
  show gw m d (128 * b + ((i 0).val - 128 * b)) _ = _
  rw [show 128 * b + ((i 0).val - 128 * b) = (i 0).val by omega]

theorem wp_put {n b : ℕ} (hb : b < 3072) {o12 : Fin 3 → ℕ} {o13 : Fin 2 → ℕ} {o14 : Fin 1 → ℕ} {fo : Buf (Elt F) (oLoc d)}
    {h12 h13 h14 : _} (e12 : o12 = ![n % 2, 0, 0]) (e13 : o13 = ![128 * b, 0]) (e14 : o14 = ![n % 2]) {hsrc hdst hsem : _} {α : Type} {k : PUnit → Prog (TpuEff nD τ sig (Elt F) Λ₀ (thr d L).2) α} {Q : α → sProp 𝕄} :
    iprop(OHas m d L n b 256 ∗ (oLoc d ↦[rowsIn (128 * b) (128 * b + 128)]{fullShare} fo) ∗ semVal (thr d L, SemLoc.dma (semO n)) 0)
      ⊢ iprop((PutFl m d L n b -∗ WP (k ⟨⟩) Q)
        -∗ WP (.op (.enqueueDma ((sO.slice (Rect.unit (s := S2x128x256) o12 S1x128x256.size h12) (fun _ => rfl)).squeeze S128x256 squeezes_S1x128x256_S128x256)
            (.here (oV.slice (Rect.unit (s := S393216x256) o13 S128x256.size h13) (fun _ => rfl)))
            (.dma ((cc0_scoped3.slice (Rect.unit (s := S2) o14 S1.size h14)).squeeze S_ squeezes_S1_S_).sem) hsrc hdst hsem) k) Q) := by
  subst e12 e13 e14
  unfold OHas PutFl
  iintro ⟨⟨%f, %hf, Hs⟩, Ho, Hv⟩ Hk
  iapply (Transfers.wp_dmaLocal countersEmb 𝒱₀ (thr d L) none (default : HIx 1) NO rfl
    (View.dmaCredit_pos _ (by decide)) (Sd := rowsIn (128 * b) (128 * b + 128)) (set_oBlk hb).subset) $$ [Ho Hs Hv]
  · isplitl [Hs]; · iexact Hs
    isplitl [Ho]; · iexact Ho
    iexact Hv
  iintro Hf
  iapply Hk
  iapply (Transfers.Flight_mono countersEmb (thr d L) ?_) $$ Hf
  unfold OFree
  iintro ⟨Hd, Hs⟩
  isplitl [Hd]
  · iapply (Entails.of_eq (pointsTo_congr (put_delivers m d L hb f fo hf))); iexact Hd
  iexists f; iexact Hs

theorem wp_putDone {n b : ℕ} {O : CellTallies nD τ sig (HIx 1)} {W : Waits sig (HIx 1)} {o15 : Fin 3 → ℕ} {o16 : Fin 2 → ℕ} {o17 : Fin 1 → ℕ}
    {h15 h16 h17 : _} (e17 : o17 = ![n % 2]) {hsrc hdst : _} {α : Type} {k : PUnit → Prog (TpuEff nD τ sig (Elt F) Λ₀ (thr d L).2) α} {Q : α → sProp 𝕄} :
    iprop(PutFl m d L n b ∗ owes (thr d L) O W ∗ Transfers.MayWaits (thr d L) (default : HIx 1) O)
      ⊢ iprop(((oLoc d ↦[rowsIn (128 * b) (128 * b + 128)]{fullShare} G m d) ∗ OFree d L n ∗ semVal (thr d L, SemLoc.dma (semO n)) 0
            ∗ owes (thr d L) O (insert (SemLoc.dma (semO n), (default : HIx 1)) W) -∗ WP (k ⟨⟩) Q)
        -∗ WP (.op (.waitDma2 ((cc0_scoped3.slice (Rect.unit (s := S2) o17 S1.size h17)).squeeze S_ squeezes_S1_S_).sem
            ((sO.slice (Rect.unit (s := S2x128x256) o15 S1x128x256.size h15) (fun _ => rfl)).squeeze S128x256 squeezes_S1x128x256_S128x256)
            (oV.slice (Rect.unit (s := S393216x256) o16 S128x256.size h16) (fun _ => rfl)) hsrc hdst) k) Q) := by
  subst e17
  unfold PutFl
  iintro ⟨Hf, HO, Hmw⟩ Hk
  iapply (Transfers.wp_waitLocalO countersEmb 𝒱₀ (thr d L) none (default : HIx 1) (rfl : (oV.slice (Rect.unit (s := S393216x256) o16 S128x256.size h16) (fun _ => rfl)).view.dmaCredit = NO)) $$ [Hf HO Hmw]
  · isplitl [Hf]; · iexact Hf
    isplitl [HO]; · iexact HO
    iapply (Transfers.MayWaits.elim (SemLoc.dma (semO n))) $$ Hmw
  iintro ⟨⟨Hs, Hi⟩, Hv, HO⟩
  iapply Hk
  isplitl [Hs]; · iexact Hs
  isplitl [Hi]; · iexact Hi
  isplitl [Hv]; · iexact Hv
  iexact HO

/-! ## One half of the gather: 128 columns from `c₀` -/

/-- The list's words are rows of `x`. -/
theorem list_inb (hpre : PreOK m) {n b : ℕ} {fo : Buf (Elt F) (sIloc d L)} (hfo : ∀ k : Fin 128, (slotI n).view.read (Elt F) fo (ix2 0 k) = idxw m d (128 * b + k.val))
    (h : ∀ a, (![0, 0] : Fin 2 → ℕ) a + S1x128.size a ≤ S1x128.size a) :
    ∀ x, ((((slotI n).slice (Rect.unit (s := S1x128) ![0, 0] S1x128.size h) (fun _ => rfl)).squeeze S128 squeezes_S1x128_S128).view.read (Elt F) fo x).toNat
      < S524288x128.size gathers_S524288x128_S128x128.axis := by
  intro x
  rw [read_list]
  exact lt_of_eq_of_lt (congrArg BitVec.toNat (hfo _)) (idxw_lt m hpre d _)

/-- The columns of the slot one half writes. -/
abbrev slotC (n : ℕ) {c₀ : ℕ} (hc : c₀ + 128 ≤ 256) : Memref sig .scVector .vmem S128x128 .i32 :=
  (slotO n).slice (Rect.unit (s := S128x256) ![0, c₀] S128x128.size (inbCol hc)) (fun _ => rfl)

theorem slotC_subset (n : ℕ) {c₀ : ℕ} (hc : c₀ + 128 ≤ 256) : (slotC n hc).view.set ⊆ (slotO n).view.set := by
  show ((slotO n).view.slice _).set ⊆ _
  rw [View.set_slice]
  intro i hi
  obtain ⟨j, -, rfl⟩ := Finset.mem_map.mp hi
  exact Finset.mem_map.mpr ⟨j, Finset.mem_univ _, rfl⟩

/-- What the slot reads after a half lands: the result in the half's columns, what it had elsewhere. -/
theorem half_reads (hpre : PreOK m) {n b c₀ : ℕ} (hc : c₀ + 128 ≤ 256) (f : Buf (Elt F) (sOloc d L))
    (hf : ∀ (r : Fin 128) (c : Fin 256), c.val < c₀ → (slotO n).view.read (Elt F) f (ix2 r c) = gw m d (128 * b + r.val) c)
    {fo : Buf (Elt F) (sIloc d L)} (hfo : ∀ k : Fin 128, (slotI n).view.read (Elt F) fo (ix2 0 k) = idxw m d (128 * b + k.val))
    (h : ∀ a, (![0, 0] : Fin 2 → ℕ) a + S1x128.size a ≤ S1x128.size a) (r : Fin 128) (c : Fin 256) (hcc : c.val < c₀ + 128) :
    (slotO n).view.read (Elt F) ((slotC n hc).view.write (Elt F) f (SparseCore.gatherPayload gathers_S524288x128_S128x128
        ((xV.slice (Rect.unit (s := S524288x256) ![0, c₀] S524288x128.size (inbColX hc)) (fun _ => rfl)).view.read (Elt F) (m (xLoc d)))
        (SparseCore.rows ((((slotI n).slice (Rect.unit (s := S1x128) ![0, 0] S1x128.size h) (fun _ => rfl)).squeeze S128 squeezes_S1x128_S128).view.read (Elt F) fo)
          rfl (list_inb m d L hpre hfo h))) Finset.univ) (ix2 r c) = gw m d (128 * b + r.val) c := by
  by_cases hlt : c.val < c₀
  · refine (View.read_slice_write_of_not_mem (v := (slotO n).view) _ _ _ _ ?_).trans (hf r c hlt)
    intro hm
    obtain ⟨j, -, e⟩ := Finset.mem_map.mp hm
    have e1 := congrArg Fin.val (congrFun e 1)
    have : c₀ + 1 * (j 1).val = c.val := e1
    omega
  · have hcv : c.val - c₀ < 128 := by omega
    have e : (ix2 r c : S128x256.Idx) = (Rect.unit (s := S128x256) ![0, c₀] S128x128.size (inbCol hc)).emb (ix2 r (⟨c.val - c₀, hcv⟩ : Fin 128)) := by
      funext a; apply Fin.ext
      match a with
      | 0 => show r.val = 0 + 1 * r.val; omega
      | 1 => show c.val = c₀ + 1 * (c.val - c₀); omega
    rw [e]
    refine (View.read_slice_write_emb (v := (slotO n).view) _ _ _ (Finset.mem_univ _)).trans ?_
    unfold SparseCore.gatherPayload
    refine (View.read_apply _ _).trans ((cast_eq _ _).trans ?_)
    unfold gw
    refine congrArg (m (xLoc d)) (funext fun a => Fin.ext ?_)
    match a with
    | 0 =>
      refine Eq.trans ?_ (rowOf_val m hpre d _).symm
      show 0 + 1 * (_ : Fin 524288).val = _
      rw [Nat.zero_add, Nat.one_mul]
      have := Shape.Gathers.idx_axis gathers_S524288x128_S128x128 (SparseCore.rows ((((slotI n).slice (Rect.unit (s := S1x128) ![0, 0] S1x128.size h) (fun _ => rfl)).squeeze S128 squeezes_S1x128_S128).view.read (Elt F) fo)
          rfl (list_inb m d L hpre hfo h)) (ix2 r (⟨c.val - c₀, hcv⟩ : Fin 128))
      refine (congrArg Fin.val this).trans ?_
      refine (congrArg BitVec.toNat ((read_list d L n fo h _).trans (hfo _))).trans ?_
      refine congrArg (fun n => (idxw m d (128 * b + n)).toNat) ?_
      have hk : ∀ k : Fin 128, ((S128.rowMajor.symm k) 0).val = k.val := by decide +kernel
      exact hk _
    | 1 =>
      show c₀ + 1 * (_ : Fin 128).val = c.val
      rw [Nat.one_mul]
      have := Shape.Gathers.idx_of_ne gathers_S524288x128_S128x128 (SparseCore.rows ((((slotI n).slice (Rect.unit (s := S1x128) ![0, 0] S1x128.size h) (fun _ => rfl)).squeeze S128 squeezes_S1x128_S128).view.read (Elt F) fo)
          rfl (list_inb m d L hpre hfo h)) (ix2 r (⟨c.val - c₀, hcv⟩ : Fin 128)) 1 (by decide)
      rw [show _ = c.val - c₀ from this]
      omega

theorem wp_half (hpre : PreOK m) {n b c₀ : ℕ} (hc : c₀ + 128 ≤ 256) {q : PosShare TreeShare} {sm : DmaSem sig} {O : CellTallies nD τ sig (HIx 1)} {W : Waits sig (HIx 1)}
    {o10 o10' o11 : Fin 3 → ℕ} {h10 h10' h11 hX hX' hC hC' hL hn hp he hsp hr : _} (e10 : o10 = ![n % 2, 0, 0]) (e11 : o11 = ![n % 2, 0, 0]) (e10' : o10' = ![n % 2, 0, 0])
    {hsrc hsrc' hdst' : _} {α : Type} {k : PUnit → Prog (TpuEff nD τ sig (Elt F) Λ₀ (thr d L).2) α} {Q : α → sProp 𝕄} :
    iprop(IHas m d L n b ∗ OHas m d L n b c₀ ∗ (xLoc d ↦{q} m (xLoc d)) ∗ semVal (thr d L, SemLoc.dma sm) 0
        ∗ owes (thr d L) O W ∗ Transfers.MayWaits (thr d L) (default : HIx 1) O)
      ⊢ iprop((IHas m d L n b ∗ OHas m d L n b (c₀ + 128) ∗ (xLoc d ↦{q} m (xLoc d)) ∗ semVal (thr d L, SemLoc.dma sm) 0
            ∗ owes (thr d L) O (insert (SemLoc.dma sm, (default : HIx 1)) W) -∗ WP (k ⟨⟩) Q)
        -∗ WP (SparseCore.enqueueIndirectGather (p := (thr d L).2) hp (xV.slice (Rect.unit (s := S524288x256) ![0, c₀] S524288x128.size hX) (fun _ => rfl))
              (((sO.slice (Rect.unit (s := S2x128x256) o10 S1x128x256.size h10) (fun _ => rfl)).squeeze S128x256 squeezes_S1x128x256_S128x256).slice
                (Rect.unit (s := S128x256) ![0, c₀] S128x128.size hC) (fun _ => rfl))
              gathers_S524288x128_S128x128
              ((((sI.slice (Rect.unit (s := S2x1x128) o11 S1x1x128.size h11) (fun _ => rfl)).squeeze S1x128 squeezes_S1x1x128_S1x128).slice
                (Rect.unit (s := S1x128) ![0, 0] S1x128.size hL) (fun _ => rfl)).squeeze S128 squeezes_S1x128_S128)
              hn sm hsrc he hsp hr >>= fun _ =>
            SparseCore.waitIndirectGather (p := (thr d L).2) sm (xV.slice (Rect.unit (s := S524288x256) ![0, c₀] S524288x128.size hX') (fun _ => rfl))
              (((sO.slice (Rect.unit (s := S2x128x256) o10' S1x128x256.size h10') (fun _ => rfl)).squeeze S128x256 squeezes_S1x128x256_S128x256).slice
                (Rect.unit (s := S128x256) ![0, c₀] S128x128.size hC') (fun _ => rfl)) hsrc' hdst' >>= k) Q) := by
  subst e10 e11 e10'
  unfold IHas OHas
  iintro ⟨⟨%fo, %hfo, Hi⟩, ⟨%f, %hf, Ho⟩, Hx, Hv, HO, Hmw⟩ Hk
  ihave ⟨Hx, Hxr⟩ := (pointsTo_split_subset (q := q) (f := m (xLoc d)) (S := Finset.univ)
    (Finset.subset_univ (xV.slice (Rect.unit (s := S524288x256) ![0, c₀] S524288x128.size (inbColX hc)) (fun _ => rfl)).view.set)).1 $$ Hx
  ihave ⟨Ho, Hor⟩ := (pointsTo_split_subset (slotC_subset n hc)).1 $$ Ho
  have hset : ((((slotI n).slice (Rect.unit (s := S1x128) ![0, 0] S1x128.size hL) (fun _ => rfl)).squeeze S128 squeezes_S1x128_S128)).view.set
      = (slotI n).view.set := by
    show (((slotI n).view.slice _).reshape S128 _).set = _
    rw [View.set_reshape, View.set_slice]
    ext i
    constructor
    · intro hi
      obtain ⟨j, -, rfl⟩ := Finset.mem_map.mp hi
      exact Finset.mem_map.mpr ⟨j, Finset.mem_univ _, rfl⟩
    · intro hi
      obtain ⟨j, -, rfl⟩ := Finset.mem_map.mp hi
      refine Finset.mem_map.mpr ⟨j, ?_, rfl⟩
      rw [Rect.mem_set_unit]
      intro a; match a with
      | 0 => exact ⟨Nat.zero_le _, by show (j 0).val < 0 + 1; have : (j 0).val < 1 := (j 0).isLt; omega⟩
      | 1 => exact ⟨Nat.zero_le _, by show (j 1).val < 0 + 128; have : (j 1).val < 128 := (j 1).isLt; omega⟩
  have hN : ∑ j, ((slotC n hc).slice (S128x128.rowRect gathers_S524288x128_S128x128.axis' j) (S128x128.stride_rowRect gathers_S524288x128_S128x128.axis' j)).view.dmaCredit
      = (slotC n hc).view.dmaCredit := by
    exact (by decide : ∑ j, ((slotC 0 (c₀ := 0) (by decide)).slice (S128x128.rowRect gathers_S524288x128_S128x128.axis' j)
      (S128x128.stride_rowRect gathers_S524288x128_S128x128.axis' j)).view.dmaCredit = (slotC 0 (c₀ := 0) (by decide)).view.dmaCredit)
  have hrest : ∀ w, (sOloc d L ↦[(slotO n).view.set \ (slotC n hc).view.set]{fullShare} f : sProp 𝕄)
      = sOloc d L ↦[(slotO n).view.set \ (slotC n hc).view.set]{fullShare} ((slotC n hc).view.write (Elt F) f w Finset.univ) := fun w =>
    pointsTo_congr fun i hi => (View.write_of_not_mem (v := (slotC n hc).view) _ _ _ (fun h => (Finset.mem_sdiff.mp hi).2 h)).symm
  iapply (SparseCore.wp_indirectGatherLocal countersEmb 𝒱₀ (thr d L) none (hg := gathers_S524288x128_S128x128) (default : HIx 1)
      (slotC n hc).view.dmaCredit hN (by decide) (list_inb m d L hpre hfo hL)) $$ [Hx Ho Hi Hv]
  · isplitl [Hx]; · iexact Hx
    isplitl [Ho]; · iexact Ho
    isplitl [Hi]
    · rw [hset]; iexact Hi
    iexact Hv
  iintro Hf
  unfold SparseCore.waitIndirectGather
  simp only [Prog.bind_op, Prog.bind_ret]
  iapply (Transfers.wp_waitLocalO countersEmb 𝒱₀ (thr d L) none (default : HIx 1) (rfl : (slotC n hc).view.dmaCredit = _)) $$ [Hf HO Hmw]
  · isplitl [Hf]; · iexact Hf
    isplitl [HO]; · iexact HO
    iapply (Transfers.MayWaits.elim (SemLoc.dma sm)) $$ Hmw
  iintro ⟨⟨Ho, Hx, Hi⟩, Hv, HO⟩
  iapply Hk
  isplitl [Hi]
  · iexists fo; isplitr
    · ipureintro; exact hfo
    · rw [hset]; iexact Hi
  isplitl [Ho Hor]
  · iexists _; isplitr
    swap
    · iapply ((pointsTo_split_subset (slotC_subset n hc)).2)
      isplitl [Ho]; · iexact Ho
      iapply (Entails.of_eq (hrest _)); iexact Hor
    ipureintro
    intro r c hcc
    exact half_reads m d L hpre hc f hf hfo hL r c hcc
  isplitl [Hx Hxr]
  · iapply ((pointsTo_split_subset (q := q) (f := m (xLoc d)) (S := Finset.univ)
      (Finset.subset_univ (xV.slice (Rect.unit (s := S524288x256) ![0, c₀] S524288x128.size (inbColX hc)) (fun _ => rfl)).view.set)).2)
    isplitl [Hx]; · iexact Hx
    iexact Hxr
  isplitl [Hv]; · iexact Hv
  iexact HO

end Cert.Kernel.Pf

end
-- ==== Proof.Words.lean ====
/- The word arithmetic of the pipeline's bookkeeping: what the offsets, the conditions and the assumptions of a trip come to
   when the carried words are those of that trip. A tile's blocks are counted from `96 * (i 1 + 16 * i 0)`. -/
module

public import proofs.«01_k».proof.Proof.Gen.Kernel
public import proofs.«01_k».proof.Proof.Gen.Kernel.Skeleton

@[expose] public section

set_option synthInstance.maxSize 4096

namespace Cert.Kernel.Words

open Idealize.ShloMosaic Idealize.SL.Sem Cert.Kernel

theorem trips_eq : k0_t1_loop.trips = 96 := by decide +kernel

/-- The number `n` as a word. -/
abbrev wd (n : Nat) : BitVec 32 := BitVec.ofNat 32 n

/-! ## Conditions -/

theorem cond1_eq : ∀ (i : grid0.Coords) (t : Fin k0_t1_loop.trips),
    k0_cond1 i t (wd t) = if t.val < 95 then 1#1 else 0#1 := by decide +kernel

theorem cond2_eq : ∀ (i : grid0.Coords) (t : Fin k0_t1_loop.trips), k0_cond2 i t (wd t) = 1#1 := by decide +kernel

theorem cond5_eq : ∀ (i : grid0.Coords) (t : Fin k0_t1_loop.trips), k0_cond5 i t (wd t) = 1#1 := by decide +kernel

theorem cond7_eq : ∀ (i : grid0.Coords) (t : Fin k0_t1_loop.trips),
    k0_cond7 i t (wd t) = if 0 < t.val then 1#1 else 0#1 := by decide +kernel

/-! ## Slots of the double buffers -/

theorem off4_eq : ∀ t : Fin 97, k0_off4 (wd t) = ![t.val % 2, 0, 0] := by decide +kernel
theorem off6_eq : ∀ t : Fin 97, k0_off6 (wd t) = ![t.val % 2] := by decide +kernel
theorem off7_eq : ∀ t : Fin 97, k0_off7 (wd t) = ![t.val % 2, 0, 0] := by decide +kernel
theorem off9_eq : ∀ t : Fin 97, k0_off9 (wd t) = ![t.val % 2] := by decide +kernel
theorem off10_eq : ∀ t : Fin 97, k0_off10 (wd t) = ![t.val % 2, 0, 0] := by decide +kernel
theorem off11_eq : ∀ t : Fin 97, k0_off11 (wd t) = ![t.val % 2, 0, 0] := by decide +kernel
theorem off12_eq : ∀ t : Fin 97, k0_off12 (wd t) = ![t.val % 2, 0, 0] := by decide +kernel
theorem off14_eq : ∀ t : Fin 97, k0_off14 (wd t) = ![t.val % 2] := by decide +kernel
theorem off15_eq : ∀ t : Fin 97, k0_off15 (wd t) = ![t.val % 2, 0, 0] := by decide +kernel
theorem off17_eq : ∀ t : Fin 97, k0_off17 (wd t) = ![t.val % 2] := by decide +kernel
theorem off18_eq : ∀ t : Fin 97, k0_off18 (wd t) = ![t.val % 2, 0, 0] := by decide +kernel
theorem off20_eq : ∀ t : Fin 97, k0_off20 (wd t) = ![t.val % 2] := by decide +kernel
theorem off21_eq : ∀ t : Fin 97, k0_off21 (wd t) = ![t.val % 2, 0, 0] := by decide +kernel

/-! ## Blocks of the arrays in HBM -/

theorem off5_eq : ∀ (i : grid0.Coords) (t : Fin 95),
    k0_off5 i (wd t) = ![0, 128 * (96 * ((i 1).val + 16 * (i 0).val) + (t.val + 1))] := by decide +kernel
theorem off8_eq : ∀ (i : grid0.Coords) (t : Fin 96),
    k0_off8 i (wd t) = ![0, 128 * (96 * ((i 1).val + 16 * (i 0).val) + t.val)] := by decide +kernel
theorem off13_eq : ∀ (i : grid0.Coords) (t : Fin 96),
    k0_off13 i (wd t) = ![128 * (96 * ((i 1).val + 16 * (i 0).val) + t.val), 0] := by decide +kernel
theorem off16_eq : ∀ (i : grid0.Coords) (t : Fin 95),
    k0_off16 i (wd (t.val + 1)) = ![128 * (96 * ((i 1).val + 16 * (i 0).val) + t.val), 0] := by decide +kernel
theorem off19_eq : ∀ i : grid0.Coords,
    k0_off19 i 0#32 = ![128 * (96 * ((i 1).val + 16 * (i 0).val) + 95), 0] := by decide +kernel
theorem off2_eq : ∀ i : grid0.Coords,
    k0_off2 i = ![0, 128 * (96 * ((i 1).val + 16 * (i 0).val) + 0)] := by decide +kernel

/-! ## Assumptions -/

theorem chk2 : ∀ t : Fin 97, k0_chk2 (wd t) := by unfold k0_chk2; decide +kernel
theorem chk3 : ∀ t : Fin 97, k0_chk3 (wd t) := by unfold k0_chk3; decide +kernel
theorem chk4 : k0_chk4 (wd 95) := by unfold k0_chk4; decide +kernel
theorem chk5 : ∀ i : grid0.Coords, k0_chk5 i 0#32 := by unfold k0_chk5; decide +kernel
theorem chk1 : ∀ (i : grid0.Coords) (t : Fin k0_t1_loop.trips),
    k0_chk1 i t (wd (t.val + 1)) (wd t) (wd t) (wd (t.val - 1)) (wd t) := by unfold k0_chk1; decide +kernel

/-! ## The words a trip carries on -/

/-- The number of a subcore's first block, as the program computes it. -/
abbrev v4w (i : grid0.Coords) : BitVec 32 :=
  Scalar.muli (Scalar.addi (Scalar.addi 0#32 (Scalar.muli (BitVec.ofNat 32 (i 1).val) 1#32)) (Scalar.muli (BitVec.ofNat 32 (i 0).val) 16#32)) 96#32
/-- The trip's own words: its number, whether it is the first, whether it is the last; its block's number, the one before and the one after. -/
abbrev v5w (t : Fin k0_t1_loop.trips) : BitVec 32 := Scf.iv 0#32 1#32 t
abbrev v64w (t : Fin k0_t1_loop.trips) : BitVec 1 := Scalar.cmpi .eq (v5w t) 0#32
abbrev v65w (t : Fin k0_t1_loop.trips) : BitVec 1 := Scalar.cmpi .eq (v5w t) 95#32
abbrev v66w (i : grid0.Coords) (a : BitVec 32) : BitVec 32 := Scalar.addi a (v4w i)
abbrev v68w (a : BitVec 32) : BitVec 32 := Scalar.select 1#1 (Scalar.subi a 1#32) a
abbrev v71w (i : grid0.Coords) (a : BitVec 32) : BitVec 32 :=
  Scalar.addi (Scalar.select (Scalar.cmpi .eq (v68w a) 4294967295#32) 95#32 (v68w a)) (v4w i)
abbrev v73w (a : BitVec 32) : BitVec 32 := Scalar.select 1#1 (Scalar.addi a 1#32) a
abbrev v76w (i : grid0.Coords) (a : BitVec 32) : BitVec 32 :=
  Scalar.addi (Scalar.select (Scalar.cmpi .eq (v73w a) 96#32) 0#32 (v73w a)) (v4w i)
abbrev v91w (i : grid0.Coords) (t : Fin k0_t1_loop.trips) (a b : BitVec 32) : BitVec 32 :=
  Scalar.select (Scalar.andi (Scalar.andi (Scalar.cmpi .ne (v66w i a) (v76w i a)) (Scalar.xori (Scalar.cmpi .sge (v5w t) 95#32) 1#1)) 1#1) (Scalar.addi b 1#32) b
abbrev v121w (i : grid0.Coords) (t : Fin k0_t1_loop.trips) (a b : BitVec 32) : BitVec 32 :=
  Scalar.select (Scalar.andi (Scalar.ori (Scalar.cmpi .ne (v66w i a) (v76w i a)) (v65w t)) 1#1) (Scalar.addi b 1#32) b
abbrev v124w (i : grid0.Coords) (t : Fin k0_t1_loop.trips) (a : BitVec 32) : BitVec 1 :=
  Scalar.andi (Scalar.cmpi .ne (v66w i a) (v71w i a)) (Scalar.xori (v64w t) 1#1)
abbrev v135w (i : grid0.Coords) (t : Fin k0_t1_loop.trips) (a b : BitVec 32) : BitVec 32 :=
  Scalar.select (Scalar.andi (Scalar.andi (Scalar.cmpi .ne (v66w i a) (v71w i a)) (Scalar.xori (v64w t) 1#1)) 1#1) (Scalar.addi b 1#32) b
abbrev v139w (i : grid0.Coords) (t : Fin k0_t1_loop.trips) (a b : BitVec 32) : BitVec 32 :=
  Scalar.select (Scalar.ori (Scalar.cmpi .ne (v66w i a) (v76w i a)) (v65w t)) (Scalar.addi b 1#32) b
abbrev v143w (a : BitVec 32) : BitVec 32 := Scalar.select (Scalar.cmpi .eq (v73w a) 96#32) 0#32 (v73w a)

theorem v91_eq : ∀ (i : grid0.Coords) (t : Fin k0_t1_loop.trips), t.val < 95 → v91w i t (wd t) (wd (t.val + 1)) = wd (t.val + 2) := by decide +kernel
theorem v121_eq : ∀ (i : grid0.Coords) (t : Fin k0_t1_loop.trips), v121w i t (wd t) (wd t) = wd (t.val + 1) := by decide +kernel
theorem v135_eq : ∀ (i : grid0.Coords) (t : Fin k0_t1_loop.trips), v135w i t (wd t) (wd (t.val - 1)) = wd t.val := by decide +kernel
theorem v139_eq : ∀ (i : grid0.Coords) (t : Fin k0_t1_loop.trips), v139w i t (wd t) (wd t) = wd (t.val + 1) := by decide +kernel
theorem v143_eq : ∀ t : Fin k0_t1_loop.trips, v143w (wd t) = if t.val < 95 then wd (t.val + 1) else 0#32 := by decide +kernel

end Cert.Kernel.Words
-- ==== Proof.Trip.lean ====
/-
  One trip of the pipeline: fetch the next block of the index list, wait for this trip's, gather its rows in two halves,
  start their copy-out, and wait for the copy-out of the trip before.
-/
module

public import proofs.«01_k».proof.Proof.Steps
public import proofs.«01_k».proof.Proof.Words

@[expose] public section

noncomputable section

namespace Cert.Kernel.Pf

open Cert.Kernel Cert.Kernel.Gen Cert.Kernel.Words

open Idealize.ShloMosaic
open Idealize.ShloMosaic.ValueIdx (ix1 ix2 ix3)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)
variable (d : Dev nD) (L : grid0.Coords)

local notation "WP" => wp frame (wpE (defs₀ (F := F)) 𝒱₀ (thr d L) none) Set.univ

/-! ## Slots by parity -/

theorem IFree_congr {a b : ℕ} (h : a % 2 = b % 2) : (IFree d L a : sProp 𝕄) = IFree d L b := by
  have key : ∀ (k l : ℕ) (hk : ∀ a, (![k, 0, 0] : Fin 3 → ℕ) a + S1x1x128.size a ≤ S2x1x128.size a) (hl : ∀ a, (![l, 0, 0] : Fin 3 → ℕ) a + S1x1x128.size a ≤ S2x1x128.size a),
      k = l → (iprop(∃ f, sIloc d L ↦[((sI.slice (Rect.unit (s := S2x1x128) ![k, 0, 0] S1x1x128.size hk) (fun _ => rfl)).squeeze S1x128 squeezes_S1x1x128_S1x128).view.set]{fullShare} f) : sProp 𝕄)
        = iprop(∃ f, sIloc d L ↦[((sI.slice (Rect.unit (s := S2x1x128) ![l, 0, 0] S1x1x128.size hl) (fun _ => rfl)).squeeze S1x128 squeezes_S1x1x128_S1x128).view.set]{fullShare} f) := by
    intro k l hk hl e; subst e; rfl
  exact key _ _ _ _ h
theorem OFree_congr {a b : ℕ} (h : a % 2 = b % 2) : (OFree d L a : sProp 𝕄) = OFree d L b := by
  have key : ∀ (k l : ℕ) (hk : ∀ a, (![k, 0, 0] : Fin 3 → ℕ) a + S1x128x256.size a ≤ S2x128x256.size a) (hl : ∀ a, (![l, 0, 0] : Fin 3 → ℕ) a + S1x128x256.size a ≤ S2x128x256.size a),
      k = l → (iprop(∃ f, sOloc d L ↦[((sO.slice (Rect.unit (s := S2x128x256) ![k, 0, 0] S1x128x256.size hk) (fun _ => rfl)).squeeze S128x256 squeezes_S1x128x256_S128x256).view.set]{fullShare} f) : sProp 𝕄)
        = iprop(∃ f, sOloc d L ↦[((sO.slice (Rect.unit (s := S2x128x256) ![l, 0, 0] S1x128x256.size hl) (fun _ => rfl)).squeeze S128x256 squeezes_S1x128x256_S128x256).view.set]{fullShare} f) := by
    intro k l hk hl e; subst e; rfl
  exact key _ _ _ _ h
theorem semI_congr {a b : ℕ} (h : a % 2 = b % 2) : semI a = semI b := by
  have key : ∀ (k l : ℕ) (hk : ∀ a, (![k] : Fin 1 → ℕ) a + S1.size a ≤ S2.size a) (hl : ∀ a, (![l] : Fin 1 → ℕ) a + S1.size a ≤ S2.size a),
      k = l → ((cc0_scoped1.slice (Rect.unit (s := S2) ![k] S1.size hk)).squeeze S_ squeezes_S1_S_).sem
        = ((cc0_scoped1.slice (Rect.unit (s := S2) ![l] S1.size hl)).squeeze S_ squeezes_S1_S_).sem := by
    intro k l hk hl e; subst e; rfl
  exact key _ _ _ _ h
theorem semO_congr {a b : ℕ} (h : a % 2 = b % 2) : semO a = semO b := by
  have key : ∀ (k l : ℕ) (hk : ∀ a, (![k] : Fin 1 → ℕ) a + S1.size a ≤ S2.size a) (hl : ∀ a, (![l] : Fin 1 → ℕ) a + S1.size a ≤ S2.size a),
      k = l → ((cc0_scoped3.slice (Rect.unit (s := S2) ![k] S1.size hk)).squeeze S_ squeezes_S1_S_).sem
        = ((cc0_scoped3.slice (Rect.unit (s := S2) ![l] S1.size hl)).squeeze S_ squeezes_S1_S_).sem := by
    intro k l hk hl e; subst e; rfl
  exact key _ _ _ _ h

/-! ## The invariant -/

/-- The number of the subcore's first block. -/
abbrev B (L : grid0.Coords) : ℕ := 96 * ((L 1).val + 16 * (L 0).val)

theorem B_le (L : grid0.Coords) : B L + 96 ≤ 3072 := by
  have h1 : (L 1).val < 16 := (L 1).isLt
  have h0 : (L 0).val < 2 := (L 0).isLt
  unfold B; omega

/-- The half of the subcore's share of the index list that fetch `n` reads under. -/
def shr (q : PosShare TreeShare) (n : ℕ) : PosShare TreeShare := if n % 2 = 0 then q.left else q.right

theorem shr_congr (q : PosShare TreeShare) {a b : ℕ} (h : a % 2 = b % 2) : shr q a = shr q b := by unfold shr; rw [h]

variable (q : PosShare TreeShare)

/-- An index slot at rest: the slot, its semaphore at zero, its share of the list. -/
def IRest (n : ℕ) : sProp 𝕄 := iprop(IFree d L n ∗ (iLoc d ↦{shr q n} m (iLoc d)) ∗ semVal (thr d L, SemLoc.dma (semI n)) 0)
/-- A row slot at rest: the slot, its semaphore at zero. -/
def ORest (n : ℕ) : sProp 𝕄 := iprop(OFree d L n ∗ semVal (thr d L, SemLoc.dma (semO n)) 0)
/-- The fetch for trip `n` in flight, or none beyond the last trip. -/
def FetchOr (n : ℕ) : sProp 𝕄 := if n < 96 then FetchFl m d L n (B L + n) (shr q n) else IRest m d L q n
/-- The copy-out of the trip before `n` in flight, or none before the first. -/
def PutOr (n : ℕ) : sProp 𝕄 := if 0 < n then PutFl m d L (n - 1) (B L + (n - 1)) else ORest d L (n + 1)

theorem IRest_congr {a b : ℕ} (h : a % 2 = b % 2) : (IRest m d L q a : sProp 𝕄) = IRest m d L q b := by
  unfold IRest; rw [IFree_congr d L h, semI_congr h, shr_congr q h]
theorem ORest_congr {a b : ℕ} (h : a % 2 = b % 2) : (ORest d L a : sProp 𝕄) = ORest d L b := by
  unfold ORest; rw [OFree_congr d L h, semO_congr h]

/-- The rows of the output the subcore has copied out before trip `n`'s wait, and those it has not started. -/
abbrev Done (n : ℕ) : sProp 𝕄 := oLoc d ↦[rowsIn (128 * B L) (128 * (B L + (n - 1)))]{fullShare} G m d
abbrev Todo (n : ℕ) : sProp 𝕄 := oLoc d ↦[rowsIn (128 * (B L + n)) (128 * (B L + 96))]{fullShare} m (oLoc d)

/-- The carried words before trip `n`. -/
def Wrd (n : ℕ) (a : BitVec 32 × BitVec 32 × BitVec 32 × BitVec 32 × BitVec 32) : Prop :=
  a.2.1 = wd n ∧ a.2.2.1 = wd n ∧ a.2.2.2.1 = wd (n - 1) ∧ (n < 96 → a.1 = wd (n + 1) ∧ a.2.2.2.2 = wd n) ∧ (n = 96 → a.2.2.2.2 = 0#32)

variable (O : CellTallies nD τ sig (HIx 1)) (W : Waits sig (HIx 1))

/-- What the subcore owes, with the waits it has recorded: those it began with and its own. -/
def Owe : sProp 𝕄 := iprop(∃ W', ⌜∀ p ∈ W', p ∈ W ∨ p.2 = none⌝ ∗ owes (thr d L) O W')

theorem owe_eq : (Owe d L O W : sProp 𝕄) = iprop(∃ W', ⌜∀ p ∈ W', p ∈ W ∨ p.2 = none⌝ ∗ owes (thr d L) O W') := rfl

theorem owe_insert {W' : Waits sig (HIx 1)} (h : ∀ p ∈ W', p ∈ W ∨ p.2 = none) (s : SemLoc sig) :
    owes (thr d L) O (insert (s, (default : HIx 1)) W') ⊢ (Owe d L O W : sProp 𝕄) := by
  unfold Owe
  iintro HO; iexists _; isplitr
  swap; · iexact HO
  ipureintro; intro p hp
  rcases Finset.mem_insert.mp hp with hp | hp
  · exact .inr (hp ▸ rfl)
  · exact h p hp

/-- What holds before trip `n`. -/
def Inv (n : ℕ) (a : BitVec 32 × BitVec 32 × BitVec 32 × BitVec 32 × BitVec 32) : sProp 𝕄 :=
  iprop(⌜Wrd n a⌝ ∗ Transfers.MayWaits (thr d L) (default : HIx 1) O ∗ (xLoc d ↦{q} m (xLoc d))
    ∗ FetchOr m d L q n ∗ IRest m d L q (n + 1) ∗ PutOr m d L n ∗ ORest d L n
    ∗ semVal (thr d L, SemLoc.dma cc0_scoped4.sem) 0 ∗ semVal (thr d L, SemLoc.dma cc0_scoped5.sem) 0
    ∗ Done m d L n ∗ Todo m d L n ∗ Owe d L O W)

/-- Rows `a … c` are rows `a … b` and rows `b … c`. -/
theorem rows_split {a b c : ℕ} (hab : a ≤ b) (hbc : b ≤ c) (f : Buf (Elt F) (oLoc d)) :
    (oLoc d ↦[rowsIn a c]{fullShare} f : sProp 𝕄) ⊣⊢ iprop((oLoc d ↦[rowsIn a b]{fullShare} f) ∗ (oLoc d ↦[rowsIn b c]{fullShare} f)) := by
  rw [← rowsIn_union hab hbc]
  exact pointsTo_union (rowsIn_disjoint le_rfl)

theorem todo_step (n : ℕ) (hn : n < 96) :
    (Todo m d L n : sProp 𝕄) ⊣⊢ iprop((oLoc d ↦[rowsIn (128 * (B L + n)) (128 * (B L + n) + 128)]{fullShare} m (oLoc d)) ∗ Todo m d L (n + 1)) := by
  rw [show Todo m d L (n + 1) = (oLoc d ↦[rowsIn (128 * (B L + n) + 128) (128 * (B L + 96))]{fullShare} m (oLoc d) : sProp 𝕄) by
    unfold Todo; rw [show 128 * (B L + (n + 1)) = 128 * (B L + n) + 128 by omega]]
  exact rows_split d (by omega) (by omega) _

theorem done_step (n : ℕ) (hn : 0 < n) :
    (Done m d L (n + 1) : sProp 𝕄) ⊣⊢ iprop(Done m d L n ∗ (oLoc d ↦[rowsIn (128 * (B L + (n - 1))) (128 * (B L + (n - 1)) + 128)]{fullShare} G m d)) := by
  rw [show Done m d L (n + 1) = (oLoc d ↦[rowsIn (128 * B L) (128 * (B L + (n - 1)) + 128)]{fullShare} G m d : sProp 𝕄) by
    unfold Done; rw [show 128 * (B L + (n + 1 - 1)) = 128 * (B L + (n - 1)) + 128 by omega]]
  exact rows_split d (by omega) (by omega) _

/-! ## The parts of a trip -/

section Parts

variable (t : Fin k0_t1_loop.trips)

theorem t_lt : t.val < 96 := lt_of_lt_of_eq t.isLt trips_eq

/-- What part 1 returns. -/
abbrev R1 (t : Fin k0_t1_loop.trips) : Type := Σ' (_ : k0_chk3 (wd t)) (_ : k0_chk2 (wd t)) (_ : k0_chk1 L t (wd (t.val + 1)) (wd t) (wd t) (wd (t.val - 1)) (wd t))
  (_ : BitVec 32) (_ : BitVec 1) (_ : BitVec 1) (_ : BitVec 32) (_ : BitVec 32) (_ : BitVec 32) (_ : BitVec 32), BitVec 1

/-- What part 1 hands on. -/
def r1 (t : Fin k0_t1_loop.trips) : R1 L t :=
  ⟨chk3 ⟨t.val, by have := t_lt t; omega⟩, chk2 ⟨t.val, by have := t_lt t; omega⟩, chk1 L t,
    v5w t, v64w t, v65w t, v66w L (wd t), v71w L (wd t), v76w L (wd t), v91w L t (wd t) (wd (t.val + 1)), Scalar.cmpi .ne (v66w L (wd t)) (v71w L (wd t))⟩

theorem part1_spec {α : Type} {Q : α → sProp 𝕄} {kk : R1 L t → Prog (TpuEff nD τ sig (Elt F) Λ₀ (thr d L).2) α} :
    IRest m d L q (t.val + 1) ⊢ iprop((FetchOr m d L q (t.val + 1) -∗ WP (kk (r1 L t)) Q)
      -∗ WP (k0_part1 (F := F) L xV (Memref.isWhole_whole _) iV (Memref.isWhole_whole _) oV (Memref.isWhole_whole _) sI (Memref.isWhole_whole _) cc0_scoped1 sO (Memref.isWhole_whole _) cc0_scoped3
          cc0_scoped4 cc0_scoped5 (v4w L) 0#32 1#32 t (wd (t.val + 1)) (wd t) (wd t) (wd (t.val - 1)) (wd t) >>= kk) Q) := by
  have ht := t_lt t
  have hB := B_le L
  rw [k0_part1_eq_skeleton]; unfold k0_part1_skel
  simp only [Prog.lift, Prog.bind_op, Prog.bind_ret, Prog.pure_eq_ret, Prog.bind_assoc]
  rw [wp_assume_of 𝒱₀ _ _ _ (chk3 ⟨t.val, by omega⟩), wp_assume_of 𝒱₀ _ _ _ (chk2 ⟨t.val, by omega⟩), wp_assume_of 𝒱₀ _ _ _ (chk1 L t)]
  iintro HI Hk
  by_cases h : t.val < 95
  · rw [dif_pos (show k0_cond1 L t (wd t) = 1#1 by rw [cond1_eq, if_pos h])]
    simp only [Prog.bind_op, Prog.bind_ret, Prog.bind_assoc]
    unfold IRest FetchOr
    rw [if_pos (show t.val + 1 < 96 by omega)]
    iapply (wp_fetch m d L (n := t.val + 1) (b := B L + (t.val + 1)) (by omega) (off4_eq ⟨t.val + 1, by omega⟩) (off5_eq L ⟨t.val, h⟩) (off6_eq ⟨t.val + 1, by omega⟩)) $$ HI
    iintro Hf
    iapply Hk; iexact Hf
  · rw [dif_neg (show ¬ k0_cond1 L t (wd t) = 1#1 by rw [cond1_eq, if_neg h]; decide)]
    simp only [Prog.bind_ret]
    unfold FetchOr
    rw [if_neg (show ¬ t.val + 1 < 96 by omega)]
    iapply Hk; iexact HI

set_option maxHeartbeats 1000000 in
theorem part2_spec (hpre : PreOK m) {α : Type} {Q : α → sProp 𝕄} {c3 : _} {c2 : _} {c1 : _} {v5 : BitVec 32} {v64 : BitVec 1} {v66 v71 : BitVec 32} {v96 : BitVec 1}
    {kk : PUnit → Prog (TpuEff nD τ sig (Elt F) Λ₀ (thr d L).2) α} :
    iprop(FetchFl m d L t.val (B L + t.val) (shr q t.val) ∗ OFree d L t.val ∗ (xLoc d ↦{q} m (xLoc d)) ∗ semVal (thr d L, SemLoc.dma cc0_scoped4.sem) 0
        ∗ Owe d L O W ∗ Transfers.MayWaits (thr d L) (default : HIx 1) O)
      ⊢ iprop((IHas m d L t.val (B L + t.val) ∗ (iLoc d ↦{shr q t.val} m (iLoc d)) ∗ semVal (thr d L, SemLoc.dma (semI t.val)) 0
          ∗ OHas m d L t.val (B L + t.val) 128 ∗ (xLoc d ↦{q} m (xLoc d)) ∗ semVal (thr d L, SemLoc.dma cc0_scoped4.sem) 0 ∗ Owe d L O W -∗ WP (kk ⟨⟩) Q)
        -∗ WP (k0_part2 (F := F) L xV (Memref.isWhole_whole _) iV (Memref.isWhole_whole _) oV (Memref.isWhole_whole _) sI (Memref.isWhole_whole _) cc0_scoped1 sO (Memref.isWhole_whole _) cc0_scoped3
          cc0_scoped4 cc0_scoped5 t (wd (t.val + 1)) (wd t) (wd t) (wd (t.val - 1)) (wd t) c3 c2 c1 v5 v64 v66 v71 v96 >>= kk) Q) := by
  have ht := t_lt t
  rw [k0_part2_eq_skeleton]; unfold k0_part2_skel
  simp only [Prog.lift, Prog.bind_op, Prog.bind_ret, Prog.pure_eq_ret, Prog.bind_assoc, ite_self]
  iintro ⟨Hf, Ho, Hx, Hv, HO, #Hmw⟩ Hk
  ihave ⟨%W', %hW, HO⟩ := (Entails.of_eq (owe_eq d L O W)) $$ HO
  rw [dif_pos (cond2_eq L t)]
  simp only [Prog.bind_op, Prog.bind_ret, Prog.bind_assoc]
  iapply (wp_fetched m d L (off7_eq ⟨t.val, by omega⟩) (off9_eq ⟨t.val, by omega⟩)) $$ [Hf HO]
  · isplitl [Hf]; · iexact Hf
    isplitl [HO]; · iexact HO
    iexact Hmw
  iintro ⟨Hi, Hsh, Hvi, HO⟩
  iapply (wp_half m d L hpre (c₀ := 0) (by decide) (n := t.val) (b := B L + t.val) (off10_eq ⟨t.val, by omega⟩) (off11_eq ⟨t.val, by omega⟩) (off10_eq ⟨t.val, by omega⟩)) $$ [Hi Ho Hx Hv HO]
  · isplitl [Hi]; · iexact Hi
    isplitl [Ho]; · iapply (OFree_has m d L); iexact Ho
    isplitl [Hx]; · iexact Hx
    isplitl [Hv]; · iexact Hv
    isplitl [HO]; · iexact HO
    iexact Hmw
  iintro ⟨Hi, Ho, Hx, Hv, HO⟩
  iapply Hk
  isplitl [Hi]; · iexact Hi
  isplitl [Hsh]; · iexact Hsh
  isplitl [Hvi]; · iexact Hvi
  isplitl [Ho]; · iexact Ho
  isplitl [Hx]; · iexact Hx
  isplitl [Hv]; · iexact Hv
  iapply (owe_insert d L O W (W' := insert _ W') ?_) $$ HO
  intro p hp
  rcases Finset.mem_insert.mp hp with hp | hp
  · exact .inr (hp ▸ rfl)
  · exact hW p hp

/-- What part 3 returns. -/
abbrev R3 : Type := Σ' (_ : BitVec 32) (_ : BitVec 1) (_ : BitVec 32), BitVec 32

theorem part3_spec (hpre : PreOK m) {α : Type} {Q : α → sProp 𝕄} {c3 : _} {c2 : _} {c1 : _}
    {kk : R3 → Prog (TpuEff nD τ sig (Elt F) Λ₀ (thr d L).2) α} :
    iprop(IHas m d L t.val (B L + t.val) ∗ OHas m d L t.val (B L + t.val) 128 ∗ (xLoc d ↦{q} m (xLoc d)) ∗ semVal (thr d L, SemLoc.dma cc0_scoped5.sem) 0
        ∗ semVal (thr d L, SemLoc.dma (semO t.val)) 0 ∗ Todo m d L t.val ∗ Owe d L O W ∗ Transfers.MayWaits (thr d L) (default : HIx 1) O)
      ⊢ iprop((IFree d L t.val ∗ (xLoc d ↦{q} m (xLoc d)) ∗ semVal (thr d L, SemLoc.dma cc0_scoped5.sem) 0
          ∗ PutFl m d L t.val (B L + t.val) ∗ Todo m d L (t.val + 1) ∗ Owe d L O W -∗
            WP (kk ⟨v121w L t (wd t) (wd t), v124w L t (wd t), Scalar.extui (v124w L t (wd t)), 0#32⟩) Q)
        -∗ WP (k0_part3 (F := F) L xV (Memref.isWhole_whole _) iV (Memref.isWhole_whole _) oV (Memref.isWhole_whole _) sI (Memref.isWhole_whole _) cc0_scoped1 sO (Memref.isWhole_whole _) cc0_scoped3
          cc0_scoped4 cc0_scoped5 t (wd (t.val + 1)) (wd t) (wd t) (wd (t.val - 1)) (wd t) c3 c2 c1 (v64w t) (v65w t) (v66w L (wd t)) (v71w L (wd t)) (v76w L (wd t)) >>= kk) Q) := by
  have ht := t_lt t
  have hB := B_le L
  rw [k0_part3_eq_skeleton]; unfold k0_part3_skel
  simp only [Prog.lift, Prog.bind_op, Prog.bind_ret, Prog.pure_eq_ret, Prog.bind_assoc, ite_self]
  iintro ⟨Hi, Ho, Hx, Hv, Hvo, Ht, HO, #Hmw⟩ Hk
  ihave ⟨%W', %hW, HO⟩ := (Entails.of_eq (owe_eq d L O W)) $$ HO
  iapply (wp_half m d L hpre (c₀ := 128) (by decide) (n := t.val) (b := B L + t.val) (off10_eq ⟨t.val, by omega⟩) (off11_eq ⟨t.val, by omega⟩) (off10_eq ⟨t.val, by omega⟩)) $$ [Hi Ho Hx Hv HO]
  · isplitl [Hi]; · iexact Hi
    isplitl [Ho]; · iexact Ho
    isplitl [Hx]; · iexact Hx
    isplitl [Hv]; · iexact Hv
    isplitl [HO]; · iexact HO
    iexact Hmw
  iintro ⟨Hi, Ho, Hx, Hv, HO⟩
  rw [dif_pos (cond5_eq L t)]
  simp only [Prog.bind_op, Prog.bind_ret, Prog.bind_assoc]
  ihave ⟨Hb, Ht⟩ := (todo_step m d L t.val ht).1 $$ Ht
  iapply (wp_put m d L (n := t.val) (b := B L + t.val) (by omega) (off12_eq ⟨t.val, by omega⟩) (off13_eq L ⟨t.val, ht⟩) (off14_eq ⟨t.val, by omega⟩)) $$ [Ho Hb Hvo]
  · isplitl [Ho]; · iexact Ho
    isplitl [Hb]; · iexact Hb
    iexact Hvo
  iintro Hp
  iapply Hk
  isplitl [Hi]; · iapply (IHas_free m d L); iexact Hi
  isplitl [Hx]; · iexact Hx
  isplitl [Hv]; · iexact Hv
  isplitl [Hp]; · iexact Hp
  isplitl [Ht]; · iexact Ht
  iapply (owe_insert d L O W hW) $$ HO

end Parts

end Cert.Kernel.Pf

end
-- ==== Proof.Tile.lean ====
/-
  A subcore's run: the first fetch, the ninety-six trips, the last copy-out's wait.
-/
module

public import proofs.«01_k».proof.Proof.Trip

@[expose] public section

noncomputable section

namespace Cert.Kernel.Pf

open Cert.Kernel Cert.Kernel.Gen Cert.Kernel.Words

open Idealize.ShloMosaic
open Idealize.ShloMosaic.ValueIdx (ix1 ix2 ix3)
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)
variable (d : Dev nD) (L : grid0.Coords)

local notation "WP" => wp frame (wpE (defs₀ (F := F)) 𝒱₀ (thr d L) none) Set.univ

variable (q : PosShare TreeShare) (O : CellTallies nD τ sig (HIx 1)) (W : Waits sig (HIx 1))

/-! ## A subcore's scratch and semaphores -/

theorem mem_slotI (n : ℕ) (i : S2x1x128.Idx) : i ∈ (slotI n).view.set ↔ (i 0).val = n % 2 := by
  have : (slotI n).view.set = (Rect.unit (s := S2x1x128) ![n % 2, 0, 0] S1x1x128.size (inbI n)).set := by
    show (((View.whole (cc0_scoped0 : Ref sig .scVector)).slice _).reshape S1x128 _).set = _
    rw [View.set_reshape, View.set_slice]
    exact Finset.map_refl
  rw [this, Rect.mem_set_unit]
  constructor
  · intro h; have := h 0
    have h1 : n % 2 ≤ (i 0).val := this.1
    have h2 : (i 0).val < n % 2 + 1 := this.2
    omega
  · intro h a; match a with
    | 0 => exact ⟨by show n % 2 ≤ (i 0).val; omega, by show (i 0).val < n % 2 + 1; omega⟩
    | 1 => exact ⟨Nat.zero_le _, by show (i 1).val < 0 + 1; have : (i 1).val < 1 := (i 1).isLt; omega⟩
    | 2 => exact ⟨Nat.zero_le _, by show (i 2).val < 0 + 128; have : (i 2).val < 128 := (i 2).isLt; omega⟩

theorem mem_slotO (n : ℕ) (i : S2x128x256.Idx) : i ∈ (slotO n).view.set ↔ (i 0).val = n % 2 := by
  have : (slotO n).view.set = (Rect.unit (s := S2x128x256) ![n % 2, 0, 0] S1x128x256.size (inbO n)).set := by
    show (((View.whole (cc0_scoped2 : Ref sig .scVector)).slice _).reshape S128x256 _).set = _
    rw [View.set_reshape, View.set_slice]
    exact Finset.map_refl
  rw [this, Rect.mem_set_unit]
  constructor
  · intro h; have := h 0
    have h1 : n % 2 ≤ (i 0).val := this.1
    have h2 : (i 0).val < n % 2 + 1 := this.2
    omega
  · intro h a; match a with
    | 0 => exact ⟨by show n % 2 ≤ (i 0).val; omega, by show (i 0).val < n % 2 + 1; omega⟩
    | 1 => exact ⟨Nat.zero_le _, by show (i 1).val < 0 + 128; have : (i 1).val < 128 := (i 1).isLt; omega⟩
    | 2 => exact ⟨Nat.zero_le _, by show (i 2).val < 0 + 256; have : (i 2).val < 256 := (i 2).isLt; omega⟩

/-- Two disjoint sets of elements covering a buffer, each at some contents, are the buffer at some contents. -/
theorem join_free (ℓ : Loc nD τ sig) (A C : Finset (Idx ℓ)) (h : Finset.univ \ A = C) :
    iprop((∃ f, ℓ ↦[A]{fullShare} f) ∗ (∃ f, ℓ ↦[C]{fullShare} f)) ⊢ (iprop(∃ f : Buf (Elt F) ℓ, ℓ ↦{fullShare} f) : sProp 𝕄) := by
  subst h
  iintro ⟨⟨%f, Hf⟩, %g, Hg⟩
  iexists _
  iapply (Entails.of_eq (show (ℓ ↦[A ∪ (Finset.univ \ A)]{fullShare} (Finset.univ \ A).piecewise g f : sProp 𝕄) = _ by
    rw [Finset.union_sdiff_of_subset (Finset.subset_univ A)]))
  iapply (pointsTo_join Finset.disjoint_sdiff)
  isplitl [Hf]; · iexact Hf
  iexact Hg

theorem split_free (ℓ : Loc nD τ sig) (A C : Finset (Idx ℓ)) (h : Finset.univ \ A = C) (f : Buf (Elt F) ℓ) :
    (ℓ ↦{fullShare} f : sProp 𝕄) ⊢ iprop((∃ f, ℓ ↦[A]{fullShare} f) ∗ (∃ f, ℓ ↦[C]{fullShare} f)) := by
  subst h
  iintro H
  ihave ⟨H1, H2⟩ := (pointsTo_split_subset (S := Finset.univ) (Finset.subset_univ A)).1 $$ H
  isplitl [H1]
  · iexists _; iexact H1
  · iexists _; iexact H2

theorem slotI_compl : Finset.univ \ (slotI 0).view.set = (slotI 1).view.set := by
  ext i
  rw [Finset.mem_sdiff, mem_slotI, mem_slotI]
  have : (i 0).val < 2 := (i 0).isLt
  constructor
  · rintro ⟨-, h⟩; omega
  · intro h; exact ⟨Finset.mem_univ _, by omega⟩
theorem slotO_compl : Finset.univ \ (slotO 0).view.set = (slotO 1).view.set := by
  ext i
  rw [Finset.mem_sdiff, mem_slotO, mem_slotO]
  have : (i 0).val < 2 := (i 0).isLt
  constructor
  · rintro ⟨-, h⟩; omega
  · intro h; exact ⟨Finset.mem_univ _, by omega⟩

/-- The subcore's other semaphores. -/
abbrev restSems : Finset (GSem nD τ sig) :=
  ((((((ownCells (thr d L)).erase (thr d L, SemLoc.dma (semI 0))).erase (thr d L, SemLoc.dma (semI 1))).erase (thr d L, SemLoc.dma (semO 0))).erase
    (thr d L, SemLoc.dma (semO 1))).erase (thr d L, SemLoc.dma cc0_scoped4.sem)).erase (thr d L, SemLoc.dma cc0_scoped5.sem)

theorem ownSems0_V :
    (ownSems0 (thr d L) : sProp 𝕄)
      = iprop(semVal (thr d L, SemLoc.dma (semI 0)) 0 ∗ semVal (thr d L, SemLoc.dma (semI 1)) 0 ∗ semVal (thr d L, SemLoc.dma (semO 0)) 0
          ∗ semVal (thr d L, SemLoc.dma (semO 1)) 0 ∗ semVal (thr d L, SemLoc.dma cc0_scoped4.sem) 0 ∗ semVal (thr d L, SemLoc.dma cc0_scoped5.sem) 0
          ∗ bigSep (restSems d L) fun g => semVal g 0) := by
  have hne : ∀ {a b : DmaSem sig}, a ≠ b → ((thr d L, SemLoc.dma a) : GSem nD τ sig) ≠ (thr d L, SemLoc.dma b) :=
    fun h e => h (SemLoc.dma.inj (Prod.mk.inj e).2)
  have hin : ∀ a : DmaSem sig, (SemLoc.dma a : SemLoc sig).isScoped .scVector = true → ((thr d L, SemLoc.dma a) : GSem nD τ sig) ∈ ownCells (thr d L) :=
    fun a h => mem_ownCells.mpr ⟨rfl, h⟩
  unfold SparseCore.Cfg.ownSems0
  rw [SparseCore.bigSep_erase' (hin (semI 0) (by decide)),
    SparseCore.bigSep_erase' (Finset.mem_erase.mpr ⟨hne (by decide), hin (semI 1) (by decide)⟩),
    SparseCore.bigSep_erase' (Finset.mem_erase.mpr ⟨hne (by decide), Finset.mem_erase.mpr ⟨hne (by decide), hin (semO 0) (by decide)⟩⟩),
    SparseCore.bigSep_erase' (Finset.mem_erase.mpr ⟨hne (by decide), Finset.mem_erase.mpr ⟨hne (by decide), Finset.mem_erase.mpr ⟨hne (by decide),
      hin (semO 1) (by decide)⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hin cc0_scoped4.sem (by decide)⟩⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), Finset.mem_erase.mpr ⟨hne (by decide), hin cc0_scoped5.sem (by decide)⟩⟩⟩⟩⟩)]

/-- The subcore's other buffers. -/
abbrev restBufs : Finset (DevRef τ sig) :=
  ((ownRefs (τ := τ) (.scVector (cV L) (jV L))).erase ((Proc.scVector (cV L) (jV L)).devRef cc0_scoped0)).erase ((Proc.scVector (cV L) (jV L)).devRef cc0_scoped2)

theorem ownBufs_V :
    (ownBufs (thr d L) : sProp 𝕄)
      = iprop((∃ f, sIloc d L ↦{fullShare} f) ∗ (∃ f, sOloc d L ↦{fullShare} f)
          ∗ bigSep (restBufs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## A trip -/

theorem put_pos {n : ℕ} (h : 0 < n) : PutOr m d L n = PutFl m d L (n - 1) (B L + (n - 1)) := if_pos h

theorem put_zero {n : ℕ} (h : ¬ 0 < n) : PutOr m d L n = ORest d L (n + 1) := if_neg h

theorem done_zero {n : ℕ} (h : ¬ 0 < n) : (Done m d L n : sProp 𝕄) = Done m d L (n + 1) := by
  obtain rfl : n = 0 := by omega
  rfl

set_option maxHeartbeats 1000000 in
theorem trip (hpre : PreOK m) (t : Fin k0_t1_loop.trips) (a : BitVec 32 × BitVec 32 × BitVec 32 × BitVec 32 × BitVec 32) :
    Inv m d L q O W t.val a ⊢ WP (k0_t1_body (F := F) L xV (Memref.isWhole_whole _) iV (Memref.isWhole_whole _) oV (Memref.isWhole_whole _) sI (Memref.isWhole_whole _) cc0_scoped1 sO (Memref.isWhole_whole _) cc0_scoped3
          cc0_scoped4 cc0_scoped5 (v4w L) t a) (Inv m d L q O W (t.val + 1)) := by
  have ht := t_lt t
  obtain ⟨a1, a2, a3, a4, a5⟩ := a
  unfold Inv
  iintro ⟨%hw, #Hmw, Hx, Hf, Hir, Hpo, Hor, Hv4, Hv5, Hdone, Htodo, HO⟩
  obtain ⟨h2, h3, h4, h1, -⟩ := hw
  obtain ⟨h1, h5⟩ := h1 ht
  dsimp only at h1 h2 h3 h4 h5
  subst h1 h2 h3 h4 h5
  unfold k0_t1_body
  dsimp only
  iapply (part1_spec m d L q t) $$ Hir
  iintro Hf'
  unfold r1
  dsimp only
  ihave Hf := (Entails.of_eq (show FetchOr m d L q t.val = FetchFl m d L t.val (B L + t.val) (shr q t.val) from if_pos ht)) $$ Hf
  ihave ⟨Ho, Hvo⟩ := (Entails.of_eq (show (ORest d L t.val : sProp 𝕄) = iprop(OFree d L t.val ∗ semVal (thr d L, SemLoc.dma (semO t.val)) 0) from rfl)) $$ Hor
  iapply (part2_spec m d L q O W t hpre) $$ [Hf Ho Hx Hv4 HO]
  · isplitl [Hf]; · iexact Hf
    isplitl [Ho]; · iexact Ho
    isplitl [Hx]; · iexact Hx
    isplitl [Hv4]; · iexact Hv4
    isplitl [HO]; · iexact HO
    iexact Hmw
  iintro ⟨Hi, Hsh, Hvi, Ho, Hx, Hv4, HO⟩
  iapply (part3_spec m d L q O W t hpre) $$ [Hi Ho Hx Hv5 Hvo Htodo HO]
  · isplitl [Hi]; · iexact Hi
    isplitl [Ho]; · iexact Ho
    isplitl [Hx]; · iexact Hx
    isplitl [Hv5]; · iexact Hv5
    isplitl [Hvo]; · iexact Hvo
    isplitl [Htodo]; · iexact Htodo
    isplitl [HO]; · iexact HO
    iexact Hmw
  iintro ⟨Hi, Hx, Hv5, Hp, Htodo, HO⟩
  dsimp only
  simp only [Prog.lift, Prog.bind_op, Prog.bind_ret, Prog.pure_eq_ret, Prog.bind_assoc, ite_self]
  have hW : Wrd (t.val + 1) (v91w L t (wd t) (wd (t.val + 1)), v139w L t (wd t) (wd t), v121w L t (wd t) (wd t), v135w L t (wd t) (wd (t.val - 1)), v143w (wd t)) := by
    refine ⟨v139_eq L t, v121_eq L t, v135_eq L t, fun h => ⟨v91_eq L t (by omega), ?_⟩, fun h => ?_⟩
    · exact (v143_eq t).trans (if_pos (by omega))
    · exact (v143_eq t).trans (if_neg (by omega))
  ihave Hp := (Entails.of_eq (show PutFl m d L t.val (B L + t.val) = PutOr m d L (t.val + 1) from (if_pos (Nat.succ_pos _)).symm)) $$ Hp
  ihave Hir := (Entails.of_eq (show iprop(IFree d L t.val ∗ (iLoc d ↦{shr q t.val} m (iLoc d)) ∗ semVal (thr d L, SemLoc.dma (semI t.val)) 0) = IRest m d L q (t.val + 1 + 1)
      from IRest_congr m d L q (by omega))) $$ [Hi Hsh Hvi]
  · isplitl [Hi]; · iexact Hi
    isplitl [Hsh]; · iexact Hsh
    iexact Hvi
  by_cases h : 0 < t.val
  · rw [dif_pos (show k0_cond7 L t (wd t) = 1#1 by rw [cond7_eq, if_pos h])]
    ihave Hpf := (Entails.of_eq (put_pos m d L h)) $$ Hpo
    ihave ⟨%W', %hW', HO⟩ := (Entails.of_eq (owe_eq d L O W)) $$ HO
    iapply (wp_putDone m d L (n := t.val - 1) (off17_eq ⟨t.val - 1, by omega⟩)) $$ [Hpf HO]
    · isplitl [Hpf]; · iexact Hpf
      isplitl [HO]; · iexact HO
      iexact Hmw
    iintro ⟨Hb, Ho, Hvo, HO⟩
    rw [wp_ret]; imodintro
    isplitr; · ipureintro; exact hW
    isplitr; · iexact Hmw
    isplitl [Hx]; · iexact Hx
    isplitl [Hf']; · iexact Hf'
    isplitl [Hir]; · iexact Hir
    isplitl [Hp]; · iexact Hp
    isplitl [Ho Hvo]
    · iapply (Entails.of_eq (show (iprop(OFree d L (t.val - 1) ∗ semVal (thr d L, SemLoc.dma (semO (t.val - 1))) 0) : sProp 𝕄) = ORest d L (t.val + 1)
        from ORest_congr d L (by omega)))
      isplitl [Ho]; · iexact Ho
      iexact Hvo
    isplitl [Hv4]; · iexact Hv4
    isplitl [Hv5]; · iexact Hv5
    isplitl [Hdone Hb]
    · iapply (done_step m d L t.val h).2
      isplitl [Hdone]; · iexact Hdone
      iexact Hb
    isplitl [Htodo]; · iexact Htodo
    iapply (owe_insert d L O W hW'); iexact HO
  · rw [dif_neg (show ¬ k0_cond7 L t (wd t) = 1#1 by rw [cond7_eq, if_neg h]; decide)]
    ihave Hor := (Entails.of_eq (put_zero m d L h)) $$ Hpo
    ihave Hdone := (Entails.of_eq (done_zero m d L h)) $$ Hdone
    rw [wp_ret]; imodintro
    isplitr; · ipureintro; exact hW
    isplitr; · iexact Hmw
    isplitl [Hx]; · iexact Hx
    isplitl [Hf']; · iexact Hf'
    isplitl [Hir]; · iexact Hir
    isplitl [Hp]; · iexact Hp
    isplitl [Hor]; · iexact Hor
    isplitl [Hv4]; · iexact Hv4
    isplitl [Hv5]; · iexact Hv5
    isplitl [Hdone]; · iexact Hdone
    isplitl [Htodo]; · iexact Htodo
    iexact HO

/-! ## The subcore's run -/

theorem off1_zero : k0_off1 = ![0 % 2, 0, 0] := by decide
theorem off3_zero : k0_off3 = ![0 % 2] := by decide

theorem start (q : PosShare TreeShare) {α : Type} {Q : α → sProp 𝕄} {kk : BitVec 32 → Prog (TpuEff nD τ sig (Elt F) Λ₀ (thr d L).2) α} :
    IRest m d L q 0 ⊢ iprop((FetchOr m d L q 0 -∗ WP (kk (v4w L)) Q)
      -∗ WP (k0_part4 (F := F) L xV (Memref.isWhole_whole _) iV (Memref.isWhole_whole _) oV (Memref.isWhole_whole _) sI (Memref.isWhole_whole _) cc0_scoped1 sO (Memref.isWhole_whole _) cc0_scoped3
          cc0_scoped4 cc0_scoped5 >>= kk) Q) := by
  have hB := B_le L
  rw [k0_part4_eq_skeleton]; unfold k0_part4_skel
  simp only [Prog.lift, Prog.bind_op, Prog.bind_ret, Prog.pure_eq_ret, Prog.bind_assoc]
  unfold IRest FetchOr
  rw [if_pos (show 0 < 96 by decide)]
  iintro HI Hk
  iapply (wp_fetch m d L (n := 0) (b := B L + 0) (by omega) off1_zero (off2_eq L) off3_zero) $$ HI
  iintro Hf
  iapply Hk; iexact Hf

theorem wp_loop (hpre : PreOK m) {α : Type} {Q : α → sProp 𝕄} {kk : BitVec 32 × BitVec 32 × BitVec 32 × BitVec 32 × BitVec 32 → Prog (TpuEff nD τ sig (Elt F) Λ₀ (thr d L).2) α} :
    Inv m d L q O W 0 (Scalar.addi 0#32 1#32, 0#32, 0#32, 0#32, 0#32) ⊢ iprop((∀ acc, Inv m d L q O W 96 acc -∗ WP (kk acc) Q)
      -∗ WP (Scf.Loop.for k0_t1_loop k0_t1_ok (Scalar.addi 0#32 1#32, 0#32, 0#32, 0#32, 0#32)
        (k0_t1_body (F := F) L xV (Memref.isWhole_whole _) iV (Memref.isWhole_whole _) oV (Memref.isWhole_whole _) sI (Memref.isWhole_whole _) cc0_scoped1 sO (Memref.isWhole_whole _) cc0_scoped3
          cc0_scoped4 cc0_scoped5 (v4w L)) >>= kk) Q) := by
  have h := Scf.wp_for_bind frame (wpE (defs₀ (F := F)) 𝒱₀ (thr d L) none) Set.univ k0_t1_loop.lb k0_t1_loop.ub k0_t1_loop.st k0_t1_ok
    (Scalar.addi 0#32 1#32, 0#32, 0#32, 0#32, 0#32)
    (k0_t1_body (F := F) L xV (Memref.isWhole_whole _) iV (Memref.isWhole_whole _) oV (Memref.isWhole_whole _) sI (Memref.isWhole_whole _) cc0_scoped1 sO (Memref.isWhole_whole _) cc0_scoped3
          cc0_scoped4 cc0_scoped5 (v4w L))
    (Inv m d L q O W) (trip m d L q O W hpre) (kk := kk) (Q := Q)
  rw [show Scf.trips k0_t1_loop.lb k0_t1_loop.ub k0_t1_loop.st = 96 from trips_eq] at h
  exact h

theorem inv_eq (n : ℕ) (a : BitVec 32 × BitVec 32 × BitVec 32 × BitVec 32 × BitVec 32) : Inv m d L q O W n a
    = iprop(⌜Wrd n a⌝ ∗ Transfers.MayWaits (thr d L) (default : HIx 1) O ∗ (xLoc d ↦{q} m (xLoc d))
    ∗ FetchOr m d L q n ∗ IRest m d L q (n + 1) ∗ PutOr m d L n ∗ ORest d L n
    ∗ semVal (thr d L, SemLoc.dma cc0_scoped4.sem) 0 ∗ semVal (thr d L, SemLoc.dma cc0_scoped5.sem) 0
    ∗ Done m d L n ∗ Todo m d L n ∗ Owe d L O W) := rfl

theorem IFree_eq (n : ℕ) : (IFree d L n : sProp 𝕄) = iprop(∃ f, sIloc d L ↦[(slotI n).view.set]{fullShare} f) := rfl
theorem OFree_eq (n : ℕ) : (OFree d L n : sProp 𝕄) = iprop(∃ f, sOloc d L ↦[(slotO n).view.set]{fullShare} f) := rfl

theorem hW0 : Wrd 0 (Scalar.addi 0#32 1#32, 0#32, 0#32, 0#32, 0#32) := ⟨rfl, rfl, rfl, fun _ => ⟨rfl, rfl⟩, fun h => absurd h (by decide)⟩

set_option maxHeartbeats 2000000 in
theorem tile_body (hF : (K (F := F)).Facts) (hpre : PreOK m) (hO : ∀ g, O g none = 0) :
    (iprop(levAts (K (F := F)).L (K (F := F)).lev ∗ emp
        ∗ ((xLoc d ↦{q} m (xLoc d)) ∗ (iLoc d ↦{q} m (iLoc d)) ∗ oLoc d ↦[rowsIn (128 * B L) (128 * (B L + 96))]{fullShare} m (oLoc d))
        ∗ scopedBufs (thr d L) ∗ scopedSems0 (thr d L) ∗ owes (thr d L) O W) : sProp 𝕄)
      ⊢ WP (cc0_gather (F := F) L xV (Memref.isWhole_whole _) iV (Memref.isWhole_whole _) oV (Memref.isWhole_whole _)
            sI (Memref.isWhole_whole _) cc0_scoped1 sO (Memref.isWhole_whole _) cc0_scoped3 cc0_scoped4 cc0_scoped5)
          fun _ => iprop(((xLoc d ↦{q} m (xLoc d)) ∗ (iLoc d ↦{q} m (iLoc d)) ∗ oLoc d ↦[rowsIn (128 * B L) (128 * (B L + 96))]{fullShare} G m d)
            ∗ scopedBufs (thr d L) ∗ scopedSems0 (thr d L)
            ∗ ∃ W', ⌜∀ p ∈ W', p ∈ W ∨ p.2 = none⌝ ∗ owes (thr d L) O W') := by
  rw [cc0_gather_eq_skeleton]; unfold cc0_gather_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fr, Hr⟩, Hbufs⟩, ⟨HI0, HI1, HO0, HO1, H4, H5, Hsems⟩, HO⟩
  ihave #Hmw := (show levAts (K (F := F)).L (K (F := F)).lev ⊢ Transfers.MayWaits (thr d L) (default : HIx 1) O from
    (K (F := F)).mayWaits_none (thr := thr d L) hO) $$ Hlv
  ihave ⟨Hs0, Hs1⟩ := (split_free (sIloc d L) _ _ slotI_compl fs) $$ Hs
  ihave ⟨Hr0, Hr1⟩ := (split_free (sOloc d L) _ _ slotO_compl fr) $$ Hr
  ihave ⟨Hi0, Hi1⟩ := (pointsTo_share (PosShare.mem_left_op_right q)).1 $$ Hi
  iapply (start m d L q) $$ [Hs0 Hi0 HI0]
  · unfold IRest IFree
    isplitl [Hs0]; · iexact Hs0
    isplitl [Hi0]; · iexact Hi0
    iexact HI0
  iintro Hf
  rw [k0_part5_eq_skeleton]; unfold k0_part5_skel
  simp only [Prog.bind_assoc]
  iapply (wp_loop m d L q O W hpre) $$ [Hx Hf Hs1 Hi1 HI1 Hr0 HO0 Hr1 HO1 H4 H5 Ho HO]
  · unfold Inv
    isplitr; · ipureintro; exact hW0
    isplitr; · iexact Hmw
    isplitl [Hx]; · iexact Hx
    isplitl [Hf]; · iexact Hf
    isplitl [Hs1 Hi1 HI1]
    · unfold IRest IFree
      isplitl [Hs1]; · iexact Hs1
      isplitl [Hi1]; · iexact Hi1
      iexact HI1
    isplitl [Hr1 HO1]
    · iapply (Entails.of_eq (put_zero m d L (n := 0) (by decide)).symm)
      unfold ORest OFree
      isplitl [Hr1]; · iexact Hr1
      iexact HO1
    isplitl [Hr0 HO0]
    · unfold ORest OFree
      isplitl [Hr0]; · iexact Hr0
      iexact HO0
    isplitl [H4]; · iexact H4
    isplitl [H5]; · iexact H5
    isplitr [Ho HO]
    · iapply (Entails.of_eq (show (iprop(emp) : sProp 𝕄) = Done m d L 0 by
        unfold Done; rw [show 128 * (B L + (0 - 1)) = 128 * B L by omega, rowsIn_empty, pointsTo_empty])); iempintro
    isplitl [Ho]; · iexact Ho
    iapply (Entails.of_eq (owe_eq d L O W).symm)
    iexists W
    isplitr; · ipureintro; exact fun p hp => .inl hp
    iexact HO
  iintro %acc Hinv
  obtain ⟨a1, a2, a3, a4, a5⟩ := acc
  ihave ⟨%hw, -, Hx, Hf, Hir, Hpo, Hor, H4, H5, Hdone, -, HO⟩ := (Entails.of_eq (inv_eq m d L q O W 96 (a1, a2, a3, a4, a5))) $$ Hinv
  obtain ⟨h2, h3, h4, -, h5⟩ := hw
  replace h5 := h5 rfl
  dsimp only at h2 h3 h4 h5
  subst h2 h3 h4 h5
  dsimp only
  simp only [Prog.lift, Prog.bind_op, Prog.bind_ret, Prog.pure_eq_ret, Prog.bind_assoc]
  rw [wp_assume_of 𝒱₀ _ _ _ (chk5 L), wp_assume_of 𝒱₀ _ _ _ chk4]
  ihave Hpf := (Entails.of_eq (put_pos m d L (n := 96) (by decide))) $$ Hpo
  ihave ⟨%W', %hW', HO⟩ := (Entails.of_eq (owe_eq d L O W)) $$ HO
  iapply (wp_putDone m d L (n := 95) (off20_eq ⟨95, by decide⟩)) $$ [Hpf HO]
  · isplitl [Hpf]; · iexact Hpf
    isplitl [HO]; · iexact HO
    iexact Hmw
  iintro ⟨Hb, Hr1, HO1, HO⟩
  rw [wp_ret]; imodintro
  ihave ⟨Hs0, Hi0, HI0⟩ := (Entails.of_eq (show FetchOr m d L q 96 = (iprop(IFree d L 0 ∗ (iLoc d ↦{shr q 0} m (iLoc d)) ∗ semVal (thr d L, SemLoc.dma (semI 0)) 0) : sProp 𝕄) from (if_neg (by decide)).trans (IRest_congr m d L q (by decide)))) $$ Hf
  ihave ⟨Hs1, Hi1, HI1⟩ := (Entails.of_eq (show IRest m d L q (96 + 1) = (iprop(IFree d L 1 ∗ (iLoc d ↦{shr q 1} m (iLoc d)) ∗ semVal (thr d L, SemLoc.dma (semI 1)) 0) : sProp 𝕄) from IRest_congr m d L q (by decide))) $$ Hir
  ihave ⟨Hr0, HO0⟩ := (Entails.of_eq (show (ORest d L 96 : sProp 𝕄) = (iprop(OFree d L 0 ∗ semVal (thr d L, SemLoc.dma (semO 0)) 0) : sProp 𝕄) from ORest_congr d L (by decide))) $$ Hor
  ihave ⟨Hr1, HO1⟩ := (Entails.of_eq (show (iprop(OFree d L 95 ∗ semVal (thr d L, SemLoc.dma (semO 95)) 0) : sProp 𝕄) = (iprop(OFree d L 1 ∗ semVal (thr d L, SemLoc.dma (semO 1)) 0) : sProp 𝕄) from ORest_congr d L (by decide))) $$ [Hr1 HO1]
  · isplitl [Hr1]; · iexact Hr1
    iexact HO1
  isplitl [Hx Hi0 Hi1 Hdone Hb]
  · isplitl [Hx]; · iexact Hx
    isplitl [Hi0 Hi1]
    · iapply (pointsTo_share (PosShare.mem_left_op_right q)).2
      isplitl [Hi0]; · iexact Hi0
      iexact Hi1
    iapply (Entails.of_eq (show (Done m d L (96 + 1) : sProp 𝕄) = _ from rfl))
    iapply (done_step m d L 96 (by decide)).2
    isplitl [Hdone]; · iexact Hdone
    iexact Hb
  isplitl [Hs0 Hs1 Hr0 Hr1 Hbufs]
  · isplitl [Hs0 Hs1]
    · iapply (join_free (sIloc d L) _ _ slotI_compl)
      isplitl [Hs0]; · iapply (Entails.of_eq (IFree_eq d L 0)); iexact Hs0
      iapply (Entails.of_eq (IFree_eq d L 1)); iexact Hs1
    isplitl [Hr0 Hr1]
    · iapply (join_free (sOloc d L) _ _ slotO_compl)
      isplitl [Hr0]; · iapply (Entails.of_eq (OFree_eq d L 0)); iexact Hr0
      iapply (Entails.of_eq (OFree_eq d L 1)); iexact Hr1
    iexact Hbufs
  isplitl [HI0 HI1 HO0 HO1 H4 H5 Hsems]
  · isplitl [HI0]; · iexact HI0
    isplitl [HI1]; · iexact HI1
    isplitl [HO0]; · iexact HO0
    isplitl [HO1]; · iexact HO1
    isplitl [H4]; · iexact H4
    isplitl [H5]; · iexact H5
    iexact Hsems
  iapply (Entails.of_eq (owe_eq d L O W))
  iapply (owe_insert d L O W hW'); iexact HO

end Cert.Kernel.Pf

end
-- ==== Proof.Launch.lean ====
/-
  The launch: what the one call hands to each SparseCore and each subcore, and the run of the whole program.
-/
module

public import proofs.«01_k».proof.Proof.Tile

@[expose] public section

noncomputable section

namespace Cert.Kernel.Pf

open Cert.Kernel Cert.Kernel.Gen Cert.Kernel.Words

open Idealize.ShloMosaic
open Idealize.ShloMosaic.ValueIdx (ix1 ix2 ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

/-- A SparseCore's share of the two arguments; a subcore's. -/
abbrev qC (c : Fin 2) : PosShare TreeShare := ShareLeaves.leaf 1 fullShare c
abbrev qT (c : Fin 2) (i : Fin 16) : PosShare TreeShare := ShareLeaves.leaf 4 (qC c) i

/-- A SparseCore's rows of the output; a subcore's. -/
abbrev rowsC (c : Fin 2) : Finset S393216x256.Idx := rowsIn (196608 * c.val) (196608 * c.val + 196608)
abbrev rowsT (c : Fin 2) (i : Fin 16) : Finset S393216x256.Idx := rowsIn (128 * (96 * (i.val + 16 * c.val))) (128 * (96 * (i.val + 16 * c.val) + 96))

/-- Both arguments under a share, some rows of the output at contents `f`. -/
abbrev pts (d : Dev nD) (q : PosShare TreeShare) (S : Finset S393216x256.Idx) (f : Buf (Elt F) (oLoc d)) : sProp 𝕄 :=
  iprop((xLoc d ↦{q} m (xLoc d)) ∗ (iLoc d ↦{q} m (iLoc d)) ∗ oLoc d ↦[S]{fullShare} f)

abbrev ptsC (d : Dev nD) (c : Fin 2) (f : Buf (Elt F) (oLoc d)) : sProp 𝕄 := pts m d (qC c) (rowsC c) f
abbrev ptsT (d : Dev nD) (c : Fin 2) (i : Fin 16) (f : Buf (Elt F) (oLoc d)) : sProp 𝕄 := pts m d (qT c i) (rowsT c i) f

def P : (K (F := F)).Pay (nD := nD) (Val := Elt F) (Name := ℕ) (U := UU) where
  st := fun q d c => match q with | 0 => ptsC m d (Fin.cast nCore_zero c) (m (oLoc d))
  dn := fun q d c => match q with | 0 => ptsC m d (Fin.cast nCore_zero c) (G m d)
  go := fun q d c i => match q with | 0 => ptsT m d (Fin.cast nCore_zero c) (Fin.cast nSub_zero i) (m (oLoc d))
  td := fun q d c i => match q with | 0 => ptsT m d (Fin.cast nCore_zero c) (Fin.cast nSub_zero i) (G m d)
  x := fun _ _ => iprop(emp)

instance P_storable : (P (F := F) m).IsStorable where
  st q d c := match q with
    | 0 => (inferInstance : BI.Storable (upEmb : UEmb _ 𝕄) (ptsC m d (Fin.cast nCore_zero c) (m (oLoc d))))
  dn q d c := match q with
    | 0 => (inferInstance : BI.Storable (upEmb : UEmb _ 𝕄) (ptsC m d (Fin.cast nCore_zero c) (G m d)))
  go q d c i := match q with
    | 0 => (inferInstance : BI.Storable (upEmb : UEmb _ 𝕄) (ptsT m d (Fin.cast nCore_zero c) (Fin.cast nSub_zero i) (m (oLoc d))))
  td q d c i := match q with
    | 0 => (inferInstance : BI.Storable (upEmb : UEmb _ 𝕄) (ptsT m d (Fin.cast nCore_zero c) (Fin.cast nSub_zero i) (G m d)))

/-! ## The obligation of a subcore -/

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s) xV (Memref.isWhole_whole _) iV (Memref.isWhole_whole _) oV (Memref.isWhole_whole _)
          sI (Memref.isWhole_whole _) cc0_scoped1 sO (Memref.isWhole_whole _) cc0_scoped3 cc0_scoped4 cc0_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) (qT (Fin.cast nCore_zero c) (Fin.cast nSub_zero i)) O W hF hpre hO).trans (wp_mono frame _ _ fun _ => obl_post)

/-! ## The split of the operands -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem rowsT_cover (c : Fin 2) : (Finset.univ : Finset (Fin 16)).biUnion (rowsT c) = rowsC c := by
  ext i
  rw [Finset.mem_biUnion]
  have hc := c.isLt
  constructor
  · rintro ⟨k, -, hk⟩
    have hk := mem_rowsIn.mp hk; have := k.isLt
    exact mem_rowsIn.mpr ⟨by omega, by omega⟩
  · intro h
    have h := mem_rowsIn.mp h
    exact ⟨⟨((i 0).val - 196608 * c.val) / 12288, by omega⟩, Finset.mem_univ _, mem_rowsIn.mpr ⟨by dsimp only; omega, by dsimp only; omega⟩⟩
theorem rowsC_cover : (Finset.univ : Finset (Fin 2)).biUnion rowsC = Finset.univ := by
  ext i
  have hi : (i 0).val < 393216 := (i 0).isLt
  rw [Finset.mem_biUnion]
  refine ⟨fun _ => Finset.mem_univ _, fun _ => ⟨⟨(i 0).val / 196608, by omega⟩, Finset.mem_univ _, mem_rowsIn.mpr ⟨by dsimp only; omega, by dsimp only; omega⟩⟩⟩
theorem rowsT_disjoint (c : Fin 2) : ∀ i ∈ (Finset.univ : Finset (Fin 16)), ∀ j ∈ (Finset.univ : Finset (Fin 16)), i ≠ j → Disjoint (rowsT c i) (rowsT c j) := by
  intro i _ j _ h
  rcases Nat.lt_or_gt_of_ne (fun e => h (Fin.ext e)) with h | h
  · exact rowsIn_disjoint (by omega)
  · exact (rowsIn_disjoint (by omega)).symm
theorem rowsC_disjoint : ∀ i ∈ (Finset.univ : Finset (Fin 2)), ∀ j ∈ (Finset.univ : Finset (Fin 2)), i ≠ j → Disjoint (rowsC i) (rowsC j) := by
  intro i _ j _ h
  rcases Nat.lt_or_gt_of_ne (fun e => h (Fin.ext e)) with h | h
  · exact rowsIn_disjoint (by omega)
  · exact (rowsIn_disjoint (by omega)).symm

/-- A SparseCore's operands are its subcores' at once. -/
theorem core_split (d : Dev nD) (c : Fin 2) (f : Buf (Elt F) (oLoc d)) : ptsC m d c f = bigSep Finset.univ fun i : Fin 16 => ptsT m d c i f := by
  unfold ptsC ptsT pts
  rw [bigSep_sep', bigSep_sep', ← pointsTo_biUnion Finset.univ (ℓ := oLoc d) (rowsT c) (rowsT_disjoint c), rowsT_cover,
    ShareLeaves.pointsTo_leaves Finset.univ (m (xLoc d)) 4 (qC c), ShareLeaves.pointsTo_leaves Finset.univ (m (iLoc d)) 4 (qC c)]
  rfl

/-- The program's operands are the SparseCores' at once. -/
theorem all_split (d : Dev nD) (f : Buf (Elt F) (oLoc d)) :
    iprop((xLoc d ↦{fullShare} m (xLoc d)) ∗ (iLoc d ↦{fullShare} m (iLoc d)) ∗ oLoc d ↦{fullShare} f) = bigSep Finset.univ fun c : Fin 2 => ptsC m d c f := by
  unfold ptsC pts
  rw [bigSep_sep', bigSep_sep', ← pointsTo_biUnion Finset.univ (ℓ := oLoc d) rowsC rowsC_disjoint, rowsC_cover,
    ShareLeaves.pointsTo_leaves Finset.univ (m (xLoc d)) 1 fullShare, ShareLeaves.pointsTo_leaves Finset.univ (m (iLoc d)) 1 fullShare]
  rfl

theorem vecSplit : (K (F := F)).VecSplit' (P m) 0 := by
  intro d c
  show ptsC m d (Fin.cast nCore_zero c) (m (oLoc d)) ⊢ |={Set.univ}=> iprop(
      (bigSep Finset.univ fun i : Fin ((K (F := F)).nSub 0) => ptsT m d (Fin.cast nCore_zero c) (Fin.cast nSub_zero i) (m (oLoc d)))
      ∗ ((bigSep Finset.univ fun i : Fin ((K (F := F)).nSub 0) => ptsT m d (Fin.cast nCore_zero c) (Fin.cast nSub_zero i) (G m d))
          -∗ ptsC m d (Fin.cast nCore_zero c) (G m d)))
  rw [bigSep_tasks (F := F) (fun i => ptsT m d (Fin.cast nCore_zero c) i (m (oLoc d))), bigSep_tasks (F := F) (fun i => ptsT m d (Fin.cast nCore_zero c) i (G m d)),
    ← core_split, ← core_split]
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (d : Dev nD) : sProp 𝕄 := iprop((xLoc d ↦{fullShare} m (xLoc d)) ∗ (iLoc d ↦{fullShare} m (iLoc d)) ∗ oLoc d ↦{fullShare} G m d)

theorem st0_eq (d : Dev nD) : (bigSep Finset.univ fun c : Fin ((K (F := F)).nCore 0) => (P m).st 0 d c)
    = iprop((xLoc d ↦{fullShare} m (xLoc d)) ∗ (iLoc d ↦{fullShare} m (iLoc d)) ∗ oLoc d ↦{fullShare} m (oLoc d)) :=
  (bigSep_cores (fun c => ptsC m d c (m (oLoc d)))).trans (all_split m d _).symm
theorem dn0_eq (d : Dev nD) : (bigSep Finset.univ fun c : Fin ((K (F := F)).nCore 0) => (P m).dn 0 d c) = FIN m d :=
  (bigSep_cores (fun c => ptsC m d c (G m d))).trans (all_split m d _).symm

/-- The program on device `d`: the one call, from both arguments and the output; the output comes back as the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Hx Ho]
  · rw [st0_eq]
    isplitl [Hx]; · iexact Hx
    isplitl [Hi]; · iexact Hi
    iexact Ho
  iintro ⟨Hst, Hdn⟩
  ihave Hdn' := (Entails.of_eq (dn0_eq m d)) $$ Hdn
  imodintro
  isplitl [Hst]; · iexact Hst
  isplitr [Hb Hts]
  · iexact Hdn'
  isplitl [Hb] <;> iassumption

def fq (d : Dev nD) (s' : Phys nD τ sig (Elt F)) : Prop :=
  s'.mem.mem (xLoc d) = m (xLoc d) ∧ s'.mem.mem (iLoc d) = m (iLoc d) ∧ s'.mem.mem (oLoc d) = G m d

set_option maxRecDepth 16384 in
theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-! ## The program's run -/

/-- At the end: the arguments as they were, the output the result, every semaphore at zero. -/
def QC : PUnit × MemSt nD τ sig (Elt F) → Prop := fun r =>
  (∀ c : Dev nD, r.2.mem (xLoc c) = m (xLoc c) ∧ r.2.mem (iLoc c) = m (iLoc c) ∧ r.2.mem (oLoc c) = G m c) ∧ r.2.sem = fun _ => 0

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Kernel.Pf

end
-- ==== Proof.Ref.lean ====
/-
  The reference: the list reshaped to one axis, then whole rows of the array taken at its words. A straight line of three host
  operations; its result is, entry by entry, the array's entry in the row that the list names.
-/
module

public import proofs.«01_k».proof.Defs
public import proofs.«01_k».proof.Proof.Gen.Reference
public import Idealize.ShloMosaic.Lib.StableHlo.Run
public import Idealize.ShloMosaic.Lib.Routing.Ops
public import Idealize.ShloMosaic.Lib.ValueIdxCore

@[expose] public section

noncomputable section

namespace Cert.Reference.Pf

open Cert.Reference Cert.Reference.Gen
open Idealize.ShloMosaic Idealize.ShloMosaic.TcCoe Idealize.ShloMosaic.StableHlo Idealize.SL.Sem
open Idealize.ShloMosaic.ValueIdx (ix1 ix2)

variable {F : FTy → Type} [FloatOps F]

abbrev ops : List (HloOp τ sig (Elt F)) :=
  [ reshape main_arg1 main_v0 rfl shapeCasts_S1x393216_S393216,
    unary main_v0 main_call0_v0 (broadcastInDim S393216x1 ![0] bcast_S393216_S393216x1_0),
    binary main_arg0 main_call0_v0 main_v1 (fun x i => Host.gather gather_S524288x256_S393216x1_S393216x256_1_0_n_n_0_1_1256 x i) ]

theorem main_eq (c : Dev nD) : main (F := F) c = seq ops := by
  simp only [main, fn_take.body, seq, bind_assoc, pure_bind]
  rfl

/-- The rows of `x` that `idx` names, as the host computes them. -/
def out (x : IVec S524288x256 32) (idx : IVec S1x393216 32) : IVec S393216x256 32 :=
  Host.gather gather_S524288x256_S393216x1_S393216x256_1_0_n_n_0_1_1256 x
    (broadcastInDim S393216x1 ![0] bcast_S393216_S393216x1_0 (shapeCast S393216 idx shapeCasts_S1x393216_S393216))

theorem out_eq (V : Valuation τ sig (Elt F)) : after ops V (main_v1 : DevRef τ sig) = out (V (main_arg0 : DevRef τ sig)) (V (main_arg1 : DevRef τ sig)) := by
  after_results_simp
  rfl
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., unary_bufs_sub .., binary_bufs_sub ..⟩

/-- Entry `(r, c)` of the taken rows: entry `(b, c)` of the array, where word `r` of the list is `b`. -/
theorem out_apply (x : IVec S524288x256 32) (idx : IVec S1x393216 32) (r : Fin 393216) (c : Fin 256) (b : Fin 524288)
    (hb : idx (ix2 (n0 := 1) (n1 := 393216) 0 r) = BitVec.ofNat 32 b.val) :
    out x idx (ix2 r c) = x (ix2 b c) := by
  refine Routing.gather_row gather_S524288x256_S393216x1_S393216x256_1_0_n_n_0_1_1256 rfl rfl rfl rfl rfl x _ r c b ?_ (by decide)
  refine (Routing.bcCol bcast_S393216_S393216x1_0 _ r).trans ((Routing.cast21 idx shapeCasts_S1x393216_S393216 (0 : Fin 1) r r ?_).trans hb)
  show r.val = 0 * 393216 + r.val
  omega

/-- At the end: the result buffer the taken rows, the arguments as they were, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v1).trans (out_eq _), (h c main_arg0).trans (arg0_eq _), (h c main_arg1).trans (arg1_eq _)⟩, sem_eq_zero_of_no_sems (by decide) r.2⟩)
    (run_seq scopedRefs_eq scopedSems_eq defs main (fun _ => ops) main_eq (fun _ => ops_sub) m ρ)

end Cert.Reference.Pf

end
-- ==== Proof.ProjBody.lean ====
/-
  The input projection's kernel body at one grid point `(i, j)`, over any float values. At `j = 0` it normalises and modulates the row
  block, keeps it in the scratch buffer and multiplies it by the time-step columns; at every `j` it multiplies the kept block by
  the weight's `j`-th column block.
-/
module

public import proofs.«01_k».proof.Proof.Gen.Kernel2Ideal
public import proofs.«01_k».proof.Proof.Gen.Kernel2Ideal.Skeleton
public import proofs.«01_k».proof.Proof.Gen.Kernel2Ideal.Frame
public import Idealize.ShloMosaic.Lib.Pipeline.Value

@[expose] public section

noncomputable section

namespace Cert.Kernel2Ideal.Pf

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two spellings of the zero offsets. -/
theorem off2 : (![0, 0] : Fin 2 → Nat) = fun _ => 0 := by funext a; fin_cases a <;> rfl
theorem off3 : (![0, 0, 0] : Fin 3 → Nat) = fun _ => 0 := by funext a; fin_cases a <;> rfl

/-- A buffer written once through its whole rectangle reads the payload. -/
theorem read_one {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans (View.canon_unit_zero h inb w)

/-- A load through the whole rectangle reads the buffer. -/
theorem read_all {sp : Space} {S : Shape} {e : EltTy} (v : View sig .tc sp S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  View.ld_unit_zero h inb (v.read (Elt F) f)

section Triples

variable (c : Dev nD) (i : grid0.Coords)
  (arg2 : Memref sig .tc .vmem S1024x1024 .f32) (harg2 : arg2.IsWhole) (arg3 : Memref sig .tc .vmem S1x6x1024 .f32) (harg3 : arg3.IsWhole)
  (arg4 : Memref sig .tc .vmem S1024x2816 .bf16) (harg4 : arg4.IsWhole) (arg5 : Memref sig .tc .vmem S1024x128 .bf16) (harg5 : arg5.IsWhole)
  (arg6 : Memref sig .tc .vmem S1024x2816 .bf16) (harg6 : arg6.IsWhole) (arg7 : Memref sig .tc .vmem S1024x128 .f32) (harg7 : arg7.IsWhole)
  (arg8 : Memref sig .tc .vmem S1024x1024 .bf16) (harg8 : arg8.IsWhole)
  (X0 : Vec F S1024x1024 .f32) (X1 : Vec F S1x6x1024 .f32) (X2 : Vec F S1024x2816 .bf16) (X3 : Vec F S1024x128 .bf16)
  (Y4 : Vec F S1024x2816 .bf16) (Y5 : Vec F S1024x128 .f32) (Y6 : Vec F S1024x1024 .bf16)

/-- The body at a point with `j = 0`. -/
theorem body_first (hc : k0_cond1 i = 1#1) (K : PUnit → sProp 𝕄) :
    iprop(owns c arg2 fullShare X0 ∗ owns c arg3 fullShare X1 ∗ owns c arg4 fullShare X2 ∗ owns c arg5 fullShare X3
        ∗ owns c arg6 fullShare Y4 ∗ owns c arg7 fullShare Y5 ∗ owns c arg8 fullShare Y6
        ∗ (iprop(owns c arg2 fullShare X0 ∗ owns c arg3 fullShare X1 ∗ owns c arg4 fullShare X2 ∗ owns c arg5 fullShare X3
            ∗ owns c arg6 fullShare (k0_pay4 (k0_pay2 X1 X0) X2) ∗ owns c arg7 fullShare (k0_pay3 X1 X0 X3) ∗ owns c arg8 fullShare (k0_pay2 X1 X0)) -∗ K ⟨⟩))
      ⊢ wp frame (wpE (defs₀ (F := F)) Variants.none c none) Set.univ
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, Hk⟩
  subst h0 h1 h2 h3
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_one _ _ off2 _ _).trans ?_
    exact congrArg₂ k0_pay4 ((View.readCov_unit_zero _ off2 _ _).trans (congrArg₂ k0_pay2 (read_all _ _ off3 _) (read_all _ _ off2 _))) (read_all _ _ off2 _)
  isplitl [H5]
  · iexists _; isplitr
    swap; · iexact H5
    ipureintro
    refine (read_one _ _ off2 _ _).trans ?_
    exact congr (congrArg₂ k0_pay3 (read_all _ _ off3 _) (read_all _ _ off2 _)) (read_all _ _ off2 _)
  iexists _; isplitr
  swap; · iexact H6
  ipureintro
  refine (read_one _ _ off2 _ _).trans ?_
  exact congrArg₂ k0_pay2 (read_all _ _ off3 _) (read_all _ _ off2 _)

/-- The body at a point with `j > 0`: the scratch buffer and the time-step columns stay as they are. -/
theorem body_next (hc : ¬ k0_cond1 i = 1#1) (K : PUnit → sProp 𝕄) :
    iprop(owns c arg2 fullShare X0 ∗ owns c arg3 fullShare X1 ∗ owns c arg4 fullShare X2 ∗ owns c arg5 fullShare X3
        ∗ owns c arg6 fullShare Y4 ∗ owns c arg7 fullShare Y5 ∗ owns c arg8 fullShare Y6
        ∗ (iprop(owns c arg2 fullShare X0 ∗ owns c arg3 fullShare X1 ∗ owns c arg4 fullShare X2 ∗ owns c arg5 fullShare X3
            ∗ owns c arg6 fullShare (k0_pay4 Y6 X2) ∗ owns c arg7 fullShare Y5 ∗ owns c arg8 fullShare Y6) -∗ K ⟨⟩))
      ⊢ wp frame (wpE (defs₀ (F := F)) Variants.none c none) Set.univ
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, Hk⟩
  subst h2 h6
  sl_exec (disch := sl_exact hc)
  sl_step
  iapply Hk
  isplitl [H0]
  · iexists f0; isplitr; · ipureintro; exact h0
    iexact H0
  isplitl [H1]
  · iexists f1; isplitr; · ipureintro; exact h1
    iexact H1
  isplitl [H2]
  · iexists f2; isplitr; · ipureintro; rfl
    iexact H2
  isplitl [H3]
  · iexists f3; isplitr; · ipureintro; exact h3
    iexact H3
  isplitl [H4]
  · iexists _; isplitr
    swap; · iexact H4
    ipureintro
    refine (read_one _ _ off2 _ _).trans ?_
    exact congrArg₂ k0_pay4 (read_all _ _ off2 _) (read_all _ _ off2 _)
  isplitl [H5]
  · iexists f5; isplitr; · ipureintro; exact h5
    iexact H5
  iexists f6; isplitr; · ipureintro; rfl
  iexact H6

end Triples

end Cert.Kernel2Ideal.Pf

end
-- ==== Proof.ProjRun.lean ====
/-
  The input projection's run over any float values: what each window's buffer holds at every grid point, the body obligation, and
  the run. The 96 points are `t = 4 i + j`; row block `i` is normalised at `t = 4 i`, its product with the time-step columns is kept
  in the buffer to `t = 4 i + 3`, where it is written back.
-/
module

public import proofs.«01_k».proof.Proof.ProjBody

@[expose] public section

noncomputable section

namespace Cert.Kernel2Ideal.Pf

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of point `n`'s row block. -/
def rowPt (n : ℕ) : Fin cfg0.N := ⟨4 * (n / 4) % 96, by show _ < grid0.N; rw [N_0]; exact Nat.mod_lt _ (by decide)⟩

theorem lt96 (t : Fin cfg0.N) : t.val < 96 := lt_of_lt_of_eq t.isLt N_0
theorem rowPt_self (t : Fin cfg0.N) (h : t.val % 4 = 0) : rowPt t.val = t := by
  refine Fin.ext ?_
  show 4 * (t.val / 4) % 96 = t.val
  have := lt96 t; omega
theorem rowPt_succ (n : ℕ) (h : (n + 1) % 4 ≠ 0) : rowPt (n + 1) = rowPt n := by
  refine Fin.ext ?_
  show 4 * ((n + 1) / 4) % 96 = 4 * (n / 4) % 96
  rw [show (n + 1) / 4 = n / 4 by omega]

/-- The normalised row block of point `n`, as kept in the scratch buffer. -/
def hBlk (c : Dev nD) (n : ℕ) : Vec F S1024x1024 .bf16 := k0_pay2 (iblk m c 1 (rowPt n)) (iblk m c 0 (rowPt n))
/-- Its product with the time-step columns. -/
def dtBlk (c : Dev nD) (n : ℕ) : Vec F S1024x128 .f32 := k0_pay3 (iblk m c 1 (rowPt n)) (iblk m c 0 (rowPt n)) (iblk m c 3 (rowPt n))

/-- What is held between points: before a new row block nothing is said of the scratch buffer, else it keeps the row block. -/
def Phi (c : Dev nD) (n : ℕ) : sProp 𝕄 :=
  if n % 4 = 0 then Pipeline.ΦA spec0 c
  else iprop(owns c (Memref.whole cc0_scratch0) fullShare (hBlk m c n) ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (hBlk m c t.val) (iblk m c 2 t)
    | ⟨5, _⟩ => dtBlk m c t.val
  Φ t := Phi m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay4 (hBlk m c t.val) (iblk m c 2 t) := by dsimp only [dats]
theorem after_5 (c : Dev nD) (t : Fin cfg0.N) : (dats m 0 c).after 5 t = dtBlk m c t.val := by dsimp only [dats]
theorem Phi_eq (c : Dev nD) (t : Fin (cfg0.N + 1)) : (dats m 0 c).Φ t = Phi m c t.val := by dsimp only [dats]

/-! ## The points -/

theorem cond_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem idle_false (t : Fin cfg0.N) (h : t.val % 4 = 0) : cfg0.idle 5 (cfg0.grid.coords t) = false :=
  (by decide +kernel : ∀ t : Fin grid0.N, t.val % 4 = 0 → cfg0.idle 5 (grid0.coords t) = false) t h
theorem idle_true (t : Fin cfg0.N) (h : t.val % 4 ≠ 0) : cfg0.idle 5 (cfg0.grid.coords t) = true :=
  (by decide +kernel : ∀ t : Fin grid0.N, t.val % 4 ≠ 0 → cfg0.idle 5 (grid0.coords t) = true) t h
theorem fetch_5 (t : Fin cfg0.N) : (cfg0.win 5).fetch t = false := rfl

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d

/-- Past the first point of a row block the time-step buffer holds the row block's product. -/
theorem before_5 (c : Dev nD) (d) : ∀ (n : ℕ) (hn : n < cfg0.N), n % 4 ≠ 0 → (dats m 0 c).before 5 ⟨n, hn⟩ d = dtBlk m c n
  | 0, _, h => absurd rfl h
  | n + 1, hn, h => by
    have hn' : n < cfg0.N := Nat.lt_of_succ_lt hn
    have hfl : (cfg0.win 5).flush ⟨n, hn'⟩ = false := by
      rw [← Bool.not_eq_true, flush0_5 ⟨n, hn'⟩]; show ¬ n % 4 = 3; omega
    have e : dtBlk m c (n + 1) = dtBlk m c n := by unfold dtBlk; rw [rowPt_succ n h]
    rw [(dats m 0 c).before_of_pos 5 ⟨n + 1, hn⟩ (Nat.succ_ne_zero n) (fetch_5 _) d, e]
    simp only [Nat.add_sub_cancel]
    rw [hfl, if_neg Bool.false_ne_true]
    unfold Dat.left
    by_cases h0 : n % 4 = 0
    · rw [idle_false ⟨n, hn'⟩ h0]
      exact after_5 m c ⟨n, hn'⟩
    · rw [idle_true ⟨n, hn'⟩ h0]
      exact before_5 c d n hn' h0

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ owns c (st0_4 t) fullShare ((dats m 0 c).after 4 t)
    ∗ (dats m 0 c).leavesExact 5 t)

/-- The region's scratch and generator, opened. -/
theorem PhiA_eq (c : Dev nD) : (Pipeline.ΦA spec0 c : sProp 𝕄)
    = iprop((∃ f : Buf (Elt F) ((c : Thread nD τ).loc cc0_scratch0), ((c : Thread nD τ).loc cc0_scratch0) ↦{fullShare} f) ∗ ∃ r, prngReg c r) := by
  unfold Pipeline.ΦA; rw [scopedRest0_eq]

theorem scratch_eq (c : Dev nD) (X : Vec F S1024x1024 .bf16) :
    (owns c (Memref.whole cc0_scratch0) fullShare X : sProp 𝕄) = iprop(((c : Thread nD τ).loc cc0_scratch0) ↦{fullShare} X) := by
  rw [owns_whole]

/-- The scratch buffer kept at some contents is the region's again. -/
theorem phi_forget (c : Dev nD) (X : Vec F S1024x1024 .bf16) :
    iprop(owns c (Memref.whole cc0_scratch0) fullShare X ∗ ∃ r, prngReg c r) ⊢ (Pipeline.ΦA spec0 c : sProp 𝕄) := by
  rw [PhiA_eq, scratch_eq]
  iintro ⟨H, Hr⟩
  isplitl [H]; · iexists X; iexact H
  iexact Hr

theorem phi_next (c : Dev nD) (t : Fin cfg0.N) :
    iprop(owns c (Memref.whole cc0_scratch0) fullShare (hBlk m c t.val) ∗ ∃ r, prngReg c r) ⊢ (Phi m c (t.val + 1) : sProp 𝕄) := by
  unfold Phi
  by_cases h : (t.val + 1) % 4 = 0
  · rw [if_pos h]; exact phi_forget c _
  · rw [if_neg h, show hBlk m c (t.val + 1) = hBlk m c t.val by unfold hBlk; rw [rowPt_succ _ h]]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [Phi_eq, Phi_eq, show (dats m 0 c).owesAt () t.succ = (dats m 0 c).owesAt () t.castSucc from rfl, after_0, after_1, after_2, after_3, after_4]
  rw [show (t.succ : Fin (cfg0.N + 1)).val = t.val + 1 from rfl, show (t.castSucc : Fin (cfg0.N + 1)).val = t.val from rfl]
  by_cases h : t.val % 4 = 0
  · rw [show (dats m 0 c).leavesExact 5 t = owns c (st0_5 t) fullShare ((dats m 0 c).after 5 t) by
      unfold Dat.leavesExact; rw [idle_false t h], after_5]
    have hh : hBlk m c t.val = k0_pay2 (iblk m c 1 t) (iblk m c 0 t) := by unfold hBlk; rw [rowPt_self t h]
    have hd : dtBlk m c t.val = k0_pay3 (iblk m c 1 t) (iblk m c 0 t) (iblk m c 3 t) := by unfold dtBlk; rw [rowPt_self t h]
    rw [show Phi m c t.val = Pipeline.ΦA spec0 c by unfold Phi; rw [if_pos h], PhiA_eq]
    iintro ⟨⟨⟨%f, HS⟩, Hr⟩, Ho, ⟨%d0, H0⟩, ⟨%d1, H1⟩, ⟨%d2, H2⟩, ⟨%d3, H3⟩, ⟨%d4, H4⟩, ⟨%d5, H5⟩⟩
    ihave HS := (Entails.of_eq (scratch_eq c f).symm) $$ HS
    iapply (body_first c (grid0.coords t) _ _ _ _ _ _ _ _ _ _ _ _ _ _ (iblk m c 0 t) (iblk m c 1 t) (iblk m c 2 t) (iblk m c 3 t) _ _ f ((cond_iff t).mpr h) _)
    isplitl [H0]; · iexact H0
    isplitl [H1]; · iexact H1
    isplitl [H2]; · iexact H2
    isplitl [H3]; · iexact H3
    isplitl [H4]; · iexact H4
    isplitl [H5]; · iexact H5
    isplitl [HS]; · iexact HS
    rw [hd, ← hh]
    iintro ⟨H0, H1, H2, H3, H4, H5, HS⟩
    isplitl [HS Hr]
    · iapply (phi_next m c t)
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    iexact H5
  · simp only [show ∀ d, (dats m 0 c).before 5 t d = dtBlk m c t.val from fun d => before_5 m c d t.val t.isLt h]
    have h5 : owns c (st0_5 t) fullShare (dtBlk m c t.val) ⊢ ((dats m 0 c).leavesExact 5 t : sProp 𝕄) := by
      unfold Dat.leavesExact
      rw [idle_true t h]
      cases hf : (cfg0.win 5).flush t
      · iintro H
        iexists (dtBlk m c t.val)
        rw [show (dats m 0 c).before 5 t (dtBlk m c t.val) = dtBlk m c t.val from before_5 m c _ t.val t.isLt h]
        iexact H
      · dsimp only; rw [after_5]
    rw [show Phi m c t.val = iprop(owns c (Memref.whole cc0_scratch0) fullShare (hBlk m c t.val) ∗ ∃ r, prngReg c r) by unfold Phi; rw [if_neg h]]
    iintro ⟨⟨HS, Hr⟩, Ho, ⟨%d0, H0⟩, ⟨%d1, H1⟩, ⟨%d2, H2⟩, ⟨%d3, H3⟩, ⟨%d4, H4⟩, ⟨%d5, H5⟩⟩
    iapply (body_next c (grid0.coords t) _ _ _ _ _ _ _ _ _ _ _ _ _ _ (iblk m c 0 t) (iblk m c 1 t) (iblk m c 2 t) (iblk m c 3 t) _ (dtBlk m c t.val) (hBlk m c t.val) (fun e => h ((cond_iff t).mp e)) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hr]
    · iapply (phi_next m c t)
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    iapply h5
    iexact H5

/-- The body table's row at point `t`'s slots. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem phi_in (c : Dev nD) : (Pipeline.ΦA spec0 c : sProp 𝕄) ⊢ (dats m 0 c).Φ 0 := by
  rw [Phi_eq]; unfold Phi; rw [if_pos (show ((0 : Fin (cfg0.N + 1)).val) % 4 = 0 from rfl)]
theorem phi_out (c : Dev nD) : (dats m 0 c).Φ (Fin.last cfg0.N) ⊢ (Pipeline.ΦA spec0 c : sProp 𝕄) := by
  rw [Phi_eq]; unfold Phi; rw [if_pos (show ((Fin.last cfg0.N).val) % 4 = 0 by show grid0.N % 4 = 0; rw [N_0])]

set_option backward.isDefEq.respectTransparency.types false in
/-- Over any float values, from any memory with zero counters, every weakly fair execution of @main ends with every array at what
    the proof data name, every other buffer as the host left it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)
    (Q' := fun r => Pipeline.FramePost cfgs (dats m) 0 (V m) r ∧ r.2.sem = fun _ => 0) (hQ' := fun _ h => h)

/-- The arguments are as launched. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame: the arguments end as launched and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept m _ h.1, h.2⟩) (run_main m ρ)

end Cert.Kernel2Ideal.Pf

end
-- ==== Proof.ProjMath.lean ====
/-
  The input projection in plain terms, over the extended reals: a row of x less its mean, over its standard deviation, modulated, and
  its inner products with the columns of w_in.
-/
module

public import Idealize.ShloMosaic.Lib.Pointwise

@[expose] public section

noncomputable section

namespace Cert.Proj

open Idealize.ShloMosaic

/-- Entry `k` of the row `X` normalised (mean and variance over its 1024 entries), times `1 + sc`, plus `sh`. -/
def norm (X : Fin 1024 → EReal) (sc sh : EReal) (k : Fin 1024) : EReal :=
  (X k - Ideal.div (∑ x, X x) (Ideal.ofBits FTy.f32 1149239296#32)) *
      Ideal.rsqrt
        (Ideal.div
            (∑ x, (X x - Ideal.div (∑ x, X x) (Ideal.ofBits FTy.f32 1149239296#32)) *
              (X x - Ideal.div (∑ x, X x) (Ideal.ofBits FTy.f32 1149239296#32)))
            (Ideal.ofBits FTy.f32 1149239296#32) +
          Ideal.ofBits FTy.f32 925353388#32) *
    (1 + sc) + sh

/-- The integer zero as a float is zero. -/
theorem sitofp_zero : (FloatOps.sitofp .f32 (0#32 : BitVec 32) : Ideal .f32) = (0 : EReal) := by
  show (((0#32 : BitVec 32).toInt : ℝ) : EReal) = 0
  simp

variable (x : Vec Ideal ⟨3, ![8, 4096, 1024]⟩ .f32) (md : Vec Ideal ⟨2, ![8, 6144]⟩ .f32) (w : Vec Ideal ⟨2, ![1024, 11296]⟩ .f32)

/-- Entry `k` of the normalised and modulated row `r`: position `r % 4096` of sequence `r / 4096`. -/
def hRow (r : Fin 24576) (k : Fin 1024) : EReal :=
  norm (fun k => x (ix3 ⟨r.val / 4096, by omega⟩ ⟨r.val % 4096, by omega⟩ k))
    (md (ix2 ⟨r.val / 4096, by omega⟩ ⟨1024 + k.val, by omega⟩)) (md (ix2 ⟨r.val / 4096, by omega⟩ ⟨k.val, by omega⟩)) k

/-- The columns before and behind the time-step columns. -/
def mainCol (r : Fin 24576) (q : Fin 11264) : EReal :=
  if h : q.val < 6144 then ∑ k, hRow x md r k * w (ix2 k ⟨q.val, by omega⟩)
  else ∑ k, hRow x md r k * w (ix2 k ⟨6176 + (q.val - 6144), by omega⟩)

/-- The 32 time-step columns, zeros up to 128. -/
def dtCol (r : Fin 24576) (q : Fin 128) : EReal :=
  if h : q.val < 32 then ∑ k, hRow x md r k * w (ix2 k ⟨6144 + q.val, by omega⟩) else 0

def mainOut : Vec Ideal ⟨2, ![24576, 11264]⟩ .bf16 := fun i => mainCol x md w (i 0) (i 1)
def dtOut : Vec Ideal ⟨2, ![24576, 128]⟩ .f32 := fun i => dtCol x md w (i 0) (i 1)

end Cert.Proj

end
-- ==== Proof.ProjRef.lean ====
/-
  The reference's two results are the plain terms of Proof/ProjMath.lean, entry by entry.
-/
module

public import proofs.«01_k».proof.Proof.ProjMath
public import proofs.«01_k».proof.Proof.Gen.Reference2Ideal.Run

@[expose] public section

set_option maxRecDepth 16384

noncomputable section

namespace Cert.Reference2Ideal.Pf

open Cert.Reference2Ideal Cert.Reference2Ideal.Gen Cert.Reference2Ideal.Value
open Idealize.ShloMosaic Idealize.ShloMosaic.TcCoe Idealize.ShloMosaic.Tactic Idealize.SL.Sem
open Cert.Proj (norm hRow mainCol dtCol mainOut dtOut)

variable (m : (ℓ : Loc nD τ sig) → Buf (Elt Ideal) ℓ) (ρ : Dev nD → PrngReg)

theorem main_eq_out (c : Dev nD) : res_main_v33 m c
    = mainOut (m ((c.tc : Thread nD τ).loc main_arg0)) (m ((c.tc : Thread nD τ).loc main_arg1)) (m ((c.tc : Thread nD τ).loc main_arg2)) := by
  funext i
  obtain ⟨r, q, rfl⟩ : ∃ (r : Fin 24576) (q : Fin 11264), i = ix2 r q := ⟨i 0, i 1, eq_ix2 i⟩
  show _ = mainCol _ _ _ r q
  unfold res_main_v33 mainCol hRow Cert.Proj.norm
  pointwise

/-- The reference's run, its results as the plain terms. -/
theorem run_out : θ_run defs (onTc (τ := τ) (main (F := Ideal))) ⟨m, fun _ => 0, ρ⟩ fun r => ∀ c : Dev nD,
      r.2.mem ((c.tc : Thread nD τ).loc main_v33)
        = mainOut (m ((c.tc : Thread nD τ).loc main_arg0)) (m ((c.tc : Thread nD τ).loc main_arg1)) (m ((c.tc : Thread nD τ).loc main_arg2))
      ∧ r.2.mem ((c.tc : Thread nD τ).loc main_v34)
        = dtOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (main_eq_out m c), (h c).2.1.trans ?_, (h c).2.2⟩) (Value.run m ρ)
  funext i
  obtain ⟨r, q, rfl⟩ : ∃ (r : Fin 24576) (q : Fin 128), i = ix2 r q := ⟨i 0, i 1, eq_ix2 i⟩
  show _ = dtCol _ _ _ r q
  unfold dtCol hRow Cert.Proj.norm
  pointwise [Cert.Proj.sitofp_zero]

end Cert.Reference2Ideal.Pf

end
-- ==== Proof.ProjValue.lean ====
/-
  The input projection's two results at the ideal instance: entry by entry the plain terms of Proof/ProjMath.lean.
-/
module

public import proofs.«01_k».proof.Proof.ProjMath
public import proofs.«01_k».proof.Proof.ProjRun
public import Idealize.ShloMosaic.Lib.Pipeline.ValueKit

@[expose] public section

set_option maxRecDepth 16384

noncomputable section

namespace Cert.Kernel2Ideal.Pf

open Cert.Kernel2Ideal Cert.Kernel2Ideal.Gen
open Idealize.ShloMosaic Idealize.ShloMosaic.TcCoe Idealize.ShloMosaic.Tactic Idealize.SL.Sem
open Cert.Proj (norm hRow mainCol dtCol mainOut dtOut)

variable (m : (ℓ : Loc nD τ sig) → Buf (Elt Ideal) ℓ) (ρ : Dev nD → PrngReg)

/-! ## What the host prepares -/

abbrev xA (c : Dev nD) : Vec Ideal S8x4096x1024 .f32 := m ((c.tc : Thread nD τ).loc main_arg0)
abbrev mA (c : Dev nD) : Vec Ideal S8x6144 .f32 := m ((c.tc : Thread nD τ).loc main_arg1)
abbrev wA (c : Dev nD) : Vec Ideal S1024x11296 .f32 := m ((c.tc : Thread nD τ).loc main_arg2)

def wMain (w : Vec Ideal S1024x11296 .f32) : Vec Ideal S1024x11264 .bf16 :=
  truncf .bf16 (concatenate S1024x11264 1 [⟨S1024x6144, extractStridedSlice S1024x6144 ![0, 0] w slices_S1024x11296_S1024x6144_0_0⟩, ⟨S1024x5120, extractStridedSlice S1024x5120 ![0, 6176] w slices_S1024x11296_S1024x5120_0_6176⟩] concatenates_S1024x6144_S1024x5120_S1024x11264_d1 : FVec Ideal S1024x11264 .f32) bitsLt_bf16_f32
def wDt (w : Vec Ideal S1024x11296 .f32) : Vec Ideal S1024x128 .bf16 :=
  truncf .bf16 (pad S1024x128 ![0, 0] ![0, 96] ![0, 0] (extractStridedSlice S1024x32 ![0, 6144] w slices_S1024x11296_S1024x32_0_6144) (sitofp .f32 (constantI S_ 32 0#32)) pads_S1024x32_S1024x128_000_0960 h_S_ : FVec Ideal S1024x128 .f32) bitsLt_bf16_f32

theorem V_v3 (c : Dev nD) : V m c main_v3 = wMain (wA m c) := by
  show StableHlo.after _ _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl
theorem V_v6 (c : Dev nD) : V m c main_v6 = wDt (wA m c) := by
  show StableHlo.after _ _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl
theorem V_v7 (c : Dev nD) : V m c main_v7 = shapeCast S32768x1024 (xA m c) shapeCasts_S8x4096x1024_S32768x1024 := by
  show StableHlo.after _ _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl
theorem V_v8 (c : Dev nD) : V m c main_v8 = shapeCast S8x6x1024 (mA m c) shapeCasts_S8x6144_S8x6x1024 := by
  show StableHlo.after _ _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl

/-! ## Where a point's blocks lie -/

theorem idx : ∀ t : Fin cfg0.N, win0_0.index t = ![t.val / 4, 0] ∧ win0_1.index t = ![t.val / 16, 0, 0] ∧ win0_2.index t = ![0, t.val % 4]
    ∧ win0_3.index t = ![0, 0] ∧ win0_4.index t = ![t.val / 4, t.val % 4] ∧ win0_5.index t = ![t.val / 4, 0] :=
  (by decide +kernel : ∀ t : Fin grid0.N, win0_0.index t = ![t.val / 4, 0] ∧ win0_1.index t = ![t.val / 16, 0, 0] ∧ win0_2.index t = ![0, t.val % 4]
    ∧ win0_3.index t = ![0, 0] ∧ win0_4.index t = ![t.val / 4, t.val % 4] ∧ win0_5.index t = ![t.val / 4, 0])

/-- The x block of point `t` at an entry. -/
theorem xBlk (c : Dev nD) (t : Fin cfg0.N) (r k : Fin 1024) (a : Fin 8) (b : Fin 4096) (h : 4096 * a.val + b.val = 1024 * (t.val / 4) + r.val) :
    iblk m c 0 t (ix2 r k) = xA m c (ix3 a b k) := by
  blk_simp [iblk]
  rw [V_v7, show (win0_0.blk t).view.emb (ix2 r k) = ix2 (n0 := 32768) (n1 := 1024) ⟨4096 * a.val + b.val, by omega⟩ k by blk_ext [idx t]]
  pointwise
  blk_ext []
/-- The modulation block. -/
theorem mBlk (c : Dev nD) (t : Fin cfg0.N) (j : Fin 6) (k : Fin 1024) (a : Fin 8) (b : Fin 6144) (ha : a.val = t.val / 16) (hb : b.val = 1024 * j.val + k.val) :
    iblk m c 1 t (ix3 0 j k) = mA m c (ix2 a b) := by
  blk_simp [iblk]
  rw [V_v8, show (win0_1.blk t).view.emb (ix3 0 j k) = ix3 (n0 := 8) (n1 := 6) (n2 := 1024) a j k by blk_ext [idx t]]
  pointwise
  blk_ext []
/-- The block of weight columns. -/
theorem wBlk (c : Dev nD) (t : Fin cfg0.N) (k : Fin 1024) (q : Fin 2816) (b : Fin 11264) (h : b.val = 2816 * (t.val % 4) + q.val) :
    iblk m c 2 t (ix2 k q) = wMain (wA m c) (ix2 k b) := by
  blk_simp [iblk]
  rw [V_v3, show (win0_2.blk t).view.emb (ix2 k q) = ix2 (n0 := 1024) (n1 := 11264) k b by blk_ext [idx t]]
/-- The time-step columns. -/
theorem dBlk (c : Dev nD) (t : Fin cfg0.N) (k : Fin 1024) (q : Fin 128) :
    iblk m c 3 t (ix2 k q) = wDt (wA m c) (ix2 k q) := by
  blk_simp [iblk]
  rw [V_v6, show (win0_3.blk t).view.emb (ix2 k q) = ix2 (n0 := 1024) (n1 := 128) k q by blk_ext [idx t]]

theorem wMain_apply (w : Vec Ideal S1024x11296 .f32) (k : Fin 1024) (q : Fin 11264) : wMain w (ix2 k q)
    = if h : q.val < 6144 then w (ix2 k ⟨q.val, by omega⟩) else w (ix2 k ⟨6176 + (q.val - 6144), by omega⟩) := by
  pointwise [wMain]
theorem wDt_apply (w : Vec Ideal S1024x11296 .f32) (k : Fin 1024) (q : Fin 128) : wDt w (ix2 k q)
    = if h : q.val < 32 then w (ix2 k ⟨6144 + q.val, by omega⟩) else (0 : EReal) := by
  pointwise [wDt]
  rw [Cert.Proj.sitofp_zero]

/-! ## The row block -/

theorem pay1_apply (v9 : Vec Ideal S1x6x1024 .f32) (v11 : Vec Ideal S1024x1024 .f32) (r k : Fin 1024) :
    k0_pay1 v9 v11 (ix2 r k) = norm (fun k => v11 (ix2 r k)) (v9 (ix3 0 1 k)) (v9 (ix3 0 0 k)) k := by
  pointwise [k0_pay1]
  rfl

theorem row_apply (c : Dev nD) (t : Fin cfg0.N) (r k : Fin 1024) (R : Fin 24576) (hR : R.val = 1024 * (t.val / 4) + r.val) :
    k0_pay1 (iblk m c 1 (rowPt t.val)) (iblk m c 0 (rowPt t.val)) (ix2 r k) = hRow (xA m c) (mA m c) R k := by
  have ht := lt96 t
  have hp : (rowPt t.val).val = 4 * (t.val / 4) := by show 4 * (t.val / 4) % 96 = _; omega
  rw [pay1_apply]
  unfold hRow
  congr 1
  · funext k
    exact xBlk m c _ r k _ _ (by rw [hp]; dsimp only; omega)
  · exact mBlk m c _ 1 k _ _ (by rw [hp]; dsimp only; omega) (by dsimp only; omega)
  · exact mBlk m c _ 0 k _ _ (by rw [hp]; dsimp only; omega) (by dsimp only; omega)

/-! ## The two arrays -/

theorem main_out (c : Dev nD) : (dats m 0 c).arrAt 4 cfg0.N = mainOut (xA m c) (mA m c) (wA m c) := by
  refine (dats m 0 c).arrAt_eq_of_covers 4 _ (by decide +kernel) fun t hf y => ?_
  blk_simp
  rw [after_4]
  obtain ⟨r, q, rfl⟩ : ∃ (r : Fin 1024) (q : Fin 2816), y = ix2 r q := ⟨y 0, y 1, eq_ix2 y⟩
  have ht := lt96 t
  rw [show (win0_4.blk t).view.emb (ix2 r q)
    = ix2 (n0 := 24576) (n1 := 11264) ⟨1024 * (t.val / 4) + r.val, by omega⟩ ⟨2816 * (t.val % 4) + q.val, by omega⟩ by blk_ext [idx t]]
  show _ = mainCol (xA m c) (mA m c) (wA m c) _ _
  unfold mainCol
  pointwise [k0_pay4, hBlk, k0_pay2]
  split
  all_goals
    refine Finset.sum_congr rfl fun k _ => ?_
    rw [row_apply m c t r k ⟨1024 * (t.val / 4) + r.val, by omega⟩ rfl, wBlk m c t k q ⟨2816 * (t.val % 4) + q.val, by omega⟩ rfl, wMain_apply]
  · rw [dif_pos ‹_›]
  · rw [dif_neg ‹_›]

theorem dt_out (c : Dev nD) : (dats m 0 c).arrAt 5 cfg0.N = dtOut (xA m c) (mA m c) (wA m c) := by
  refine (dats m 0 c).arrAt_eq_of_covers 5 _ (by decide +kernel) fun t hf y => ?_
  blk_simp
  rw [after_5]
  obtain ⟨r, q, rfl⟩ : ∃ (r : Fin 1024) (q : Fin 128), y = ix2 r q := ⟨y 0, y 1, eq_ix2 y⟩
  have ht := lt96 t
  rw [show (win0_5.blk t).view.emb (ix2 r q)
    = ix2 (n0 := 24576) (n1 := 128) ⟨1024 * (t.val / 4) + r.val, by omega⟩ q by blk_ext [idx t]]
  show _ = dtCol (xA m c) (mA m c) (wA m c) _ _
  unfold dtCol
  pointwise [dtBlk, k0_pay3]
  split
  · refine Finset.sum_congr rfl fun k _ => ?_
    rw [row_apply m c t r k ⟨1024 * (t.val / 4) + r.val, by omega⟩ rfl, dBlk m c (rowPt t.val) k q, wDt_apply, dif_pos ‹_›]
  · refine Finset.sum_eq_zero fun k _ => ?_
    rw [dBlk m c (rowPt t.val) k q, wDt_apply, dif_neg ‹_›, mul_zero]

/-! ## The run, read at the results and the arguments -/

theorem run_out : θ_run defs (onTc (τ := τ) (main (F := Ideal))) ⟨m, fun _ => 0, ρ⟩ (fun r => ∀ c : Dev nD,
      r.2.mem ((c.tc : Thread nD τ).loc main_v9_0) = mainOut (xA m c) (mA m c) (wA m c)
      ∧ r.2.mem ((c.tc : Thread nD τ).loc main_v9_1) = dtOut (xA m c) (mA m c) (wA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 4).trans (main_out m c), ((h.1 c).1 5).trans (dt_out m c), args_kept m _ h.1 c⟩) (run_main m ρ)

end Cert.Kernel2Ideal.Pf

end
-- ==== Proof.MergeMath.lean ====
/-
  The merge in plain terms, over the extended reals: the gated convolution of a position and the two before it, the two mixers' outputs
  gated and added, the product with w_o, and the two norms behind it.
-/
module

public import Idealize.ShloMosaic.Lib.Pointwise

@[expose] public section

noncomputable section

namespace Cert.Merge

open Idealize.ShloMosaic

/-! ## On one row -/

/-- Entry `k` of the row `X` less the row's mean. -/
def cen (X : Fin 1024 → EReal) (k : Fin 1024) : EReal := X k - Ideal.div (∑ x, X x) (Ideal.ofBits FTy.f32 1149239296#32)

/-- The variance of a row whose entries less the mean are `X`. -/
def var (X : Fin 1024 → EReal) : EReal := Ideal.div (∑ x, X x * X x) (Ideal.ofBits FTy.f32 1149239296#32)

/-- Entry `k` of the row `X` normalised. -/
def nrm (X : Fin 1024 → EReal) (k : Fin 1024) : EReal := cen X k * Ideal.rsqrt (var (cen X) + Ideal.ofBits FTy.f32 925353388#32)

/-- Entry `j` of the mixers' outputs, each gated, added: `a` is the SSD mixer's row, `b` the gated convolution's. -/
def mrg (a : Fin 2048 → EReal) (b ga gb : Fin 1024 → EReal) (wa : Fin 2048 → Fin 1024 → EReal) (wb : Fin 1024 → Fin 1024 → EReal)
    (j : Fin 1024) : EReal :=
  Ideal.logistic (ga j) * (∑ l, a l * wa l j) + Ideal.logistic (gb j) * (∑ l, b l * wb l j)

/-- Entry `k` of the row before the norm: a multiple of `x`'s row and the gated product of the merged row `M` with w_o. -/
def pre (M x g : Fin 1024 → EReal) (wo : Fin 1024 → Fin 1024 → EReal) (k : Fin 1024) : EReal :=
  Ideal.ofBits FTy.f32 1066940400#32 * x k + g k * ∑ j, M j * wo j k

/-- Three taps of the convolution, times the gate. -/
def conv (b w0 v0 w1 v1 w2 v2 : EReal) : EReal := b * (w0 * v0 + w1 * v1 + w2 * v2)

/-! ## On the arrays -/

variable (yn : Vec Ideal ⟨2, ![24576, 2048]⟩ .bf16) (p : Vec Ideal ⟨2, ![24576, 11264]⟩ .bf16)
  (x : Vec Ideal ⟨3, ![8, 4096, 1024]⟩ .f32) (md : Vec Ideal ⟨2, ![8, 6144]⟩ .f32)
  (wa : Vec Ideal ⟨2, ![2048, 1024]⟩ .f32) (wb wo : Vec Ideal ⟨2, ![1024, 1024]⟩ .f32) (cw : Vec Ideal ⟨2, ![3, 1024]⟩ .f32)
  (lg lb : Vec Ideal ⟨1, ![1024]⟩ .f32)

/-- What the convolution runs over, `d` positions back in the sequence: zero before its start. -/
def back (d : ℕ) (r : Fin 24576) (k : Fin 1024) : EReal :=
  if d ≤ r.val % 4096 then
    p (ix2 ⟨r.val - d, by omega⟩ ⟨7168 + k.val, by omega⟩) * p (ix2 ⟨r.val - d, by omega⟩ ⟨8192 + k.val, by omega⟩)
  else 0

/-- The gated convolution of row `r`. -/
def cRow (r : Fin 24576) (k : Fin 1024) : EReal :=
  conv (p (ix2 r ⟨6144 + k.val, by omega⟩)) (cw (ix2 0 k)) (back p 2 r k) (cw (ix2 1 k)) (back p 1 r k) (cw (ix2 2 k)) (back p 0 r k)

/-- The merged row. -/
def mRow (r : Fin 24576) : Fin 1024 → EReal :=
  mrg (fun l => yn (ix2 r l)) (cRow p cw r) (fun k => p (ix2 r ⟨9216 + k.val, by omega⟩)) (fun k => p (ix2 r ⟨10240 + k.val, by omega⟩))
    (fun l k => wa (ix2 l k)) (fun l k => wb (ix2 l k))

/-- The row before the norm: position `r % 4096` of sequence `r / 4096`. -/
def pRow (r : Fin 24576) : Fin 1024 → EReal :=
  pre (mRow yn p wa wb cw r) (fun k => x (ix3 ⟨r.val / 4096, by omega⟩ ⟨r.val % 4096, by omega⟩ k))
    (fun k => md (ix2 ⟨r.val / 4096, by omega⟩ ⟨2048 + k.val, by omega⟩)) (fun l k => wo (ix2 l k))

/-- x after the mixers. -/
def x1Row (r : Fin 24576) (k : Fin 1024) : EReal := nrm (pRow yn p x md wa wb wo cw r) k * lg (ix1 k) + lb (ix1 k)

/-- The next h: the row above normalised and modulated. -/
def h2Row (r : Fin 24576) (k : Fin 1024) : EReal :=
  nrm (x1Row yn p x md wa wb wo cw lg lb r) k * (1 + md (ix2 ⟨r.val / 4096, by omega⟩ ⟨4096 + k.val, by omega⟩))
    + md (ix2 ⟨r.val / 4096, by omega⟩ ⟨3072 + k.val, by omega⟩)

def x1Out : Vec Ideal ⟨2, ![24576, 1024]⟩ .f32 := fun i => x1Row yn p x md wa wb wo cw lg lb (i 0) (i 1)
def h2Out : Vec Ideal ⟨2, ![24576, 1024]⟩ .bf16 := fun i => h2Row yn p x md wa wb wo cw lg lb (i 0) (i 1)

/-- The columns of half `a` of the pairs: 256 of the first 512, then the 256 that lie 512 further. -/
def col (a : Fin 2) (q : Fin 512) : Fin 1024 :=
  if q.val < 256 then ⟨256 * a.val + q.val, by omega⟩ else ⟨256 * a.val + q.val + 256, by omega⟩

def pairOut : Vec Ideal ⟨3, ![2, 24576, 512]⟩ .bf16 := fun i => h2Row yn p x md wa wb wo cw lg lb (i 1) (col (i 0) (i 2))

end Cert.Merge

end
-- ==== Proof.MergeRef.lean ====
/-
  The reference of the merge: its three results are the plain terms of Proof/MergeMath.lean, entry by entry.
-/
module

public import proofs.«01_k».proof.Proof.MergeMath
public import proofs.«01_k».proof.Proof.ProjMath
public import proofs.«01_k».proof.Proof.Gen.Reference3Ideal.Run

@[expose] public section

set_option maxRecDepth 16384

noncomputable section

namespace Cert.Reference3Ideal.Pf

open Cert.Reference3Ideal Cert.Reference3Ideal.Gen Cert.Reference3Ideal.Value
open Idealize.ShloMosaic Idealize.ShloMosaic.TcCoe Idealize.ShloMosaic.Tactic Idealize.SL.Sem
open Cert.Merge (cen var nrm mrg pre conv back cRow mRow pRow x1Row h2Row col x1Out h2Out pairOut)

variable (m : (ℓ : Loc nD τ sig) → Buf (Elt Ideal) ℓ) (ρ : Dev nD → PrngReg)

abbrev a0 (c : Dev nD) : Vec Ideal S24576x2048 .bf16 := StableHlo.launchContents m c (Proc.devRef .tc main_arg0)
abbrev a1 (c : Dev nD) : Vec Ideal S24576x11264 .bf16 := StableHlo.launchContents m c (Proc.devRef .tc main_arg1)
abbrev a2 (c : Dev nD) : Vec Ideal S8x4096x1024 .f32 := StableHlo.launchContents m c (Proc.devRef .tc main_arg2)
abbrev a3 (c : Dev nD) : Vec Ideal S8x6144 .f32 := StableHlo.launchContents m c (Proc.devRef .tc main_arg3)
abbrev a4 (c : Dev nD) : Vec Ideal S2048x1024 .f32 := StableHlo.launchContents m c (Proc.devRef .tc main_arg4)
abbrev a5 (c : Dev nD) : Vec Ideal S1024x1024 .f32 := StableHlo.launchContents m c (Proc.devRef .tc main_arg5)
abbrev a6 (c : Dev nD) : Vec Ideal S1024x1024 .f32 := StableHlo.launchContents m c (Proc.devRef .tc main_arg6)
abbrev a7 (c : Dev nD) : Vec Ideal S3x1024 .f32 := StableHlo.launchContents m c (Proc.devRef .tc main_arg7)
abbrev a8 (c : Dev nD) : Vec Ideal S1024 .f32 := StableHlo.launchContents m c (Proc.devRef .tc main_arg8)
abbrev a9 (c : Dev nD) : Vec Ideal S1024 .f32 := StableHlo.launchContents m c (Proc.devRef .tc main_arg9)

/-- What the convolution runs over, two zero positions before each sequence: the row `d` positions back. -/
theorem v23_apply (c : Dev nD) (a : Fin 6) (b : Fin 4098) (k : Fin 1024) (d : ℕ) (r : Fin 24576) (ha : a.val = r.val / 4096)
    (hb : b.val + d = r.val % 4096 + 2) (hd : d ≤ 2) :
    res_main_v23 (F := Ideal) (StableHlo.launchContents m c) (ix3 a b k) = back (a1 m c) d r k := by
  unfold res_main_v23 back
  pointwise [Cert.Proj.sitofp_zero]
  have hr : d ≤ r.val % 4096 → a.val * 4096 + (b.val - 2) = r.val - d := by omega
  by_cases h : d ≤ r.val % 4096
  · rw [dif_pos (by omega), if_pos h]
    simp only [hr h]
  · rw [dif_neg (by omega), if_neg h]
theorem v23_2 (c : Dev nD) (r : Fin 24576) (k : Fin 1024) (ha : r.val / 4096 < 6) (hb : r.val % 4096 < 4098) :
    res_main_v23 (F := Ideal) (StableHlo.launchContents m c) (ix3 ⟨r.val / 4096, ha⟩ ⟨r.val % 4096, hb⟩ k) = back (a1 m c) 2 r k :=
  v23_apply m c _ _ k 2 r rfl rfl (by omega)
theorem v23_1 (c : Dev nD) (r : Fin 24576) (k : Fin 1024) (ha : r.val / 4096 < 6) (hb : 1 + r.val % 4096 < 4098) :
    res_main_v23 (F := Ideal) (StableHlo.launchContents m c) (ix3 ⟨r.val / 4096, ha⟩ ⟨1 + r.val % 4096, hb⟩ k) = back (a1 m c) 1 r k :=
  v23_apply m c _ _ k 1 r rfl (by dsimp only; omega) (by omega)
theorem v23_0 (c : Dev nD) (r : Fin 24576) (k : Fin 1024) (ha : r.val / 4096 < 6) (hb : 2 + r.val % 4096 < 4098) :
    res_main_v23 (F := Ideal) (StableHlo.launchContents m c) (ix3 ⟨r.val / 4096, ha⟩ ⟨2 + r.val % 4096, hb⟩ k) = back (a1 m c) 0 r k :=
  v23_apply m c _ _ k 0 r rfl (by dsimp only; omega) (by omega)

theorem v69_apply (c : Dev nD) (r : Fin 24576) (k : Fin 1024) :
    res_main_v69 (F := Ideal) (StableHlo.launchContents m c) (ix3 ⟨r.val / 4096, by omega⟩ ⟨r.val % 4096, by omega⟩ k)
    = pRow (a0 m c) (a1 m c) (a2 m c) (a3 m c) (a4 m c) (a5 m c) (a6 m c) (a7 m c) r k := by
  unfold res_main_v69
  pointwise
  simp only [v23_0, v23_1, v23_2]
  rfl

theorem v75_apply (c : Dev nD) (r : Fin 24576) (k : Fin 1024) :
    res_main_v75 (F := Ideal) (StableHlo.launchContents m c) (ix3 ⟨r.val / 4096, by omega⟩ ⟨r.val % 4096, by omega⟩ k)
    = cen (pRow (a0 m c) (a1 m c) (a2 m c) (a3 m c) (a4 m c) (a5 m c) (a6 m c) (a7 m c) r) k := by
  unfold res_main_v75
  pointwise [v69_apply]
  rfl

theorem v91_apply (c : Dev nD) (r : Fin 24576) (k : Fin 1024) :
    res_main_v91 (F := Ideal) (StableHlo.launchContents m c) (ix3 ⟨r.val / 4096, by omega⟩ ⟨r.val % 4096, by omega⟩ k)
    = x1Row (a0 m c) (a1 m c) (a2 m c) (a3 m c) (a4 m c) (a5 m c) (a6 m c) (a7 m c) (a8 m c) (a9 m c) r k := by
  unfold res_main_v91
  pointwise [v75_apply]
  rfl

theorem v97_apply (c : Dev nD) (r : Fin 24576) (k : Fin 1024) :
    res_main_v97 (F := Ideal) (StableHlo.launchContents m c) (ix3 ⟨r.val / 4096, by omega⟩ ⟨r.val % 4096, by omega⟩ k)
    = cen (x1Row (a0 m c) (a1 m c) (a2 m c) (a3 m c) (a4 m c) (a5 m c) (a6 m c) (a7 m c) (a8 m c) (a9 m c) r) k := by
  unfold res_main_v97
  pointwise [v91_apply]
  rfl

theorem v115_apply (c : Dev nD) (r : Fin 24576) (k : Fin 1024) :
    res_main_v115 (F := Ideal) (StableHlo.launchContents m c) (ix2 r k) = h2Row (a0 m c) (a1 m c) (a2 m c) (a3 m c) (a4 m c) (a5 m c) (a6 m c) (a7 m c) (a8 m c) (a9 m c) r k := by
  unfold res_main_v115
  pointwise [v97_apply]
  rfl

/-- The reference's run, its results as the plain terms. -/
theorem run_out : θ_run defs (onTc (τ := τ) (main (F := Ideal))) ⟨m, fun _ => 0, ρ⟩ fun r => ∀ c : Dev nD,
      r.2.mem ((c.tc : Thread nD τ).loc main_v125) = x1Out (a0 m c) (a1 m c) (a2 m c) (a3 m c) (a4 m c) (a5 m c) (a6 m c) (a7 m c) (a8 m c) (a9 m c)
      ∧ r.2.mem ((c.tc : Thread nD τ).loc main_v115) = h2Out (a0 m c) (a1 m c) (a2 m c) (a3 m c) (a4 m c) (a5 m c) (a6 m c) (a7 m c) (a8 m c) (a9 m c)
      ∧ r.2.mem ((c.tc : Thread nD τ).loc main_v124) = pairOut (a0 m c) (a1 m c) (a2 m c) (a3 m c) (a4 m c) (a5 m c) (a6 m c) (a7 m c) (a8 m c) (a9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨(h c).1.trans ?_, (h c).2.1.trans ?_, (h c).2.2.1.trans ?_, (h c).2.2.2⟩) (Value.run m ρ)
  · funext i
    obtain ⟨r, q, rfl⟩ : ∃ (r : Fin 24576) (q : Fin 1024), i = ix2 r q := ⟨i 0, i 1, eq_ix2 i⟩
    show _ = x1Row (a0 m c) (a1 m c) (a2 m c) (a3 m c) (a4 m c) (a5 m c) (a6 m c) (a7 m c) (a8 m c) (a9 m c) r q
    pointwise [v91_apply]
  · funext i
    obtain ⟨r, q, rfl⟩ : ∃ (r : Fin 24576) (q : Fin 1024), i = ix2 r q := ⟨i 0, i 1, eq_ix2 i⟩
    exact v115_apply m c r q
  · funext i
    obtain ⟨a, r, q, rfl⟩ : ∃ (a : Fin 2) (r : Fin 24576) (q : Fin 512), i = ix3 a r q := ⟨i 0, i 1, i 2, eq_ix3 i⟩
    show _ = h2Row (a0 m c) (a1 m c) (a2 m c) (a3 m c) (a4 m c) (a5 m c) (a6 m c) (a7 m c) (a8 m c) (a9 m c) r (col a q)
    pointwise [v115_apply]
    have ha := a.isLt
    split <;> split <;>
    · congr 1
      apply Fin.ext
      simp only [col]
      split <;> dsimp only <;> omega

end Cert.Reference3Ideal.Pf

end
-- ==== Proof.MergePay.lean ====
/-
  The merge's payloads at an entry, as the plain terms of Proof/MergeMath.lean on one row.
-/
module

public import proofs.«01_k».proof.Proof.MergeMath
public import proofs.«01_k».proof.Proof.Gen.Kernel3Ideal.Skeleton

@[expose] public section

set_option maxRecDepth 16384

noncomputable section

namespace Cert.Kernel3Ideal.Pf

open Cert.Kernel3Ideal Cert.Kernel3Ideal.Gen
open Idealize.ShloMosaic Idealize.ShloMosaic.TcCoe Idealize.ShloMosaic.Tactic
open Cert.Merge (cen var nrm mrg pre conv)

/-! ## The first 256 rows -/

theorem pay7_apply (v13 : Vec Ideal S1x1024 .f32) (v14 : Vec Ideal S256x1024 .f32) (v17 : Vec Ideal S1x1024 .f32) (v18 : Vec Ideal S256x1024 .f32) (v22 : Vec Ideal S1x1024 .f32) (v23 : Vec Ideal S256x1024 .f32) (v27 : Vec Ideal S256x1024 .bf16) (r : Fin 256) (k : Fin 1024) :
    k0_pay7 v13 v14 v17 v18 v22 v23 v27 (ix2 r k)
      = conv (v27 (ix2 r k)) (v13 (ix2 0 k)) (v14 (ix2 r k)) (v17 (ix2 0 k)) (v18 (ix2 r k)) (v22 (ix2 0 k)) (v23 (ix2 r k)) := by
  pointwise [k0_pay7]
  rfl

theorem pay8_apply (v12 : FVec Ideal S6x1024 .f32) (v30 : FVec Ideal S256x1024 .bf16) (v31 : Vec Ideal S1024x1024 .bf16) (v34 : Vec Ideal S256x2048 .bf16) (v35 : Vec Ideal S2048x1024 .bf16) (v38 : Vec Ideal S256x1024 .bf16) (v42 : Vec Ideal S256x1024 .bf16) (v48 : Vec Ideal S1024x1024 .bf16) (v51 : Vec Ideal S256x1024 .f32) (r : Fin 256) (k : Fin 1024) :
    k0_pay8 v12 v30 v31 v34 v35 v38 v42 v48 v51 (ix2 r k)
      = cen (pre (mrg (fun l => v34 (ix2 r l)) (fun l => v30 (ix2 r l)) (fun l => v38 (ix2 r l)) (fun l => v42 (ix2 r l)) (fun l j => v35 (ix2 l j)) (fun l j => v31 (ix2 l j)))
          (fun k => v51 (ix2 r k)) (fun k => v12 (ix2 2 k)) (fun l j => v48 (ix2 l j))) k := by
  pointwise [k0_pay8]
  rfl

theorem pay9_apply (v12 : FVec Ideal S6x1024 .f32) (v30 : FVec Ideal S256x1024 .bf16) (v31 : Vec Ideal S1024x1024 .bf16) (v34 : Vec Ideal S256x2048 .bf16) (v35 : Vec Ideal S2048x1024 .bf16) (v38 : Vec Ideal S256x1024 .bf16) (v42 : Vec Ideal S256x1024 .bf16) (v48 : Vec Ideal S1024x1024 .bf16) (v51 : Vec Ideal S256x1024 .f32) (r : Fin 256) :
    k0_pay9 v12 v30 v31 v34 v35 v38 v42 v48 v51 (ix2 r 0)
      = ∑ k, (k0_pay8 v12 v30 v31 v34 v35 v38 v42 v48 v51 (ix2 r k) * k0_pay8 v12 v30 v31 v34 v35 v38 v42 v48 v51 (ix2 r k) : EReal) := by
  pointwise [k0_pay9]

theorem pay11_apply (X : Fin 1024 → EReal) (v64 : FVec Ideal S256x1024 .f32) (v67 : FVec Ideal S256x1 .f32) (v75 : Vec Ideal S1x1024 .f32) (v79 : Vec Ideal S1x1024 .f32) (r : Fin 256) (k : Fin 1024)
    (h64 : ∀ k, v64 (ix2 r k) = cen X k) (h67 : v67 (ix2 r 0) = ∑ k, cen X k * cen X k) :
    k0_pay11 v64 v67 k0_pay10 v75 v79 (ix2 r k) = nrm X k * v75 (ix2 0 k) + v79 (ix2 0 k) := by
  pointwise [k0_pay11, k0_pay10]
  rw [h64, h67]
  rfl

theorem pay12_apply (v12 : FVec Ideal S6x1024 .f32) (v64 : FVec Ideal S256x1024 .f32) (v67 v68 : FVec Ideal S256x1 .f32) (v75 : Vec Ideal S1x1024 .f32) (v79 : Vec Ideal S1x1024 .f32) (r : Fin 256) (k : Fin 1024) :
    k0_pay12 v12 v64 v67 v68 v75 v79 (ix2 r k)
      = nrm (fun k => k0_pay11 v64 v67 v68 v75 v79 (ix2 r k)) k * (1 + v12 (ix2 4 k)) + v12 (ix2 3 k) := by
  pointwise [k0_pay12]
  rfl

/-! ## The other 256 rows -/

theorem pay21_apply (v144 : Vec Ideal S1x1024 .f32) (v145 : Vec Ideal S256x1024 .f32) (v148 : Vec Ideal S1x1024 .f32) (v149 : Vec Ideal S256x1024 .f32) (v153 : Vec Ideal S1x1024 .f32) (v154 : Vec Ideal S256x1024 .f32) (v158 : Vec Ideal S256x1024 .bf16) (v162 : Vec Ideal S1024x1024 .bf16) (v165 : Vec Ideal S256x2048 .bf16) (v166 : Vec Ideal S2048x1024 .bf16) (v169 : Vec Ideal S256x1024 .bf16) (v173 : Vec Ideal S256x1024 .bf16) (r : Fin 256) (k : Fin 1024) :
    k0_pay21 v144 v145 v148 v149 v153 v154 v158 v162 v165 v166 v169 v173 (ix2 r k)
      = mrg (fun l => v165 (ix2 r l)) (fun k => conv (v158 (ix2 r k)) (v144 (ix2 0 k)) (v145 (ix2 r k)) (v148 (ix2 0 k)) (v149 (ix2 r k)) (v153 (ix2 0 k)) (v154 (ix2 r k)))
          (fun l => v169 (ix2 r l)) (fun l => v173 (ix2 r l)) (fun l j => v166 (ix2 l j)) (fun l j => v162 (ix2 l j)) k := by
  pointwise [k0_pay21]
  rfl

theorem pay22_apply (v12 : FVec Ideal S6x1024 .f32) (v178 : FVec Ideal S256x1024 .bf16) (v179 : Vec Ideal S1024x1024 .bf16) (v182 : Vec Ideal S256x1024 .f32) (v206 : Vec Ideal S1x1024 .f32) (v210 : Vec Ideal S1x1024 .f32) (r : Fin 256) (k : Fin 1024) :
    k0_pay22 v12 v178 v179 v182 v206 v210 (ix2 r k)
      = nrm (pre (fun j => v178 (ix2 r j)) (fun k => v182 (ix2 r k)) (fun k => v12 (ix2 2 k)) (fun l j => v179 (ix2 l j))) k * v206 (ix2 0 k) + v210 (ix2 0 k) := by
  pointwise [k0_pay22]
  rfl

theorem pay23_apply (v12 : FVec Ideal S6x1024 .f32) (v178 : FVec Ideal S256x1024 .bf16) (v179 : Vec Ideal S1024x1024 .bf16) (v182 : Vec Ideal S256x1024 .f32) (v206 : Vec Ideal S1x1024 .f32) (v210 : Vec Ideal S1x1024 .f32) (r : Fin 256) (k : Fin 1024) :
    k0_pay23 v12 v178 v179 v182 v206 v210 (ix2 r k) = cen (fun k => k0_pay22 v12 v178 v179 v182 v206 v210 (ix2 r k)) k := by
  pointwise [k0_pay23]
  rfl

theorem pay24_apply (X : Fin 1024 → EReal) (v12 : FVec Ideal S6x1024 .f32) (v220 : FVec Ideal S256x1024 .f32) (r : Fin 256) (k : Fin 1024)
    (h : ∀ k, v220 (ix2 r k) = cen X k) :
    k0_pay24 v12 v220 (ix2 r k) = nrm X k * (1 + v12 (ix2 4 k)) + v12 (ix2 3 k) := by
  pointwise [k0_pay24]
  simp only [h]
  rfl

end Cert.Kernel3Ideal.Pf

end
-- ==== Proof.MergeScratch.lean ====
/-
  The merge's scratch: eight rows kept from the point before (zeros at a sequence's start), then the point's 512 rows of what the
  convolution runs over. Its loads, row by row.
-/
module

public import proofs.«01_k».proof.Proof.MergePay
public import proofs.«01_k».proof.Proof.Gen.Kernel3Ideal.Frame
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Kernel3Ideal.Pf

open Cert.Kernel3Ideal Cert.Kernel3Ideal.Gen
open Idealize.ShloMosaic Idealize.ShloMosaic.TcCoe Idealize.ShloMosaic.Tactic Idealize.SL.Sem

variable (m : (ℓ : Loc nD τ sig) → Buf (Elt Ideal) ℓ)

abbrev SP := View.Piece (Elt Ideal) S520x1024 .f32

/-- The store of rows 8 to 519. -/
abbrev pHi (w : Vec Ideal S512x1024 .f32) : SP := ⟨Rect.unit ![8, 0] ![512, 1024] inb_S520x1024_S512x1024_8_0, w⟩
/-- The store of rows 0 to 7. -/
abbrev pLo (w : Vec Ideal S8x1024 .f32) : SP := ⟨Rect.unit ![0, 0] ![8, 1024] inb_S520x1024_S8x1024_0_0, w⟩

theorem canon_hi (w : Vec Ideal S512x1024 .f32) (L : List SP) (j : Fin 520) (r : Fin 512) (k : Fin 1024) (h : j.val = 8 + r.val) :
    View.canon (pHi w :: L) (ix2 j k) = w (ix2 r k) := by
  have e : (ix2 j k : S520x1024.Idx) = (Rect.unit ![8, 0] ![512, 1024] inb_S520x1024_S512x1024_8_0 : Rect S520x1024).emb (ix2 (n0 := 512) (n1 := 1024) r k) := by
    funext a
    apply Fin.ext
    match a with
    | ⟨0, _⟩ => show j.val = 8 + 1 * r.val; omega
    | ⟨1, _⟩ => show k.val = 0 + 1 * k.val; omega
  rw [e]
  exact View.canon_cons_emb (Rect.unit ![8, 0] ![512, 1024] inb_S520x1024_S512x1024_8_0) w L _

theorem canon_hi_skip (w : Vec Ideal S512x1024 .f32) (L : List SP) (j : Fin 520) (k : Fin 1024) (h : j.val < 8) :
    View.canon (pHi w :: L) (ix2 j k) = View.canon L (ix2 j k) := by
  refine View.canon_cons_of_not_mem _ L fun hm => ?_
  have h0 := ((Rect.mem_set_unit (s := S520x1024) (inb := inb_S520x1024_S512x1024_8_0)).mp hm (0 : Fin 2)).1
  change 8 ≤ j.val at h0
  omega

theorem canon_lo (w : Vec Ideal S8x1024 .f32) (L : List SP) (j : Fin 520) (k : Fin 1024) (h : j.val < 8) :
    View.canon (pLo w :: L) (ix2 j k) = w (ix2 ⟨j.val, h⟩ k) := by
  have e : (ix2 j k : S520x1024.Idx) = (Rect.unit ![0, 0] ![8, 1024] inb_S520x1024_S8x1024_0_0 : Rect S520x1024).emb (ix2 (n0 := 8) (n1 := 1024) ⟨j.val, h⟩ k) := by
    funext a
    apply Fin.ext
    match a with
    | ⟨0, _⟩ => show j.val = 0 + 1 * j.val; omega
    | ⟨1, _⟩ => show k.val = 0 + 1 * k.val; omega
  rw [e]
  exact View.canon_cons_emb (Rect.unit ![0, 0] ![8, 1024] inb_S520x1024_S8x1024_0_0) w L _

theorem idx_rows {n : ℕ} (o : ℕ) (inb : ∀ a, (![o, 0] : Fin 2 → ℕ) a + (![n, 1024] : Fin 2 → ℕ) a ≤ S520x1024.size a) (r : Fin n) (k : Fin 1024) (h : o + r.val < 520) :
    (Rect.unit ![o, 0] ![n, 1024] inb : Rect S520x1024).toLoadRect.idx (ix2 (n0 := n) (n1 := 1024) r k) = (ix2 ⟨o + r.val, h⟩ k : S520x1024.Idx) := by
  funext a
  apply Fin.ext
  match a with
  | ⟨0, _⟩ => show o + 1 * r.val = o + r.val; omega
  | ⟨1, _⟩ => show 0 + 1 * k.val = k.val; omega

/-- A load of rows from `o` on reads, at a row below 512 of the store of rows 8 to 519, that row. -/
theorem cover_hi {n : ℕ} (w : Vec Ideal S512x1024 .f32) (L : List SP) (o : ℕ) (inb : ∀ a, (![o, 0] : Fin 2 → ℕ) a + (![n, 1024] : Fin 2 → ℕ) a ≤ S520x1024.size a) (r : Fin n) (r' : Fin 512) (k : Fin 1024)
    (h : o + r.val = 8 + r'.val) :
    (View.whole cc0_scratch0).readCov (pHi w :: L) (Rect.unit ![o, 0] ![n, 1024] inb : Rect S520x1024).toLoadRect (ix2 (n0 := n) (n1 := 1024) r k) = w (ix2 r' k) :=
  (congrFun (View.readCov_eq_canon' (View.whole cc0_scratch0) (pHi w :: L) (Rect.unit ![o, 0] ![n, 1024] inb : Rect S520x1024).toLoadRect) _).trans
    ((congrArg (View.canon (pHi w :: L)) (idx_rows o inb r k (by omega))).trans (canon_hi w L _ r' k h))

theorem cover_lo (w : Vec Ideal S512x1024 .f32) (z : Vec Ideal S8x1024 .f32) (o : ℕ) (inb : ∀ a, (![o, 0] : Fin 2 → ℕ) a + (![256, 1024] : Fin 2 → ℕ) a ≤ S520x1024.size a) (r : Fin 256) (k : Fin 1024)
    (h : o + r.val < 8) :
    (View.whole cc0_scratch0).readCov [pHi w, pLo z] (Rect.unit ![o, 0] ![256, 1024] inb : Rect S520x1024).toLoadRect (ix2 (n0 := 256) (n1 := 1024) r k) = z (ix2 ⟨o + r.val, h⟩ k) :=
  (congrFun (View.readCov_eq_canon' (View.whole cc0_scratch0) [pHi w, pLo z] (Rect.unit ![o, 0] ![256, 1024] inb : Rect S520x1024).toLoadRect) _).trans
    ((congrArg (View.canon [pHi w, pLo z]) (idx_rows o inb r k (by omega))).trans ((canon_hi_skip w _ _ k h).trans (canon_lo z [] _ k h)))

theorem kept_hi (f : cc0_scratch0.ty.Contents (Elt Ideal)) (w : Vec Ideal S512x1024 .f32) (o : ℕ) (inb : ∀ a, (![o, 0] : Fin 2 → ℕ) a + (![256, 1024] : Fin 2 → ℕ) a ≤ S520x1024.size a) (r : Fin 256) (r' : Fin 512) (k : Fin 1024)
    (h : o + r.val = 8 + r'.val) :
    View.ld (View.read (Elt Ideal) (View.whole cc0_scratch0) ((View.whole cc0_scratch0).writes (Elt Ideal) f [pHi w])) (Rect.unit ![o, 0] ![256, 1024] inb : Rect S520x1024) (ix2 (n0 := 256) (n1 := 1024) r k) = w (ix2 r' k) := by
  rw [View.ld_unit_apply_of _ _ _ inb _ (ix2 (n0 := 520) (n1 := 1024) ⟨o + r.val, by omega⟩ k) (by
    intro a
    match a with
    | ⟨0, _⟩ => rfl
    | ⟨1, _⟩ => show k.val = 0 + k.val; omega)]
  exact View.read_writes_cons_rows_of_mem (View.whole cc0_scratch0) f inb_S520x1024_S512x1024_8_0 w [] _ (ix2 (n0 := 512) (n1 := 1024) r' k) rfl h rfl

theorem kept_lo (f : cc0_scratch0.ty.Contents (Elt Ideal)) (w : Vec Ideal S512x1024 .f32) (o : ℕ) (inb : ∀ a, (![o, 0] : Fin 2 → ℕ) a + (![256, 1024] : Fin 2 → ℕ) a ≤ S520x1024.size a) (r : Fin 256) (k : Fin 1024)
    (h : o + r.val < 8) :
    View.ld (View.read (Elt Ideal) (View.whole cc0_scratch0) ((View.whole cc0_scratch0).writes (Elt Ideal) f [pHi w])) (Rect.unit ![o, 0] ![256, 1024] inb : Rect S520x1024) (ix2 (n0 := 256) (n1 := 1024) r k)
      = View.read (Elt Ideal) (View.whole cc0_scratch0) f (ix2 (n0 := 520) (n1 := 1024) ⟨o + r.val, by omega⟩ k) := by
  rw [View.ld_unit_apply_of _ _ _ inb _ (ix2 (n0 := 520) (n1 := 1024) ⟨o + r.val, by omega⟩ k) (by
    intro a
    match a with
    | ⟨0, _⟩ => rfl
    | ⟨1, _⟩ => show k.val = 0 + k.val; omega)]
  exact View.read_writes_cons_rows_of_not_mem (View.whole cc0_scratch0) f inb_S520x1024_S512x1024_8_0 w [] _ rfl rfl (.inl h)

/-- Rows 0 to 7 as a point leaves them: its last eight. -/
theorem tail_rows (c : Dev nD) (t : Fin cfg0.N) (j : Fin 8) (k : Fin 1024) :
    (outsAt0 m c t.val t.isLt).2.2.2.2 (ix2 ⟨j.val, by omega⟩ k) = k0_pay5 (iblk m c 2 t) (iblk m c 3 t) (ix2 ⟨504 + j.val, by omega⟩ k) := by
  by_cases h : t.val % 8 = 0
  · rw [outsAt0_A m c t h]
    frame_open
    simp (disch := decide) only [↓ View.readCov_skip, ↓ View.readCov_cons_toLoadRect, ↓ View.readCov_fill]
    frame_out
    rw [canon_lo _ _ _ k j.isLt]
    pointwise [k0_pay3]
    exact cover_hi _ _ 512 _ j ⟨504 + j.val, by omega⟩ k (by dsimp only; omega)
  · rw [outsAt0_B m c t h]
    frame_open
    simp (disch := decide) only [↓ View.readCov_skip, ↓ View.readCov_cons_toLoadRect, ↓ View.readCov_fill]
    frame_out
    rw [canon_lo _ _ _ k j.isLt]
    pointwise [k0_pay3]
    exact cover_hi _ _ 512 _ j ⟨504 + j.val, by omega⟩ k (by dsimp only; omega)

end Cert.Kernel3Ideal.Pf

end
-- ==== Proof.MergeBlk.lean ====
/-
  What the merge's host code prepares and what each block of a point holds, entry by entry, in terms of the argument arrays.
-/
module

public import proofs.«01_k».proof.Proof.MergeScratch

@[expose] public section

set_option maxRecDepth 16384

noncomputable section

namespace Cert.Kernel3Ideal.Pf

open Cert.Kernel3Ideal Cert.Kernel3Ideal.Gen
open Idealize.ShloMosaic Idealize.ShloMosaic.TcCoe Idealize.ShloMosaic.Tactic Idealize.SL.Sem

variable (m : (ℓ : Loc nD τ sig) → Buf (Elt Ideal) ℓ)

/-! ## What the host prepares -/

abbrev A0 (c : Dev nD) : Vec Ideal S24576x2048 .bf16 := m ((c.tc : Thread nD τ).loc main_arg0)
abbrev A1 (c : Dev nD) : Vec Ideal S24576x11264 .bf16 := m ((c.tc : Thread nD τ).loc main_arg1)
abbrev A2 (c : Dev nD) : Vec Ideal S8x4096x1024 .f32 := m ((c.tc : Thread nD τ).loc main_arg2)
abbrev A3 (c : Dev nD) : Vec Ideal S8x6144 .f32 := m ((c.tc : Thread nD τ).loc main_arg3)
abbrev A4 (c : Dev nD) : Vec Ideal S2048x1024 .f32 := m ((c.tc : Thread nD τ).loc main_arg4)
abbrev A5 (c : Dev nD) : Vec Ideal S1024x1024 .f32 := m ((c.tc : Thread nD τ).loc main_arg5)
abbrev A6 (c : Dev nD) : Vec Ideal S1024x1024 .f32 := m ((c.tc : Thread nD τ).loc main_arg6)
abbrev A7 (c : Dev nD) : Vec Ideal S3x1024 .f32 := m ((c.tc : Thread nD τ).loc main_arg7)
abbrev A8 (c : Dev nD) : Vec Ideal S1024 .f32 := m ((c.tc : Thread nD τ).loc main_arg8)
abbrev A9 (c : Dev nD) : Vec Ideal S1024 .f32 := m ((c.tc : Thread nD τ).loc main_arg9)

theorem V_v6 (c : Dev nD) : V m c main_v6 = shapeCast S32768x1024 (A2 m c) shapeCasts_S8x4096x1024_S32768x1024 := by
  show StableHlo.after _ _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl
theorem V_v7 (c : Dev nD) : V m c main_v7 = shapeCast S8x6x1024 (A3 m c) shapeCasts_S8x6144_S8x6x1024 := by
  show StableHlo.after _ _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl
theorem V_v8 (c : Dev nD) : V m c main_v8 = (truncf .bf16 (A4 m c : FVec Ideal S2048x1024 .f32) bitsLt_bf16_f32 : FVec Ideal S2048x1024 .bf16) := by
  show StableHlo.after _ _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
theorem V_v9 (c : Dev nD) : V m c main_v9 = (truncf .bf16 (A5 m c : FVec Ideal S1024x1024 .f32) bitsLt_bf16_f32 : FVec Ideal S1024x1024 .bf16) := by
  show StableHlo.after _ _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
theorem V_v10 (c : Dev nD) : V m c main_v10 = (truncf .bf16 (A6 m c : FVec Ideal S1024x1024 .f32) bitsLt_bf16_f32 : FVec Ideal S1024x1024 .bf16) := by
  show StableHlo.after _ _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
theorem V_v11 (c : Dev nD) : V m c main_v11 = shapeCast S1x1024 (A8 m c) shapeCasts_S1024_S1x1024 := by
  show StableHlo.after _ _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl
theorem V_v12 (c : Dev nD) : V m c main_v12 = shapeCast S1x1024 (A9 m c) shapeCasts_S1024_S1x1024 := by
  show StableHlo.after _ _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl

/-! ## Where a point's blocks lie -/

theorem idx : ∀ t : Fin cfg0.N, win0_0.index t = ![t.val, 0] ∧ win0_1.index t = ![t.val, 6] ∧ win0_2.index t = ![t.val, 7] ∧ win0_3.index t = ![t.val, 8] ∧ win0_4.index t = ![t.val, 9] ∧ win0_5.index t = ![t.val, 10] ∧ win0_6.index t = ![t.val, 0] ∧ win0_7.index t = ![t.val / 8, 0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_15.index t = ![t.val, 0] ∧ win0_16.index t = ![t.val, 0] ∧ win0_17.index t = ![0, t.val, 0] :=
  (by decide +kernel : ∀ t : Fin grid0.N, win0_0.index t = ![t.val, 0] ∧ win0_1.index t = ![t.val, 6] ∧ win0_2.index t = ![t.val, 7] ∧ win0_3.index t = ![t.val, 8] ∧ win0_4.index t = ![t.val, 9] ∧ win0_5.index t = ![t.val, 10] ∧ win0_6.index t = ![t.val, 0] ∧ win0_7.index t = ![t.val / 8, 0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_15.index t = ![t.val, 0] ∧ win0_16.index t = ![t.val, 0] ∧ win0_17.index t = ![0, t.val, 0])

theorem lt48 (t : Fin cfg0.N) : t.val < 48 := lt_of_lt_of_eq t.isLt N_0

theorem ynBlk (c : Dev nD) (t : Fin cfg0.N) (r : Fin 512) (l : Fin 2048) (R : Fin 24576) (h : R.val = 512 * t.val + r.val) :
    iblk m c 0 t (ix2 r l) = A0 m c (ix2 R l) := by
  blk_simp [iblk]
  rw [V_main_arg0, show (win0_0.blk t).view.emb (ix2 r l) = ix2 (n0 := 24576) (n1 := 2048) R l by blk_ext [idx t]]
theorem pBlk1 (c : Dev nD) (t : Fin cfg0.N) (r : Fin 512) (k : Fin 1024) (R : Fin 24576) (h : R.val = 512 * t.val + r.val) :
    iblk m c 1 t (ix2 r k) = A1 m c (ix2 R ⟨6144 + k.val, by omega⟩) := by
  blk_simp [iblk]
  rw [V_main_arg1, show (win0_1.blk t).view.emb (ix2 r k) = ix2 (n0 := 24576) (n1 := 11264) R ⟨6144 + k.val, by omega⟩ by blk_ext [idx t]]
theorem pBlk2 (c : Dev nD) (t : Fin cfg0.N) (r : Fin 512) (k : Fin 1024) (R : Fin 24576) (h : R.val = 512 * t.val + r.val) :
    iblk m c 2 t (ix2 r k) = A1 m c (ix2 R ⟨7168 + k.val, by omega⟩) := by
  blk_simp [iblk]
  rw [V_main_arg1, show (win0_2.blk t).view.emb (ix2 r k) = ix2 (n0 := 24576) (n1 := 11264) R ⟨7168 + k.val, by omega⟩ by blk_ext [idx t]]
theorem pBlk3 (c : Dev nD) (t : Fin cfg0.N) (r : Fin 512) (k : Fin 1024) (R : Fin 24576) (h : R.val = 512 * t.val + r.val) :
    iblk m c 3 t (ix2 r k) = A1 m c (ix2 R ⟨8192 + k.val, by omega⟩) := by
  blk_simp [iblk]
  rw [V_main_arg1, show (win0_3.blk t).view.emb (ix2 r k) = ix2 (n0 := 24576) (n1 := 11264) R ⟨8192 + k.val, by omega⟩ by blk_ext [idx t]]
theorem pBlk4 (c : Dev nD) (t : Fin cfg0.N) (r : Fin 512) (k : Fin 1024) (R : Fin 24576) (h : R.val = 512 * t.val + r.val) :
    iblk m c 4 t (ix2 r k) = A1 m c (ix2 R ⟨9216 + k.val, by omega⟩) := by
  blk_simp [iblk]
  rw [V_main_arg1, show (win0_4.blk t).view.emb (ix2 r k) = ix2 (n0 := 24576) (n1 := 11264) R ⟨9216 + k.val, by omega⟩ by blk_ext [idx t]]
theorem pBlk5 (c : Dev nD) (t : Fin cfg0.N) (r : Fin 512) (k : Fin 1024) (R : Fin 24576) (h : R.val = 512 * t.val + r.val) :
    iblk m c 5 t (ix2 r k) = A1 m c (ix2 R ⟨10240 + k.val, by omega⟩) := by
  blk_simp [iblk]
  rw [V_main_arg1, show (win0_5.blk t).view.emb (ix2 r k) = ix2 (n0 := 24576) (n1 := 11264) R ⟨10240 + k.val, by omega⟩ by blk_ext [idx t]]
theorem xBlk (c : Dev nD) (t : Fin cfg0.N) (r : Fin 512) (k : Fin 1024) (a : Fin 8) (b : Fin 4096) (h : 4096 * a.val + b.val = 512 * t.val + r.val) :
    iblk m c 6 t (ix2 r k) = A2 m c (ix3 a b k) := by
  blk_simp [iblk]
  rw [V_v6, show (win0_6.blk t).view.emb (ix2 r k) = ix2 (n0 := 32768) (n1 := 1024) ⟨4096 * a.val + b.val, by omega⟩ k by blk_ext [idx t]]
  pointwise
  blk_ext []
theorem mBlk (c : Dev nD) (t : Fin cfg0.N) (j : Fin 6) (k : Fin 1024) (a : Fin 8) (b : Fin 6144) (ha : a.val = t.val / 8) (hb : b.val = 1024 * j.val + k.val) :
    iblk m c 7 t (ix3 0 j k) = A3 m c (ix2 a b) := by
  blk_simp [iblk]
  rw [V_v7, show (win0_7.blk t).view.emb (ix3 0 j k) = ix3 (n0 := 8) (n1 := 6) (n2 := 1024) a j k by blk_ext [idx t]]
  pointwise
  blk_ext []
theorem waBlk (c : Dev nD) (t : Fin cfg0.N) (l : Fin 2048) (k : Fin 1024) :
    iblk m c 8 t (ix2 l k) = A4 m c (ix2 l k) := by
  blk_simp [iblk]
  rw [V_v8, show (win0_8.blk t).view.emb (ix2 l k) = ix2 (n0 := 2048) (n1 := 1024) l k by blk_ext [idx t]]
  pointwise
theorem wbBlk (c : Dev nD) (t : Fin cfg0.N) (l k : Fin 1024) :
    iblk m c 9 t (ix2 l k) = A5 m c (ix2 l k) := by
  blk_simp [iblk]
  rw [V_v9, show (win0_9.blk t).view.emb (ix2 l k) = ix2 (n0 := 1024) (n1 := 1024) l k by blk_ext [idx t]]
  pointwise
theorem woBlk (c : Dev nD) (t : Fin cfg0.N) (l k : Fin 1024) :
    iblk m c 10 t (ix2 l k) = A6 m c (ix2 l k) := by
  blk_simp [iblk]
  rw [V_v10, show (win0_10.blk t).view.emb (ix2 l k) = ix2 (n0 := 1024) (n1 := 1024) l k by blk_ext [idx t]]
  pointwise
theorem cwBlk (c : Dev nD) (t : Fin cfg0.N) (j : Fin 3) (k : Fin 1024) :
    iblk m c 11 t (ix2 j k) = A7 m c (ix2 j k) := by
  blk_simp [iblk]
  rw [V_main_arg7, show (win0_11.blk t).view.emb (ix2 j k) = ix2 (n0 := 3) (n1 := 1024) j k by blk_ext [idx t]]
theorem lgBlk (c : Dev nD) (t : Fin cfg0.N) (k : Fin 1024) :
    iblk m c 12 t (ix2 0 k) = A8 m c (ix1 k) := by
  blk_simp [iblk]
  rw [V_v11, show (win0_12.blk t).view.emb (ix2 0 k) = ix2 (n0 := 1) (n1 := 1024) 0 k by blk_ext [idx t]]
  pointwise
  try blk_ext []
theorem lbBlk (c : Dev nD) (t : Fin cfg0.N) (k : Fin 1024) :
    iblk m c 13 t (ix2 0 k) = A9 m c (ix1 k) := by
  blk_simp [iblk]
  rw [V_v12, show (win0_13.blk t).view.emb (ix2 0 k) = ix2 (n0 := 1) (n1 := 1024) 0 k by blk_ext [idx t]]
  pointwise
  try blk_ext []

end Cert.Kernel3Ideal.Pf

end
-- ==== Proof.MergeRow.lean ====
/-
  A row of the merge's payloads: if the row's loads hold the plain entries of the arrays, the payloads are the plain rows.
-/
module

public import proofs.«01_k».proof.Proof.MergePay

@[expose] public section

set_option maxRecDepth 16384

noncomputable section

namespace Cert.Kernel3Ideal.Pf

open Cert.Kernel3Ideal Cert.Kernel3Ideal.Gen
open Idealize.ShloMosaic Idealize.ShloMosaic.TcCoe Idealize.ShloMosaic.Tactic
open Cert.Merge (cen var nrm mrg pre conv back cRow mRow pRow x1Row h2Row)

/-! ## Payloads that move entries -/

theorem pay5_apply (v3 v5 : Vec Ideal S512x1024 .bf16) (r : Fin 512) (k : Fin 1024) :
    k0_pay5 v3 v5 (ix2 r k) = (v3 (ix2 r k) * v5 (ix2 r k) : EReal) := by
  pointwise [k0_pay5]
theorem pay6_apply (v11 : Vec Ideal S1x6x1024 .f32) (j : Fin 6) (k : Fin 1024) : k0_pay6 v11 (ix2 j k) = v11 (ix3 0 j k) := by
  pointwise [k0_pay6]
theorem pay4_apply (j : Fin 8) (k : Fin 1024) : k0_pay4 (F := Ideal) (ix2 j k) = (0 : EReal) := by
  pointwise [k0_pay4]
theorem pay13_apply (v12 : FVec Ideal S6x1024 .f32) (v64 : FVec Ideal S256x1024 .f32) (v67 v68 : FVec Ideal S256x1 .f32) (v75 v79 : Vec Ideal S1x1024 .f32) (r : Fin 256) (k : Fin 1024) :
    k0_pay13 v12 v64 v67 v68 v75 v79 (ix2 r k) = k0_pay12 v12 v64 v67 v68 v75 v79 (ix2 r k) := by
  pointwise [k0_pay13]
theorem pay16_apply (v12 : FVec Ideal S6x1024 .f32) (v64 : FVec Ideal S256x1024 .f32) (v67 v68 : FVec Ideal S256x1 .f32) (v75 v79 : Vec Ideal S1x1024 .f32) (r q : Fin 256) :
    k0_pay16 (k0_pay14 v12 v64 v67 v68 v75 v79) (ix3 0 r q) = k0_pay12 v12 v64 v67 v68 v75 v79 (ix2 r ⟨q.val, by omega⟩) := by
  pointwise [k0_pay16, k0_pay14]
theorem pay18_apply (v12 : FVec Ideal S6x1024 .f32) (v64 : FVec Ideal S256x1024 .f32) (v67 v68 : FVec Ideal S256x1 .f32) (v75 v79 : Vec Ideal S1x1024 .f32) (r q : Fin 256) :
    k0_pay18 (k0_pay14 v12 v64 v67 v68 v75 v79) (ix3 0 r q) = k0_pay12 v12 v64 v67 v68 v75 v79 (ix2 r ⟨256 + q.val, by omega⟩) := by
  pointwise [k0_pay18, k0_pay14]
theorem pay17_apply (v107 : FVec Ideal S256x1024 .f32) (r q : Fin 256) : k0_pay17 v107 (ix3 0 r q) = v107 (ix2 r ⟨512 + q.val, by omega⟩) := by
  pointwise [k0_pay17, k0_pay15]
theorem pay19_apply (v107 : FVec Ideal S256x1024 .f32) (r q : Fin 256) : k0_pay19 v107 (ix3 0 r q) = v107 (ix2 r ⟨768 + q.val, by omega⟩) := by
  pointwise [k0_pay19, k0_pay15]
  congr 2
  apply Fin.ext
  dsimp only
  omega

variable (v12 : FVec Ideal S6x1024 .f32) (v220 : FVec Ideal S256x1024 .f32)

theorem pay25_apply (r : Fin 256) (k : Fin 1024) : k0_pay25 v12 v220 (ix2 r k) = k0_pay24 v12 v220 (ix2 r k) := by
  pointwise [k0_pay25]
theorem pay28_apply (r q : Fin 256) : k0_pay28 v12 v220 (ix3 0 r q) = k0_pay24 v12 v220 (ix2 r ⟨q.val, by omega⟩) := by
  pointwise [k0_pay28, k0_pay26]
theorem pay29_apply (r q : Fin 256) : k0_pay29 v12 v220 (ix3 0 r q) = k0_pay24 v12 v220 (ix2 r ⟨512 + q.val, by omega⟩) := by
  pointwise [k0_pay29, k0_pay27]
theorem pay30_apply (r q : Fin 256) : k0_pay30 v12 v220 (ix3 0 r q) = k0_pay24 v12 v220 (ix2 r ⟨256 + q.val, by omega⟩) := by
  pointwise [k0_pay30, k0_pay26]
theorem pay31_apply (r q : Fin 256) : k0_pay1 (k0_pay31 v12 v220) (ix3 0 r q) = k0_pay24 v12 v220 (ix2 r ⟨768 + q.val, by omega⟩) := by
  pointwise [k0_pay1, k0_pay31, k0_pay27]
  congr 2
  apply Fin.ext
  dsimp only
  omega

/-! ## A row -/

section

variable (yn : Vec Ideal ⟨2, ![24576, 2048]⟩ .bf16) (p : Vec Ideal ⟨2, ![24576, 11264]⟩ .bf16)
  (x : Vec Ideal ⟨3, ![8, 4096, 1024]⟩ .f32) (md : Vec Ideal ⟨2, ![8, 6144]⟩ .f32)
  (wa : Vec Ideal ⟨2, ![2048, 1024]⟩ .f32) (wb wo : Vec Ideal ⟨2, ![1024, 1024]⟩ .f32) (cw : Vec Ideal ⟨2, ![3, 1024]⟩ .f32)
  (lg lb : Vec Ideal ⟨1, ![1024]⟩ .f32)

/-- The loads of row `r` of 256 rows hold the arrays' row `R`: of the weights all, of the rest that row. -/
structure RowOk (R : Fin 24576) (r : Fin 256) (v12 : FVec Ideal S6x1024 .f32)
    (w0 : Vec Ideal S1x1024 .f32) (e0 : Vec Ideal S256x1024 .f32) (w1 : Vec Ideal S1x1024 .f32) (e1 : Vec Ideal S256x1024 .f32) (w2 : Vec Ideal S1x1024 .f32) (e2 : Vec Ideal S256x1024 .f32)
    (b : Vec Ideal S256x1024 .bf16) (vb : Vec Ideal S1024x1024 .bf16) (y : Vec Ideal S256x2048 .bf16) (va : Vec Ideal S2048x1024 .bf16) (ga gb : Vec Ideal S256x1024 .bf16)
    (vo : Vec Ideal S1024x1024 .bf16) (xs : Vec Ideal S256x1024 .f32) (g h : Vec Ideal S1x1024 .f32) : Prop where
  hg1 : ∀ k, v12 (ix2 2 k) = md (ix2 ⟨R.val / 4096, by omega⟩ ⟨2048 + k.val, by omega⟩)
  hsh : ∀ k, v12 (ix2 3 k) = md (ix2 ⟨R.val / 4096, by omega⟩ ⟨3072 + k.val, by omega⟩)
  hsc : ∀ k, v12 (ix2 4 k) = md (ix2 ⟨R.val / 4096, by omega⟩ ⟨4096 + k.val, by omega⟩)
  hw0 : ∀ k, w0 (ix2 0 k) = cw (ix2 0 k)
  he0 : ∀ k, e0 (ix2 r k) = back p 2 R k
  hw1 : ∀ k, w1 (ix2 0 k) = cw (ix2 1 k)
  he1 : ∀ k, e1 (ix2 r k) = back p 1 R k
  hw2 : ∀ k, w2 (ix2 0 k) = cw (ix2 2 k)
  he2 : ∀ k, e2 (ix2 r k) = back p 0 R k
  hb : ∀ k, b (ix2 r k) = p (ix2 R ⟨6144 + k.val, by omega⟩)
  hvb : ∀ l k, vb (ix2 l k) = wb (ix2 l k)
  hy : ∀ l, y (ix2 r l) = yn (ix2 R l)
  hva : ∀ l k, va (ix2 l k) = wa (ix2 l k)
  hga : ∀ k, ga (ix2 r k) = p (ix2 R ⟨9216 + k.val, by omega⟩)
  hgb : ∀ k, gb (ix2 r k) = p (ix2 R ⟨10240 + k.val, by omega⟩)
  hvo : ∀ l k, vo (ix2 l k) = wo (ix2 l k)
  hx : ∀ k, xs (ix2 r k) = x (ix3 ⟨R.val / 4096, by omega⟩ ⟨R.val % 4096, by omega⟩ k)
  hlg : ∀ k, g (ix2 0 k) = lg (ix1 k)
  hlb : ∀ k, h (ix2 0 k) = lb (ix1 k)

variable {yn p x md wa wb wo cw lg lb}
variable {R : Fin 24576} {r : Fin 256} {v12 : FVec Ideal S6x1024 .f32}
    {w0 : Vec Ideal S1x1024 .f32} {e0 : Vec Ideal S256x1024 .f32} {w1 : Vec Ideal S1x1024 .f32} {e1 : Vec Ideal S256x1024 .f32} {w2 : Vec Ideal S1x1024 .f32} {e2 : Vec Ideal S256x1024 .f32}
    {b : Vec Ideal S256x1024 .bf16} {vb : Vec Ideal S1024x1024 .bf16} {y : Vec Ideal S256x2048 .bf16} {va : Vec Ideal S2048x1024 .bf16} {ga gb : Vec Ideal S256x1024 .bf16}
    {vo : Vec Ideal S1024x1024 .bf16} {xs : Vec Ideal S256x1024 .f32} {g h : Vec Ideal S1x1024 .f32}
variable (H : RowOk yn p x md wa wb wo cw lg lb R r v12 w0 e0 w1 e1 w2 e2 b vb y va ga gb vo xs g h)
include H

theorem lo_cen (k : Fin 1024) : k0_pay8 v12 (k0_pay7 w0 e0 w1 e1 w2 e2 b) vb y va ga gb vo xs (ix2 r k) = cen (pRow yn p x md wa wb wo cw R) k := by
  rw [pay8_apply]
  simp only [pay7_apply, H.hg1, H.hw0, H.he0, H.hw1, H.he1, H.hw2, H.he2, H.hb, H.hvb, H.hy, H.hva, H.hga, H.hgb, H.hvo, H.hx]
  rfl

theorem lo_x1 (k : Fin 1024) : k0_pay11 (k0_pay8 v12 (k0_pay7 w0 e0 w1 e1 w2 e2 b) vb y va ga gb vo xs) (k0_pay9 v12 (k0_pay7 w0 e0 w1 e1 w2 e2 b) vb y va ga gb vo xs) k0_pay10 g h (ix2 r k)
    = x1Row yn p x md wa wb wo cw lg lb R k := by
  rw [pay11_apply (pRow yn p x md wa wb wo cw R) _ _ g h r k (lo_cen H) (by rw [pay9_apply]; simp only [lo_cen H]), H.hlg, H.hlb]
  rfl

theorem lo_h2 (k : Fin 1024) : k0_pay12 v12 (k0_pay8 v12 (k0_pay7 w0 e0 w1 e1 w2 e2 b) vb y va ga gb vo xs) (k0_pay9 v12 (k0_pay7 w0 e0 w1 e1 w2 e2 b) vb y va ga gb vo xs) k0_pay10 g h (ix2 r k)
    = h2Row yn p x md wa wb wo cw lg lb R k := by
  rw [pay12_apply]
  simp only [lo_x1 H, H.hsh, H.hsc]
  rfl

theorem hi_x1 (k : Fin 1024) : k0_pay22 v12 (k0_pay21 w0 e0 w1 e1 w2 e2 b vb y va ga gb) vo xs g h (ix2 r k) = x1Row yn p x md wa wb wo cw lg lb R k := by
  rw [pay22_apply]
  simp only [pay21_apply, H.hg1, H.hw0, H.he0, H.hw1, H.he1, H.hw2, H.he2, H.hb, H.hvb, H.hy, H.hva, H.hga, H.hgb, H.hvo, H.hx, H.hlg, H.hlb]
  rfl

theorem hi_h2 (k : Fin 1024) : k0_pay24 v12 (k0_pay23 v12 (k0_pay21 w0 e0 w1 e1 w2 e2 b vb y va ga gb) vo xs g h) (ix2 r k) = h2Row yn p x md wa wb wo cw lg lb R k := by
  rw [pay24_apply (x1Row yn p x md wa wb wo cw lg lb R) _ _ _ _ (fun k => by rw [pay23_apply]; simp only [hi_x1 H]), H.hsh, H.hsc]
  rfl

end

end Cert.Kernel3Ideal.Pf

end
-- ==== Proof.MergeRows.lean ====
/-
  The loads of a point hold the arrays' rows: the first 256 rows of the point and the other 256.
-/
module

public import proofs.«01_k».proof.Proof.MergeBlk
public import proofs.«01_k».proof.Proof.MergeRow

@[expose] public section

set_option maxRecDepth 16384

noncomputable section

namespace Cert.Kernel3Ideal.Pf

open Cert.Kernel3Ideal Cert.Kernel3Ideal.Gen
open Idealize.ShloMosaic Idealize.ShloMosaic.TcCoe Idealize.ShloMosaic.Tactic Idealize.SL.Sem
open Cert.Merge (back)

variable (m : (ℓ : Loc nD τ sig) → Buf (Elt Ideal) ℓ)

/-! ## What the convolution runs over -/

/-- The product stored in the scratch at a row: what the convolution sees there `d` positions later. -/
theorem pay5_back (c : Dev nD) (t : Fin cfg0.N) (r' : Fin 512) (k : Fin 1024) (d : ℕ) (R : Fin 24576) (hR : R.val = 512 * t.val + r'.val + d) (hd : d ≤ R.val % 4096) :
    k0_pay5 (iblk m c 2 t) (iblk m c 3 t) (ix2 r' k) = back (A1 m c) d R k := by
  rw [pay5_apply, pBlk2 m c t r' k ⟨R.val - d, by omega⟩ (by dsimp only; omega), pBlk3 m c t r' k ⟨R.val - d, by omega⟩ (by dsimp only; omega), back, if_pos hd]

abbrev P5 (c : Dev nD) (t : Fin cfg0.N) : Vec Ideal S512x1024 .f32 := k0_pay5 (iblk m c 2 t) (iblk m c 3 t)

theorem back_hi (c : Dev nD) (t : Fin cfg0.N) (L : List SP) (o : ℕ) (inb : ∀ a, (![o, 0] : Fin 2 → ℕ) a + (![256, 1024] : Fin 2 → ℕ) a ≤ S520x1024.size a) (r : Fin 256) (k : Fin 1024) (d : ℕ) (R : Fin 24576)
    (ho : 8 ≤ o + r.val) (ho' : o + r.val < 520) (hR : R.val = 512 * t.val + (o + r.val - 8) + d) (hd : d ≤ R.val % 4096) :
    (View.whole cc0_scratch0).readCov (pHi (P5 m c t) :: L) (Rect.unit ![o, 0] ![256, 1024] inb : Rect S520x1024).toLoadRect (ix2 (n0 := 256) (n1 := 1024) r k) = back (A1 m c) d R k :=
  (cover_hi (P5 m c t) L o inb r ⟨o + r.val - 8, by omega⟩ k (by dsimp only; omega)).trans (pay5_back m c t _ k d R hR hd)

theorem back_first (c : Dev nD) (t : Fin cfg0.N) (h : t.val % 8 = 0) (o : ℕ) (inb : ∀ a, (![o, 0] : Fin 2 → ℕ) a + (![256, 1024] : Fin 2 → ℕ) a ≤ S520x1024.size a) (r : Fin 256) (k : Fin 1024) (d : ℕ) (R : Fin 24576)
    (hR : R.val = 512 * t.val + r.val) (hd : o + d = 8) :
    (View.whole cc0_scratch0).readCov [pHi (P5 m c t), pLo (k0_pay4 (F := Ideal))] (Rect.unit ![o, 0] ![256, 1024] inb : Rect S520x1024).toLoadRect (ix2 (n0 := 256) (n1 := 1024) r k) = back (A1 m c) d R k := by
  have := r.isLt
  by_cases hr : o + r.val < 8
  · rw [cover_lo _ _ o inb r k hr, pay4_apply, back, if_neg (by omega)]
  · exact back_hi m c t _ o inb r k d R (by omega) (by omega) (by omega) (by omega)

theorem back_later (c : Dev nD) (t t' : Fin cfg0.N) (h : ¬ t.val % 8 = 0) (ht : t'.val = t.val - 1) (f : cc0_scratch0.ty.Contents (Elt Ideal))
    (hf : View.read (Elt Ideal) (View.whole cc0_scratch0) f = (outsAt0 m c t'.val t'.isLt).2.2.2.2)
    (o : ℕ) (inb : ∀ a, (![o, 0] : Fin 2 → ℕ) a + (![256, 1024] : Fin 2 → ℕ) a ≤ S520x1024.size a) (r : Fin 256) (k : Fin 1024) (d : ℕ) (R : Fin 24576)
    (hR : R.val = 512 * t.val + r.val) (hd : o + d = 8) :
    View.ld (View.read (Elt Ideal) (View.whole cc0_scratch0) ((View.whole cc0_scratch0).writes (Elt Ideal) f [pHi (P5 m c t)])) (Rect.unit ![o, 0] ![256, 1024] inb : Rect S520x1024) (ix2 (n0 := 256) (n1 := 1024) r k) = back (A1 m c) d R k := by
  have := r.isLt
  by_cases hr : o + r.val < 8
  · rw [kept_lo f _ o inb r k hr, hf]
    exact (tail_rows m c t' ⟨o + r.val, hr⟩ k).trans (pay5_back m c t' _ k d R (by dsimp only; omega) (by omega))
  · rw [kept_hi f _ o inb r ⟨o + r.val - 8, by omega⟩ k (by dsimp only; omega)]
    exact pay5_back m c t _ k d R (by dsimp only; omega) (by omega)

/-- The same at a later point of a sequence, the scratch being what the point before left. -/
theorem back_kept (c : Dev nD) (t : Fin cfg0.N) (h : ¬ t.val % 8 = 0) (hp : t.val - 1 < cfg0.N) (hs : (Memref.whole cc0_scratch0).IsWhole)
    (o : ℕ) (inb : ∀ a, (![o, 0] : Fin 2 → ℕ) a + (![256, 1024] : Fin 2 → ℕ) a ≤ S520x1024.size a) (r : Fin 256) (k : Fin 1024) (d : ℕ) (R : Fin 24576)
    (hR : R.val = 512 * t.val + r.val) (hd : o + d = 8) :
    View.ld (View.read (Elt Ideal) (View.whole cc0_scratch0) ((View.whole cc0_scratch0).writes (Elt Ideal) (hs.unread (outsAt0 m c (t.val - 1) hp).2.2.2.2) [pHi (P5 m c t)]))
      (Rect.unit ![o, 0] ![256, 1024] inb : Rect S520x1024) (ix2 (n0 := 256) (n1 := 1024) r k) = back (A1 m c) d R k :=
  back_later m c t ⟨t.val - 1, hp⟩ h rfl (hs.unread (outsAt0 m c (t.val - 1) hp).2.2.2.2) (read_unread_whole cc0_scratch0 hs (outsAt0 m c (t.val - 1) hp).2.2.2.2) o inb r k d R hR hd

/-! ## The rows -/

/-- A load of 256 rows at a row. -/
theorem ld_rows {n N W : ℕ} {e : EltTy} (X : Vec Ideal ⟨2, ![N, W]⟩ e) (o : ℕ) (inb : ∀ a, (![o, 0] : Fin 2 → ℕ) a + (![n, W] : Fin 2 → ℕ) a ≤ (⟨2, ![N, W]⟩ : Shape).size a) (r : Fin n) (k : Fin W) (r' : Fin N) (h : r'.val = o + r.val) :
    View.ld X (Rect.unit ![o, 0] ![n, W] inb : Rect ⟨2, ![N, W]⟩) (ix2 (n0 := n) (n1 := W) r k) = X (ix2 r' k) := by
  refine View.ld_unit_apply_of _ _ _ inb _ _ fun a => ?_
  match a with
  | ⟨0, _⟩ => exact h
  | ⟨1, _⟩ => show k.val = 0 + k.val; omega

/-- The first 256 rows of a point. -/
theorem row_lo (c : Dev nD) (t : Fin cfg0.N) (r : Fin 256) (R : Fin 24576) (hR : R.val = 512 * t.val + (0 + r.val)) (e0 e1 e2 : Vec Ideal S256x1024 .f32) (h0 : ∀ k, e0 (ix2 r k) = back (A1 m c) 2 R k) (h1 : ∀ k, e1 (ix2 r k) = back (A1 m c) 1 R k) (h2 : ∀ k, e2 (ix2 r k) = back (A1 m c) 0 R k) :
    RowOk (A0 m c) (A1 m c) (A2 m c) (A3 m c) (A4 m c) (A5 m c) (A6 m c) (A7 m c) (A8 m c) (A9 m c) R r (k0_pay6 (iblk m c 7 t)) (View.ld (iblk m c 11 t) (Rect.unit ![0, 0] ![1, 1024] inb_S3x1024_S1x1024_0_0)) e0 (View.ld (iblk m c 11 t) (Rect.unit ![1, 0] ![1, 1024] inb_S3x1024_S1x1024_1_0)) e1 (View.ld (iblk m c 11 t) (Rect.unit ![2, 0] ![1, 1024] inb_S3x1024_S1x1024_2_0)) e2
      (View.ld (iblk m c 1 t) (Rect.unit ![0, 0] ![256, 1024] inb_S512x1024_S256x1024_0_0)) (iblk m c 9 t) (View.ld (iblk m c 0 t) (Rect.unit ![0, 0] ![256, 2048] inb_S512x2048_S256x2048_0_0)) (iblk m c 8 t) (View.ld (iblk m c 4 t) (Rect.unit ![0, 0] ![256, 1024] inb_S512x1024_S256x1024_0_0)) (View.ld (iblk m c 5 t) (Rect.unit ![0, 0] ![256, 1024] inb_S512x1024_S256x1024_0_0))
      (iblk m c 10 t) (View.ld (iblk m c 6 t) (Rect.unit ![0, 0] ![256, 1024] inb_S512x1024_S256x1024_0_0)) (iblk m c 12 t) (iblk m c 13 t) where
  hg1 k := (pay6_apply _ _ _).trans (mBlk m c t 2 k _ _ (by dsimp only; omega) (by dsimp only; omega))
  hsh k := (pay6_apply _ _ _).trans (mBlk m c t 3 k _ _ (by dsimp only; omega) (by dsimp only; omega))
  hsc k := (pay6_apply _ _ _).trans (mBlk m c t 4 k _ _ (by dsimp only; omega) (by dsimp only; omega))
  hw0 k := (ld_rows (iblk m c 11 t) 0 _ 0 k 0 rfl).trans (cwBlk m c t 0 k)
  hw1 k := (ld_rows (iblk m c 11 t) 1 _ 0 k 1 rfl).trans (cwBlk m c t 1 k)
  hw2 k := (ld_rows (iblk m c 11 t) 2 _ 0 k 2 rfl).trans (cwBlk m c t 2 k)
  he0 := h0
  he1 := h1
  he2 := h2
  hb k := (ld_rows (iblk m c 1 t) 0 _ r k ⟨0 + r.val, by omega⟩ rfl).trans (pBlk1 m c t _ k R (by dsimp only; omega))
  hvb := wbBlk m c t
  hy k := (ld_rows (iblk m c 0 t) 0 _ r k ⟨0 + r.val, by omega⟩ rfl).trans (ynBlk m c t _ k R (by dsimp only; omega))
  hva := waBlk m c t
  hga k := (ld_rows (iblk m c 4 t) 0 _ r k ⟨0 + r.val, by omega⟩ rfl).trans (pBlk4 m c t _ k R (by dsimp only; omega))
  hgb k := (ld_rows (iblk m c 5 t) 0 _ r k ⟨0 + r.val, by omega⟩ rfl).trans (pBlk5 m c t _ k R (by dsimp only; omega))
  hvo := woBlk m c t
  hx k := (ld_rows (iblk m c 6 t) 0 _ r k ⟨0 + r.val, by omega⟩ rfl).trans (xBlk m c t _ k _ _ (by dsimp only; omega))
  hlg := lgBlk m c t
  hlb := lbBlk m c t

/-- The other 256 rows. -/
theorem row_hi (c : Dev nD) (t : Fin cfg0.N) (r : Fin 256) (R : Fin 24576) (hR : R.val = 512 * t.val + (256 + r.val)) (e0 e1 e2 : Vec Ideal S256x1024 .f32) (h0 : ∀ k, e0 (ix2 r k) = back (A1 m c) 2 R k) (h1 : ∀ k, e1 (ix2 r k) = back (A1 m c) 1 R k) (h2 : ∀ k, e2 (ix2 r k) = back (A1 m c) 0 R k) :
    RowOk (A0 m c) (A1 m c) (A2 m c) (A3 m c) (A4 m c) (A5 m c) (A6 m c) (A7 m c) (A8 m c) (A9 m c) R r (k0_pay6 (iblk m c 7 t)) (View.ld (iblk m c 11 t) (Rect.unit ![0, 0] ![1, 1024] inb_S3x1024_S1x1024_0_0)) e0 (View.ld (iblk m c 11 t) (Rect.unit ![1, 0] ![1, 1024] inb_S3x1024_S1x1024_1_0)) e1 (View.ld (iblk m c 11 t) (Rect.unit ![2, 0] ![1, 1024] inb_S3x1024_S1x1024_2_0)) e2
      (View.ld (iblk m c 1 t) (Rect.unit ![256, 0] ![256, 1024] inb_S512x1024_S256x1024_256_0)) (iblk m c 9 t) (View.ld (iblk m c 0 t) (Rect.unit ![256, 0] ![256, 2048] inb_S512x2048_S256x2048_256_0)) (iblk m c 8 t) (View.ld (iblk m c 4 t) (Rect.unit ![256, 0] ![256, 1024] inb_S512x1024_S256x1024_256_0)) (View.ld (iblk m c 5 t) (Rect.unit ![256, 0] ![256, 1024] inb_S512x1024_S256x1024_256_0))
      (iblk m c 10 t) (View.ld (iblk m c 6 t) (Rect.unit ![256, 0] ![256, 1024] inb_S512x1024_S256x1024_256_0)) (iblk m c 12 t) (iblk m c 13 t) where
  hg1 k := (pay6_apply _ _ _).trans (mBlk m c t 2 k _ _ (by dsimp only; omega) (by dsimp only; omega))
  hsh k := (pay6_apply _ _ _).trans (mBlk m c t 3 k _ _ (by dsimp only; omega) (by dsimp only; omega))
  hsc k := (pay6_apply _ _ _).trans (mBlk m c t 4 k _ _ (by dsimp only; omega) (by dsimp only; omega))
  hw0 k := (ld_rows (iblk m c 11 t) 0 _ 0 k 0 rfl).trans (cwBlk m c t 0 k)
  hw1 k := (ld_rows (iblk m c 11 t) 1 _ 0 k 1 rfl).trans (cwBlk m c t 1 k)
  hw2 k := (ld_rows (iblk m c 11 t) 2 _ 0 k 2 rfl).trans (cwBlk m c t 2 k)
  he0 := h0
  he1 := h1
  he2 := h2
  hb k := (ld_rows (iblk m c 1 t) 256 _ r k ⟨256 + r.val, by omega⟩ rfl).trans (pBlk1 m c t _ k R (by dsimp only; omega))
  hvb := wbBlk m c t
  hy k := (ld_rows (iblk m c 0 t) 256 _ r k ⟨256 + r.val, by omega⟩ rfl).trans (ynBlk m c t _ k R (by dsimp only; omega))
  hva := waBlk m c t
  hga k := (ld_rows (iblk m c 4 t) 256 _ r k ⟨256 + r.val, by omega⟩ rfl).trans (pBlk4 m c t _ k R (by dsimp only; omega))
  hgb k := (ld_rows (iblk m c 5 t) 256 _ r k ⟨256 + r.val, by omega⟩ rfl).trans (pBlk5 m c t _ k R (by dsimp only; omega))
  hvo := woBlk m c t
  hx k := (ld_rows (iblk m c 6 t) 256 _ r k ⟨256 + r.val, by omega⟩ rfl).trans (xBlk m c t _ k _ _ (by dsimp only; omega))
  hlg := lgBlk m c t
  hlb := lbBlk m c t

end Cert.Kernel3Ideal.Pf

end
-- ==== Proof.MergeValue.lean ====
/-
  The merge's three results at the ideal instance: entry by entry the plain rows of Proof/MergeMath.lean.
-/
module

public import proofs.«01_k».proof.Proof.MergeRows

@[expose] public section

set_option maxRecDepth 16384

noncomputable section

namespace Cert.Kernel3Ideal.Pf

open Cert.Kernel3Ideal Cert.Kernel3Ideal.Gen
open Idealize.ShloMosaic Idealize.ShloMosaic.TcCoe Idealize.ShloMosaic.Tactic Idealize.SL.Sem
open Cert.Merge (back col x1Row h2Row x1Out h2Out pairOut)

variable (m : (ℓ : Loc nD τ sig) → Buf (Elt Ideal) ℓ) (ρ : Dev nD → PrngReg)

/-! ## What a point leaves, row by row -/

theorem x1_at (c : Dev nD) (t : Fin cfg0.N) (r : Fin 512) (k : Fin 1024) (R : Fin 24576) (hR : R.val = 512 * t.val + r.val) :
    (outsAt0 m c t.val t.isLt).1 (ix2 r k) = x1Row (A0 m c) (A1 m c) (A2 m c) (A3 m c) (A4 m c) (A5 m c) (A6 m c) (A7 m c) (A8 m c) (A9 m c) R k := by
  have ht := lt48 t
  by_cases h : t.val % 8 = 0
  · rw [outsAt0_A m c t h]
    frame_open
    simp (disch := decide) only [↓ View.readCov_skip, ↓ View.readCov_cons_toLoadRect, ↓ View.readCov_fill]
    frame_out
    canon_tiles x hx
    · obtain ⟨a, b, rfl⟩ : ∃ (a : Fin 256) (b : Fin 1024), x = ix2 a b := ⟨x 0, x 1, eq_ix2 x⟩
      change r.val = 256 + a.val at hx0
      change k.val = b.val at hx1
      obtain rfl : k = b := Fin.ext hx1
      exact (hi_x1 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) k)
    · obtain ⟨a, b, rfl⟩ : ∃ (a : Fin 256) (b : Fin 1024), x = ix2 a b := ⟨x 0, x 1, eq_ix2 x⟩
      change r.val = a.val at hx0
      change k.val = b.val at hx1
      obtain rfl : k = b := Fin.ext hx1
      exact (lo_x1 (row_lo m c t a R (by omega) _ _ _ (fun k => back_first m c t h 6 _ a k 2 R (by omega) rfl) (fun k => back_first m c t h 7 _ a k 1 R (by omega) rfl) (fun k => back_hi m c t _ 8 _ a k 0 R (by omega) (by omega) (by omega) (by omega))) k)
  · rw [outsAt0_B m c t h]
    frame_open
    simp (disch := decide) only [↓ View.readCov_skip, ↓ View.readCov_cons_toLoadRect, ↓ View.readCov_fill]
    frame_out
    canon_tiles x hx
    · obtain ⟨a, b, rfl⟩ : ∃ (a : Fin 256) (b : Fin 1024), x = ix2 a b := ⟨x 0, x 1, eq_ix2 x⟩
      change r.val = 256 + a.val at hx0
      change k.val = b.val at hx1
      obtain rfl : k = b := Fin.ext hx1
      exact (hi_x1 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) k)
    · obtain ⟨a, b, rfl⟩ : ∃ (a : Fin 256) (b : Fin 1024), x = ix2 a b := ⟨x 0, x 1, eq_ix2 x⟩
      change r.val = a.val at hx0
      change k.val = b.val at hx1
      obtain rfl : k = b := Fin.ext hx1
      exact (lo_x1 (row_lo m c t a R (by omega) _ _ _ (fun k => back_kept m c t h _ _ 6 _ a k 2 R (by omega) rfl) (fun k => back_kept m c t h _ _ 7 _ a k 1 R (by omega) rfl) (fun k => back_hi m c t _ 8 _ a k 0 R (by omega) (by omega) (by omega) (by omega))) k)

theorem h2_at (c : Dev nD) (t : Fin cfg0.N) (r : Fin 512) (k : Fin 1024) (R : Fin 24576) (hR : R.val = 512 * t.val + r.val) :
    (outsAt0 m c t.val t.isLt).2.1 (ix2 r k) = h2Row (A0 m c) (A1 m c) (A2 m c) (A3 m c) (A4 m c) (A5 m c) (A6 m c) (A7 m c) (A8 m c) (A9 m c) R k := by
  have ht := lt48 t
  by_cases h : t.val % 8 = 0
  · rw [outsAt0_A m c t h]
    frame_open
    simp (disch := decide) only [↓ View.readCov_skip, ↓ View.readCov_cons_toLoadRect, ↓ View.readCov_fill]
    frame_out
    canon_tiles x hx
    · obtain ⟨a, b, rfl⟩ : ∃ (a : Fin 256) (b : Fin 1024), x = ix2 a b := ⟨x 0, x 1, eq_ix2 x⟩
      change r.val = 256 + a.val at hx0
      change k.val = b.val at hx1
      obtain rfl : k = b := Fin.ext hx1
      exact (pay25_apply _ _ a k).trans (hi_h2 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) k)
    · obtain ⟨a, b, rfl⟩ : ∃ (a : Fin 256) (b : Fin 1024), x = ix2 a b := ⟨x 0, x 1, eq_ix2 x⟩
      change r.val = a.val at hx0
      change k.val = b.val at hx1
      obtain rfl : k = b := Fin.ext hx1
      exact (pay13_apply _ _ _ _ _ _ a k).trans (lo_h2 (row_lo m c t a R (by omega) _ _ _ (fun k => back_first m c t h 6 _ a k 2 R (by omega) rfl) (fun k => back_first m c t h 7 _ a k 1 R (by omega) rfl) (fun k => back_hi m c t _ 8 _ a k 0 R (by omega) (by omega) (by omega) (by omega))) k)
  · rw [outsAt0_B m c t h]
    frame_open
    simp (disch := decide) only [↓ View.readCov_skip, ↓ View.readCov_cons_toLoadRect, ↓ View.readCov_fill]
    frame_out
    canon_tiles x hx
    · obtain ⟨a, b, rfl⟩ : ∃ (a : Fin 256) (b : Fin 1024), x = ix2 a b := ⟨x 0, x 1, eq_ix2 x⟩
      change r.val = 256 + a.val at hx0
      change k.val = b.val at hx1
      obtain rfl : k = b := Fin.ext hx1
      exact (pay25_apply _ _ a k).trans (hi_h2 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) k)
    · obtain ⟨a, b, rfl⟩ : ∃ (a : Fin 256) (b : Fin 1024), x = ix2 a b := ⟨x 0, x 1, eq_ix2 x⟩
      change r.val = a.val at hx0
      change k.val = b.val at hx1
      obtain rfl : k = b := Fin.ext hx1
      exact (pay13_apply _ _ _ _ _ _ a k).trans (lo_h2 (row_lo m c t a R (by omega) _ _ _ (fun k => back_kept m c t h _ _ 6 _ a k 2 R (by omega) rfl) (fun k => back_kept m c t h _ _ 7 _ a k 1 R (by omega) rfl) (fun k => back_hi m c t _ 8 _ a k 0 R (by omega) (by omega) (by omega) (by omega))) k)

theorem col_eq (a : Fin 2) (q : Fin 512) (n : ℕ) (hn : n < 1024) (h : q.val < 256 ∧ n = 256 * a.val + q.val ∨ 256 ≤ q.val ∧ n = 256 * a.val + q.val + 256) : (⟨n, hn⟩ : Fin 1024) = col a q := by
  apply Fin.ext
  unfold col
  split <;> dsimp only <;> omega

theorem pair_at (c : Dev nD) (t : Fin cfg0.N) (i : Fin 2) (r : Fin 512) (q : Fin 512) (R : Fin 24576) (hR : R.val = 512 * t.val + r.val) :
    (outsAt0 m c t.val t.isLt).2.2.1 (ix3 i r q) = h2Row (A0 m c) (A1 m c) (A2 m c) (A3 m c) (A4 m c) (A5 m c) (A6 m c) (A7 m c) (A8 m c) (A9 m c) R (col i q) := by
  have ht := lt48 t
  by_cases h : t.val % 8 = 0
  · rw [outsAt0_A m c t h]
    frame_open
    simp (disch := decide) only [↓ View.readCov_skip, ↓ View.readCov_cons_toLoadRect, ↓ View.readCov_fill]
    frame_out
    canon_tiles x hx
    · obtain ⟨z, a, b, rfl⟩ : ∃ (z : Fin 1) (a b : Fin 256), x = ix3 z a b := ⟨x 0, x 1, x 2, eq_ix3 x⟩
      obtain rfl : z = 0 := Subsingleton.elim _ _
      change i.val = 1 + 0 at hx0
      change r.val = 256 + a.val at hx1
      change q.val = 256 + b.val at hx2
      rw [← col_eq i q (768 + b.val) (by omega) (by omega)]
      exact (pay31_apply _ _ a b).trans (hi_h2 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 1 + 0 at hx0
      change r.val = 256 + a.val at hx1
      change q.val = b.val at hx2
      rw [← col_eq i q (256 + b.val) (by omega) (by omega)]
      exact (pay30_apply _ _ a b).trans (hi_h2 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 0 at hx0
      change r.val = 256 + a.val at hx1
      change q.val = 256 + b.val at hx2
      rw [← col_eq i q (512 + b.val) (by omega) (by omega)]
      exact (pay29_apply _ _ a b).trans (hi_h2 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 0 at hx0
      change r.val = 256 + a.val at hx1
      change q.val = b.val at hx2
      rw [← col_eq i q (b.val) (by omega) (by omega)]
      exact (pay28_apply _ _ a b).trans (hi_h2 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 1 + 0 at hx0
      change r.val = a.val at hx1
      change q.val = 256 + b.val at hx2
      rw [← col_eq i q (768 + b.val) (by omega) (by omega)]
      exact (pay19_apply _ a b).trans (lo_h2 (row_lo m c t a R (by omega) _ _ _ (fun k => back_first m c t h 6 _ a k 2 R (by omega) rfl) (fun k => back_first m c t h 7 _ a k 1 R (by omega) rfl) (fun k => back_hi m c t _ 8 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 1 + 0 at hx0
      change r.val = a.val at hx1
      change q.val = b.val at hx2
      rw [← col_eq i q (256 + b.val) (by omega) (by omega)]
      exact (pay18_apply _ _ _ _ _ _ a b).trans (lo_h2 (row_lo m c t a R (by omega) _ _ _ (fun k => back_first m c t h 6 _ a k 2 R (by omega) rfl) (fun k => back_first m c t h 7 _ a k 1 R (by omega) rfl) (fun k => back_hi m c t _ 8 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 0 at hx0
      change r.val = a.val at hx1
      change q.val = 256 + b.val at hx2
      rw [← col_eq i q (512 + b.val) (by omega) (by omega)]
      exact (pay17_apply _ a b).trans (lo_h2 (row_lo m c t a R (by omega) _ _ _ (fun k => back_first m c t h 6 _ a k 2 R (by omega) rfl) (fun k => back_first m c t h 7 _ a k 1 R (by omega) rfl) (fun k => back_hi m c t _ 8 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 0 at hx0
      change r.val = a.val at hx1
      change q.val = b.val at hx2
      rw [← col_eq i q (b.val) (by omega) (by omega)]
      exact (pay16_apply _ _ _ _ _ _ a b).trans (lo_h2 (row_lo m c t a R (by omega) _ _ _ (fun k => back_first m c t h 6 _ a k 2 R (by omega) rfl) (fun k => back_first m c t h 7 _ a k 1 R (by omega) rfl) (fun k => back_hi m c t _ 8 _ a k 0 R (by omega) (by omega) (by omega) (by omega))) _)
  · rw [outsAt0_B m c t h]
    frame_open
    simp (disch := decide) only [↓ View.readCov_skip, ↓ View.readCov_cons_toLoadRect, ↓ View.readCov_fill]
    frame_out
    canon_tiles x hx
    · obtain ⟨z, a, b, rfl⟩ : ∃ (z : Fin 1) (a b : Fin 256), x = ix3 z a b := ⟨x 0, x 1, x 2, eq_ix3 x⟩
      obtain rfl : z = 0 := Subsingleton.elim _ _
      change i.val = 1 + 0 at hx0
      change r.val = 256 + a.val at hx1
      change q.val = 256 + b.val at hx2
      rw [← col_eq i q (768 + b.val) (by omega) (by omega)]
      exact (pay31_apply _ _ a b).trans (hi_h2 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 1 + 0 at hx0
      change r.val = 256 + a.val at hx1
      change q.val = b.val at hx2
      rw [← col_eq i q (256 + b.val) (by omega) (by omega)]
      exact (pay30_apply _ _ a b).trans (hi_h2 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 0 at hx0
      change r.val = 256 + a.val at hx1
      change q.val = 256 + b.val at hx2
      rw [← col_eq i q (512 + b.val) (by omega) (by omega)]
      exact (pay29_apply _ _ a b).trans (hi_h2 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 0 at hx0
      change r.val = 256 + a.val at hx1
      change q.val = b.val at hx2
      rw [← col_eq i q (b.val) (by omega) (by omega)]
      exact (pay28_apply _ _ a b).trans (hi_h2 (row_hi m c t a R (by omega) _ _ _ (fun k => back_hi m c t _ 262 _ a k 2 R (by omega) (by omega) (by omega) (by omega)) (fun k => back_hi m c t _ 263 _ a k 1 R (by omega) (by omega) (by omega) (by omega)) (fun k => back_hi m c t _ 264 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 1 + 0 at hx0
      change r.val = a.val at hx1
      change q.val = 256 + b.val at hx2
      rw [← col_eq i q (768 + b.val) (by omega) (by omega)]
      exact (pay19_apply _ a b).trans (lo_h2 (row_lo m c t a R (by omega) _ _ _ (fun k => back_kept m c t h _ _ 6 _ a k 2 R (by omega) rfl) (fun k => back_kept m c t h _ _ 7 _ a k 1 R (by omega) rfl) (fun k => back_hi m c t _ 8 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 1 + 0 at hx0
      change r.val = a.val at hx1
      change q.val = b.val at hx2
      rw [← col_eq i q (256 + b.val) (by omega) (by omega)]
      exact (pay18_apply _ _ _ _ _ _ a b).trans (lo_h2 (row_lo m c t a R (by omega) _ _ _ (fun k => back_kept m c t h _ _ 6 _ a k 2 R (by omega) rfl) (fun k => back_kept m c t h _ _ 7 _ a k 1 R (by omega) rfl) (fun k => back_hi m c t _ 8 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 0 at hx0
      change r.val = a.val at hx1
      change q.val = 256 + b.val at hx2
      rw [← col_eq i q (512 + b.val) (by omega) (by omega)]
      exact (pay17_apply _ a b).trans (lo_h2 (row_lo m c t a R (by omega) _ _ _ (fun k => back_kept m c t h _ _ 6 _ a k 2 R (by omega) rfl) (fun k => back_kept m c t h _ _ 7 _ a k 1 R (by omega) rfl) (fun k => back_hi m c t _ 8 _ a k 0 R (by omega) (by omega) (by omega) (by omega))) _)
    · obtain ⟨z, a, b, rfl⟩ : ∃ (z : Fin 1) (a b : Fin 256), x = ix3 z a b := ⟨x 0, x 1, x 2, eq_ix3 x⟩
      obtain rfl : z = 0 := Subsingleton.elim _ _
      change i.val = 0 at hx0
      change r.val = a.val at hx1
      change q.val = b.val at hx2
      rw [← col_eq i q (b.val) (by omega) (by omega)]
      exact (pay16_apply _ _ _ _ _ _ a b).trans (lo_h2 (row_lo m c t a R (by omega) _ _ _ (fun k => back_kept m c t h _ _ 6 _ a k 2 R (by omega) rfl) (fun k => back_kept m c t h _ _ 7 _ a k 1 R (by omega) rfl) (fun k => back_hi m c t _ 8 _ a k 0 R (by omega) (by omega) (by omega) (by omega))) _)

/-! ## The three arrays -/

theorem x1_out (c : Dev nD) : (dats m 0 c).arrAt 15 cfg0.N = x1Out (A0 m c) (A1 m c) (A2 m c) (A3 m c) (A4 m c) (A5 m c) (A6 m c) (A7 m c) (A8 m c) (A9 m c) := by
  refine (dats m 0 c).arrAt_eq_of_covers 15 _ (by decide +kernel) fun t hf y => ?_
  blk_simp
  rw [after0_15]
  obtain ⟨r, k, rfl⟩ : ∃ (r : Fin 512) (k : Fin 1024), y = ix2 r k := ⟨y 0, y 1, eq_ix2 y⟩
  have ht := lt48 t
  rw [show (win0_15.blk t).view.emb (ix2 r k) = ix2 (n0 := 24576) (n1 := 1024) ⟨512 * t.val + r.val, by omega⟩ k by blk_ext [idx t]]
  exact x1_at m c t r k _ rfl

theorem h2_out (c : Dev nD) : (dats m 0 c).arrAt 16 cfg0.N = h2Out (A0 m c) (A1 m c) (A2 m c) (A3 m c) (A4 m c) (A5 m c) (A6 m c) (A7 m c) (A8 m c) (A9 m c) := by
  refine (dats m 0 c).arrAt_eq_of_covers 16 _ (by decide +kernel) fun t hf y => ?_
  blk_simp
  rw [after0_16]
  obtain ⟨r, k, rfl⟩ : ∃ (r : Fin 512) (k : Fin 1024), y = ix2 r k := ⟨y 0, y 1, eq_ix2 y⟩
  have ht := lt48 t
  rw [show (win0_16.blk t).view.emb (ix2 r k) = ix2 (n0 := 24576) (n1 := 1024) ⟨512 * t.val + r.val, by omega⟩ k by blk_ext [idx t]]
  exact h2_at m c t r k _ rfl

theorem pair_out (c : Dev nD) : (dats m 0 c).arrAt 17 cfg0.N = pairOut (A0 m c) (A1 m c) (A2 m c) (A3 m c) (A4 m c) (A5 m c) (A6 m c) (A7 m c) (A8 m c) (A9 m c) := by
  refine (dats m 0 c).arrAt_eq_of_covers 17 _ (by decide +kernel) fun t hf y => ?_
  blk_simp
  rw [after0_17]
  obtain ⟨i, r, q, rfl⟩ : ∃ (i : Fin 2) (r q : Fin 512), y = ix3 i r q := ⟨y 0, y 1, y 2, eq_ix3 y⟩
  have ht := lt48 t
  rw [show (win0_17.blk t).view.emb (ix3 i r q) = ix3 (n0 := 2) (n1 := 24576) (n2 := 512) i ⟨512 * t.val + r.val, by omega⟩ q by blk_ext [idx t]]
  exact pair_at m c t i r q _ rfl

/-! ## The run, read at the results and the arguments -/

theorem run_out : θ_run defs (onTc (τ := τ) (main (F := Ideal))) ⟨m, fun _ => 0, ρ⟩ (fun r => ∀ c : Dev nD,
      r.2.mem ((c.tc : Thread nD τ).loc main_v13_0) = x1Out (A0 m c) (A1 m c) (A2 m c) (A3 m c) (A4 m c) (A5 m c) (A6 m c) (A7 m c) (A8 m c) (A9 m c)
      ∧ r.2.mem ((c.tc : Thread nD τ).loc main_v13_1) = h2Out (A0 m c) (A1 m c) (A2 m c) (A3 m c) (A4 m c) (A5 m c) (A6 m c) (A7 m c) (A8 m c) (A9 m c)
      ∧ r.2.mem ((c.tc : Thread nD τ).loc main_v13_2) = pairOut (A0 m c) (A1 m c) (A2 m c) (A3 m c) (A4 m c) (A5 m c) (A6 m c) (A7 m c) (A8 m c) (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h.2 c).1 15).trans (x1_out m c), ((h.2 c).1 16).trans (h2_out m c), ((h.2 c).1 17).trans (pair_out m c), h.1 c⟩)
    (θ_run_and (unchanged m ρ) (run_main m ρ))

end Cert.Kernel3Ideal.Pf

end
-- ==== Proof.CombMath.lean ====
/-
  The combination in plain terms, over the extended reals: the eight chosen experts' outputs weighted and added, the shared expert, and
  the norm behind them. Two facts about the shared expert's activation: written with `tanh` of the half it is the same as written with
  the logistic function wherever its argument is finite, and a row of finite numbers times finite weights is finite.
-/
module

public import proofs.«01_k».proof.Proof.MergeMath

@[expose] public section

noncomputable section

namespace Cert.Comb

open Idealize.ShloMosaic
open Cert.Merge (nrm)

/-! ## On one row -/

/-- The number a word holds in its upper half. -/
def hi (w : BitVec 32) : EReal := Ideal.ofBits FTy.f32 (w &&& 4294901760#32)

/-- The number a word holds in its lower half. -/
def lo (w : BitVec 32) : EReal := Ideal.ofBits FTy.f32 (w <<< 16)

/-- Column `k` of an expert's output, whose two rows of words are `w`: upper halves of both rows, then lower halves of both. -/
def word (w : Fin 2 → Fin 256 → BitVec 32) (k : Fin 1024) : EReal :=
  if h : k.val < 256 then hi (w 0 ⟨k.val, by omega⟩)
  else if h : k.val < 512 then hi (w 1 ⟨k.val - 256, by omega⟩)
  else if h : k.val < 768 then lo (w 0 ⟨k.val - 512, by omega⟩)
  else lo (w 1 ⟨k.val - 768, by omega⟩)

/-- The shared expert's activation as the kernel writes it. -/
def act (g : EReal) : EReal :=
  Ideal.ofBits FTy.f32 1056964608#32 * g + Ideal.ofBits FTy.f32 1056964608#32 * g * Ideal.tanh (Ideal.ofBits FTy.f32 1056964608#32 * g)

/-- The same as the reference writes it. -/
def silu (g : EReal) : EReal := g * Ideal.logistic g

/-- The shared expert's row with activation `f`. -/
def shared (f : EReal → EReal) (h : Fin 1024 → EReal) (wg wu : Fin 1024 → Fin 256 → EReal) (wd : Fin 256 → Fin 1024 → EReal) (k : Fin 1024) : EReal :=
  ∑ j, f (∑ l, h l * wg l j) * (∑ l, h l * wu l j) * wd j k

/-- Eight weighted numbers added one after the other to `s`. -/
def acc (s : EReal) (g y : Fin 8 → EReal) : EReal :=
  s + g 0 * y 0 + g 1 * y 1 + g 2 * y 2 + g 3 * y 3 + g 4 * y 4 + g 5 * y 5 + g 6 * y 6 + g 7 * y 7

/-- The row before the norm. -/
def pre (F x g : Fin 1024 → EReal) (k : Fin 1024) : EReal := Ideal.ofBits FTy.f32 1066940400#32 * x k + g k * F k

theorem word0 (w : Fin 2 → Fin 256 → BitVec 32) (q : Fin 256) : word w ⟨q.val, by omega⟩ = hi (w 0 q) := by
  unfold word
  rw [dif_pos q.isLt]

theorem word1 (w : Fin 2 → Fin 256 → BitVec 32) (q : Fin 256) : word w ⟨256 + q.val, by omega⟩ = hi (w 1 q) := by
  unfold word
  rw [dif_neg (by dsimp only; omega), dif_pos (by dsimp only; omega)]
  exact congrArg (fun q => hi (w 1 q)) (Fin.ext (by dsimp only; omega))

theorem word2 (w : Fin 2 → Fin 256 → BitVec 32) (q : Fin 256) : word w ⟨512 + q.val, by omega⟩ = lo (w 0 q) := by
  unfold word
  rw [dif_neg (by dsimp only; omega), dif_neg (by dsimp only; omega), dif_pos (by dsimp only; omega)]
  exact congrArg (fun q => lo (w 0 q)) (Fin.ext (by dsimp only; omega))

theorem word3 (w : Fin 2 → Fin 256 → BitVec 32) (q : Fin 256) : word w ⟨768 + q.val, by omega⟩ = lo (w 1 q) := by
  unfold word
  rw [dif_neg (by dsimp only; omega), dif_neg (by dsimp only; omega), dif_neg (by dsimp only; omega)]
  exact congrArg (fun q => lo (w 1 q)) (Fin.ext (by dsimp only; omega))

/-! ## The two facts -/

theorem acc_eq (s : EReal) (g y : Fin 8 → EReal) : acc s g y = (∑ j, y j * g j) + s := by
  simp only [acc, Fin.sum_univ_eight, mul_comm (y _)]
  ac_rfl

theorem half_eq : Ideal.ofBits FTy.f32 1056964608#32 = ((1 / 2 : ℝ) : EReal) := by
  simp [Ideal.ofBits, Ideal.ieee, -EReal.coe_mul]; norm_num

theorem inf_eq : Ideal.ofBits FTy.f32 2139095040#32 = ⊤ := by
  simp [Ideal.ofBits, Ideal.ieee]

theorem act_eq (g : EReal) (h : ∃ r : ℝ, g = r) : act g = silu g := by
  obtain ⟨r, rfl⟩ := h
  unfold act silu
  rw [half_eq, ← EReal.coe_mul, Ideal.tanh_coe, Ideal.logistic_coe, ← EReal.coe_mul, ← EReal.coe_mul, ← EReal.coe_add]
  congr 1
  have e : Real.exp (-r) = Real.exp (-(1 / 2 * r)) * Real.exp (-(1 / 2 * r)) := by rw [← Real.exp_add]; congr 1; ring
  have e' : Real.exp (1 / 2 * r) * Real.exp (-(1 / 2 * r)) = 1 := by rw [← Real.exp_add]; simp
  rw [Real.tanh_eq_sinh_div_cosh, Real.sinh_eq, Real.cosh_eq, e]
  have hp := Real.exp_pos (1 / 2 * r)
  have hn := Real.exp_pos (-(1 / 2 * r))
  generalize Real.exp (1 / 2 * r) = a at *
  generalize Real.exp (-(1 / 2 * r)) = b at *
  have : 1 + b * b ≠ 0 := by positivity
  have : a + b ≠ 0 := by positivity
  field_simp
  linear_combination 2 * r * b * e'

theorem sum_coe {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem dot_coe {n : ℕ} (f g : Fin n → EReal) (hf : ∀ i, ∃ r : ℝ, f i = r) (hg : ∀ i, ∃ r : ℝ, g i = r) : ∃ r : ℝ, ∑ i, f i * g i = r := by
  choose a ha using hf
  choose b hb using hg
  refine ⟨∑ i, a i * b i, ?_⟩
  rw [← sum_coe]
  simp only [ha, hb, EReal.coe_mul]

theorem coe_of_abs (x : EReal) (h : max x (-x) < ⊤) : ∃ r : ℝ, x = r := by
  induction x using EReal.rec with
  | bot => simp at h
  | coe r => exact ⟨r, rfl⟩
  | top => simp at h

theorem shared_eq (h : Fin 1024 → EReal) (wg wu : Fin 1024 → Fin 256 → EReal) (wd : Fin 256 → Fin 1024 → EReal) (k : Fin 1024)
    (hh : ∀ l, ∃ r : ℝ, h l = r) (hg : ∀ l j, ∃ r : ℝ, wg l j = r) : shared act h wg wu wd k = shared silu h wg wu wd k := by
  unfold shared
  refine Finset.sum_congr rfl fun j _ => ?_
  rw [act_eq _ (dot_coe _ _ hh fun l => hg l j)]

/-! ## On the arrays -/

variable {n : ℕ} (y : Vec Ideal ⟨4, ![2, 8, n, 256]⟩ .i32) (gt : Vec Ideal ⟨2, ![n, 128]⟩ .f32) (h : Vec Ideal ⟨2, ![n, 1024]⟩ .bf16)
  (x : Vec Ideal ⟨2, ![n, 1024]⟩ .f32) (md : Fin 1024 → EReal)
  (wg wu : Vec Ideal ⟨2, ![1024, 256]⟩ .f32) (wd : Vec Ideal ⟨2, ![256, 1024]⟩ .f32) (lg lb : Vec Ideal ⟨1, ![1024]⟩ .f32)

/-- Row `r` of the feed-forward part: the experts' outputs weighted and added, and the shared expert. -/
def ffn (f : EReal → EReal) (r : Fin n) (k : Fin 1024) : EReal :=
  (∑ j : Fin 8, word (fun a q => y (ix4 a j r q)) k * gt (ix2 r ⟨j.val, by omega⟩))
    + shared f (fun l => h (ix2 r l)) (fun l j => wg (ix2 l j)) (fun l j => wu (ix2 l j)) (fun j k => wd (ix2 j k)) k

/-- Row `r` of the layer's result, `md` being the gate of its sequence. -/
def out (f : EReal → EReal) (r : Fin n) (k : Fin 1024) : EReal :=
  nrm (pre (ffn y gt h wg wu wd f r) (fun k => x (ix2 r k)) md) k * lg (ix1 k) + lb (ix1 k)

theorem out_eq (r : Fin n) (hh : ∀ l, ∃ v : ℝ, h (ix2 r l) = v) (hg : ∀ i, ∃ v : ℝ, wg i = v) :
    out y gt h x md wg wu wd lg lb act r = out y gt h x md wg wu wd lg lb silu r := by
  have e : ffn y gt h wg wu wd act r = ffn y gt h wg wu wd silu r := by
    funext k
    unfold ffn
    rw [shared_eq _ _ _ _ _ hh fun l j => hg (ix2 l j)]
  funext k
  unfold out
  rw [e]

/-- A row of the result is made of the arrays' own row. -/
theorem out_congr {n' : ℕ} (y' : Vec Ideal ⟨4, ![2, 8, n', 256]⟩ .i32) (gt' : Vec Ideal ⟨2, ![n', 128]⟩ .f32) (h' : Vec Ideal ⟨2, ![n', 1024]⟩ .bf16)
    (x' : Vec Ideal ⟨2, ![n', 1024]⟩ .f32) (f : EReal → EReal) (r : Fin n) (r' : Fin n') (hy : ∀ a j q, y (ix4 a j r q) = y' (ix4 a j r' q))
    (hgt : ∀ j, gt (ix2 r j) = gt' (ix2 r' j)) (hh : ∀ l, h (ix2 r l) = h' (ix2 r' l)) (hx : ∀ k, x (ix2 r k) = x' (ix2 r' k)) :
    out y gt h x md wg wu wd lg lb f r = out y' gt' h' x' md wg wu wd lg lb f r' := by
  have e : ffn y gt h wg wu wd f r = ffn y' gt' h' wg wu wd f r' := by
    funext k
    unfold ffn
    simp only [hy, hgt, hh]
  funext k
  unfold out
  simp only [e, hx]

/-- The gate of the sequence row `R` is of. -/
def gate (mod : Vec Ideal ⟨2, ![8, 6144]⟩ .f32) (R : Fin 32768) (k : Fin 1024) : EReal := mod (ix2 ⟨R.val / 4096, by omega⟩ ⟨5120 + k.val, by omega⟩)

/-- Row `R` of the layer's result: the first six sequences' rows come from the first four arrays, the last two's from the next four. -/
def row (f : EReal → EReal) (y0 : Vec Ideal ⟨4, ![2, 8, 24576, 256]⟩ .i32) (gt0 : Vec Ideal ⟨2, ![24576, 128]⟩ .f32)
    (h0 : Vec Ideal ⟨2, ![24576, 1024]⟩ .bf16) (x0 : Vec Ideal ⟨2, ![24576, 1024]⟩ .f32) (y1 : Vec Ideal ⟨4, ![2, 8, 8192, 256]⟩ .i32)
    (gt1 : Vec Ideal ⟨2, ![8192, 128]⟩ .f32) (h1 : Vec Ideal ⟨2, ![8192, 1024]⟩ .bf16) (x1 : Vec Ideal ⟨2, ![8192, 1024]⟩ .f32)
    (mod : Vec Ideal ⟨2, ![8, 6144]⟩ .f32) (wg wu : Vec Ideal ⟨2, ![1024, 256]⟩ .f32) (wd : Vec Ideal ⟨2, ![256, 1024]⟩ .f32)
    (lg lb : Vec Ideal ⟨1, ![1024]⟩ .f32) (R : Fin 32768) : Fin 1024 → EReal :=
  if hR : R.val < 24576 then out y0 gt0 h0 x0 (gate mod R) wg wu wd lg lb f ⟨R.val, hR⟩
  else out y1 gt1 h1 x1 (gate mod R) wg wu wd lg lb f ⟨R.val - 24576, by omega⟩

theorem row_eq (y0 : Vec Ideal ⟨4, ![2, 8, 24576, 256]⟩ .i32) (gt0 : Vec Ideal ⟨2, ![24576, 128]⟩ .f32)
    (h0 : Vec Ideal ⟨2, ![24576, 1024]⟩ .bf16) (x0 : Vec Ideal ⟨2, ![24576, 1024]⟩ .f32) (y1 : Vec Ideal ⟨4, ![2, 8, 8192, 256]⟩ .i32)
    (gt1 : Vec Ideal ⟨2, ![8192, 128]⟩ .f32) (h1 : Vec Ideal ⟨2, ![8192, 1024]⟩ .bf16) (x1 : Vec Ideal ⟨2, ![8192, 1024]⟩ .f32)
    (mod : Vec Ideal ⟨2, ![8, 6144]⟩ .f32) (wg wu : Vec Ideal ⟨2, ![1024, 256]⟩ .f32) (wd : Vec Ideal ⟨2, ![256, 1024]⟩ .f32)
    (lg lb : Vec Ideal ⟨1, ![1024]⟩ .f32) (hh0 : ∀ i, ∃ v : ℝ, h0 i = v) (hh1 : ∀ i, ∃ v : ℝ, h1 i = v) (hg : ∀ i, ∃ v : ℝ, wg i = v) (R : Fin 32768) :
    row act y0 gt0 h0 x0 y1 gt1 h1 x1 mod wg wu wd lg lb R = row silu y0 gt0 h0 x0 y1 gt1 h1 x1 mod wg wu wd lg lb R := by
  unfold row
  split
  · exact out_eq _ _ _ _ _ _ _ _ _ _ _ (fun l => hh0 _) hg
  · exact out_eq _ _ _ _ _ _ _ _ _ _ _ (fun l => hh1 _) hg

end Cert.Comb

end
-- ==== Proof.CombRef.lean ====
/-
  The reference of the combination: each row of its result is the plain row of Proof/CombMath.lean. Its term is named part by part, the
  rows of both groups of sequences one after the other.
-/
module

public import proofs.«01_k».proof.Proof.CombMath
public import proofs.«01_k».proof.Proof.Gen.Reference4Ideal.Run

@[expose] public section

set_option maxRecDepth 16384

noncomputable section

namespace Cert.Reference4Ideal.Pf

open Cert.Reference4Ideal Cert.Reference4Ideal.Gen Cert.Reference4Ideal.Value
open Idealize.ShloMosaic Idealize.ShloMosaic.TcCoe Idealize.ShloMosaic.Tactic Idealize.SL.Sem
open Cert.Merge (nrm cen var)
open Cert.Comb (hi lo word word0 word1 word2 word3 silu shared pre ffn out gate row)

variable (m : (ℓ : Loc nD τ sig) → Buf (Elt Ideal) ℓ) (ρ : Dev nD → PrngReg)

abbrev a0 (c : Dev nD) : Vec Ideal S2x8x24576x256 .i32 := m ((c.tc : Thread nD τ).loc main_arg0)
abbrev a1 (c : Dev nD) : FVec Ideal S24576x128 .f32 := m ((c.tc : Thread nD τ).loc main_arg1)
abbrev a2 (c : Dev nD) : FVec Ideal S24576x1024 .bf16 := m ((c.tc : Thread nD τ).loc main_arg2)
abbrev a3 (c : Dev nD) : FVec Ideal S24576x1024 .f32 := m ((c.tc : Thread nD τ).loc main_arg3)
abbrev a4 (c : Dev nD) : Vec Ideal S2x8x8192x256 .i32 := m ((c.tc : Thread nD τ).loc main_arg4)
abbrev a5 (c : Dev nD) : FVec Ideal S8192x128 .f32 := m ((c.tc : Thread nD τ).loc main_arg5)
abbrev a6 (c : Dev nD) : FVec Ideal S8192x1024 .bf16 := m ((c.tc : Thread nD τ).loc main_arg6)
abbrev a7 (c : Dev nD) : FVec Ideal S8192x1024 .f32 := m ((c.tc : Thread nD τ).loc main_arg7)
abbrev a8 (c : Dev nD) : FVec Ideal S8x6144 .f32 := m ((c.tc : Thread nD τ).loc main_arg8)
abbrev a9 (c : Dev nD) : FVec Ideal S1024x256 .f32 := m ((c.tc : Thread nD τ).loc main_arg9)
abbrev a10 (c : Dev nD) : FVec Ideal S1024x256 .f32 := m ((c.tc : Thread nD τ).loc main_arg10)
abbrev a11 (c : Dev nD) : FVec Ideal S256x1024 .f32 := m ((c.tc : Thread nD τ).loc main_arg11)
abbrev a12 (c : Dev nD) : FVec Ideal S1024 .f32 := m ((c.tc : Thread nD τ).loc main_arg12)
abbrev a13 (c : Dev nD) : FVec Ideal S1024 .f32 := m ((c.tc : Thread nD τ).loc main_arg13)

/-- The words. -/
def nW (c : Dev nD) : Vec Ideal S2x8x32768x256 .i32 :=
  concatenate S2x8x32768x256 2 [⟨S2x8x24576x256, (a0 m c)⟩, ⟨S2x8x8192x256, (a4 m c)⟩] concatenates_S2x8x24576x256_S2x8x8192x256_S2x8x32768x256_d2

/-- The gates. -/
def nG (c : Dev nD) : FVec Ideal S32768x128 .f32 :=
  concatenate S32768x128 0 [⟨S24576x128, (a1 m c)⟩, ⟨S8192x128, (a5 m c)⟩] concatenates_S24576x128_S8192x128_S32768x128_d0

/-- The shared expert's argument. -/
def nH (c : Dev nD) : FVec Ideal S32768x1024 .bf16 :=
  concatenate S32768x1024 0 [⟨S24576x1024, (a2 m c)⟩, ⟨S8192x1024, (a6 m c)⟩] concatenates_S24576x1024_S8192x1024_S32768x1024_d0

/-- The residual. -/
def nX (c : Dev nD) : FVec Ideal S32768x1024 .f32 :=
  concatenate S32768x1024 0 [⟨S24576x1024, (a3 m c)⟩, ⟨S8192x1024, (a7 m c)⟩] concatenates_S24576x1024_S8192x1024_S32768x1024_d0

/-- The experts' outputs, unpacked. -/
def nY (c : Dev nD) : FVec Ideal S8x32768x1024 .f32 :=
  (concatenate S8x32768x1024 2 [⟨S8x32768x256, ((shapeCast _ (extractStridedSlice S1x8x32768x256 ![0, 0, 0, 0] (bitcastToFloat (F := Ideal) .f32 (andi (nW m c) (broadcastInDim S2x8x32768x256 ![] bcast_S_S2x8x32768x256 (constantI S_ 32 4294901760#32)))) slices_S2x8x32768x256_S1x8x32768x256_0_0_0_0) shapeCasts_S1x8x32768x256_S8x32768x256) : (⟨S8x32768x256, .f32⟩ : BufTy).Contents (Elt Ideal))⟩, ⟨S8x32768x256, ((shapeCast _ (extractStridedSlice S1x8x32768x256 ![1, 0, 0, 0] (bitcastToFloat (F := Ideal) .f32 (andi (nW m c) (broadcastInDim S2x8x32768x256 ![] bcast_S_S2x8x32768x256 (constantI S_ 32 4294901760#32)))) slices_S2x8x32768x256_S1x8x32768x256_1_0_0_0) shapeCasts_S1x8x32768x256_S8x32768x256) : (⟨S8x32768x256, .f32⟩ : BufTy).Contents (Elt Ideal))⟩, ⟨S8x32768x256, ((shapeCast _ (extractStridedSlice S1x8x32768x256 ![0, 0, 0, 0] (bitcastToFloat (F := Ideal) .f32 (Host.shli (nW m c) (broadcastInDim S2x8x32768x256 ![] bcast_S_S2x8x32768x256 (constantI S_ 32 16#32)))) slices_S2x8x32768x256_S1x8x32768x256_0_0_0_0) shapeCasts_S1x8x32768x256_S8x32768x256) : (⟨S8x32768x256, .f32⟩ : BufTy).Contents (Elt Ideal))⟩, ⟨S8x32768x256, ((shapeCast _ (extractStridedSlice S1x8x32768x256 ![1, 0, 0, 0] (bitcastToFloat (F := Ideal) .f32 (Host.shli (nW m c) (broadcastInDim S2x8x32768x256 ![] bcast_S_S2x8x32768x256 (constantI S_ 32 16#32)))) slices_S2x8x32768x256_S1x8x32768x256_1_0_0_0) shapeCasts_S1x8x32768x256_S8x32768x256) : (⟨S8x32768x256, .f32⟩ : BufTy).Contents (Elt Ideal))⟩] concatenates_S8x32768x256_S8x32768x256_S8x32768x256_S8x32768x256_S8x32768x1024_d2 : (⟨S8x32768x1024, .f32⟩ : BufTy).Contents (Elt Ideal))

/-- The feed-forward. -/
def nF (c : Dev nD) : FVec Ideal S32768x1024 .f32 :=
  addf (Host.reduceAdd (mulf (nY m c) (broadcastInDim S8x32768x1024 ![0, 1, 2] bcast_S8x32768x1_S8x32768x1024_0_1_2 (broadcastInDim S8x32768x1 ![0, 1] bcast_S8x32768_S8x32768x1_0_1 (transpose S8x32768 [1, 0] (extractStridedSlice S32768x8 ![0, 0] (nG m c) slices_S32768x128_S32768x8_0_0) transposes_S32768x8_S8x32768_1_0)))) (constant S_ .f32 0x00000000#32) reducesTo_S8x32768x1024_S32768x1024_d0 h_S_) (Host.dotGeneral dot_S32768x256_S256x1024_S32768x1024_1_0_0_1_n_n none (mulf (mulf (Host.dotGeneral dot_S32768x1024_S1024x256_S32768x256_1_0_0_1_n_n none (extf .f32 (nH m c) bitsLt_bf16_f32) (a9 m c)) (Host.divf (broadcastInDim S32768x256 ![] bcast_S_S32768x256 (constant S_ .f32 0x3F800000#32)) (addf (broadcastInDim S32768x256 ![] bcast_S_S32768x256 (constant S_ .f32 0x3F800000#32)) (Host.exp (Host.negf (Host.dotGeneral dot_S32768x1024_S1024x256_S32768x256_1_0_0_1_n_n none (extf .f32 (nH m c) bitsLt_bf16_f32) (a9 m c))))))) (Host.dotGeneral dot_S32768x1024_S1024x256_S32768x256_1_0_0_1_n_n none (extf .f32 (nH m c) bitsLt_bf16_f32) (a10 m c))) (a11 m c))

/-- What the norm takes. -/
def nV (X F : FVec Ideal S32768x1024 .f32) (md : FVec Ideal S8x6144 .f32) : FVec Ideal S8x4096x1024 .f32 :=
  addf (mulf (broadcastInDim S8x4096x1024 ![] bcast_S_S8x4096x1024 (constant S_ .f32 0x3F9837F0#32)) (shapeCast _ X shapeCasts_S32768x1024_S8x4096x1024)) (mulf (broadcastInDim S8x4096x1024 ![0, 1, 2] bcast_S8x1x1024_S8x4096x1024_0_1_2 (broadcastInDim S8x1x1024 ![0, 2] bcast_S8x1024_S8x1x1024_0_2 (extractStridedSlice S8x1024 ![0, 5120] md slices_S8x6144_S8x1024_0_5120))) (shapeCast _ F shapeCasts_S32768x1024_S8x4096x1024))

/-- The same less its mean. -/
def nC (V : FVec Ideal S8x4096x1024 .f32) : FVec Ideal S8x4096x1024 .f32 :=
  subf V (broadcastInDim S8x4096x1024 ![0, 1, 2] bcast_S8x4096x1_S8x4096x1024_0_1_2 (Host.divf (broadcastInDim S8x4096x1 ![0, 1] bcast_S8x4096_S8x4096x1_0_1 (Host.reduceAdd V (constant S_ .f32 0x00000000#32) reducesTo_S8x4096x1024_S8x4096_d2 h_S_)) (broadcastInDim S8x4096x1 ![] bcast_S_S8x4096x1 (constant S_ .f32 0x44800000#32))))

/-- The result. -/
def nO (C : FVec Ideal S8x4096x1024 .f32) (lg lb : FVec Ideal S1024 .f32) : FVec Ideal S8x4096x1024 .f32 :=
  addf (mulf (mulf C (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf C C) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 lg))) (broadcastInDim S8x4096x1024 ![0, 1, 2] bcast_S1x1x1024_S8x4096x1024_0_1_2 (broadcastInDim S1x1x1024 ![2] bcast_S1024_S1x1x1024_2 lb))

set_option maxRecDepth 65536 in
theorem res_eq (c : Dev nD) : res_main_v62 m c = nO (nC (nV (nX m c) (nF m c) (a8 m c))) (a12 m c) (a13 m c) := by
  unfold res_main_v62 nO nC nV nF nY nX nH nG nW
  rfl

/-! ## Entry by entry -/

theorem andi_hi (w : BitVec 32) : Ideal.ofBits FTy.f32 (IntOp.andi w 4294901760#32) = hi w := rfl

theorem shli_lo (w : BitVec 32) : Ideal.ofBits FTy.f32 (IntOp.shli .host w 16#32) = lo w := rfl

theorem logistic_eq (g : EReal) : Ideal.div 1 (1 + Ideal.exp (-g)) = Ideal.logistic g := rfl

theorem nY_apply (c : Dev nD) (j : Fin 8) (R : Fin 32768) (k : Fin 1024) :
    nY m c (ix3 j R k) = word (fun a q => nW m c (ix4 a j R q)) k := by
  unfold nY word
  pointwise
  simp only [andi_hi, shli_lo]
  by_cases h0 : k.val < 256
  · rw [dif_pos h0, dif_pos h0]
  rw [dif_neg h0, dif_neg h0]
  by_cases h1 : k.val < 512
  · rw [dif_pos (by omega), dif_pos h1]
  rw [dif_neg (by omega), dif_neg h1]
  by_cases h2 : k.val < 768
  · rw [dif_pos (by omega), dif_pos h2]
    simp only [Nat.sub_sub]
  rw [dif_neg (by omega), dif_neg h2]
  simp only [Nat.sub_sub]

theorem nF_apply (c : Dev nD) (R : Fin 32768) (k : Fin 1024) :
    nF m c (ix2 R k) = ffn (nW m c) (nG m c) (nH m c) (a9 m c) (a10 m c) (a11 m c) silu R k := by
  unfold nF ffn shared silu
  pointwise [nY_apply, Ideal.ofBits_one_f32, logistic_eq]

theorem nV_apply (X F : FVec Ideal S32768x1024 .f32) (md : FVec Ideal S8x6144 .f32) (R : Fin 32768) (k : Fin 1024) :
    nV X F md (ix3 ⟨R.val / 4096, by omega⟩ ⟨R.val % 4096, by omega⟩ k) = pre (fun k => F (ix2 R k)) (fun k => X (ix2 R k)) (gate md R) k := by
  unfold nV
  pointwise
  rfl

theorem nC_apply (V : FVec Ideal S8x4096x1024 .f32) (a : Fin 8) (b : Fin 4096) (k : Fin 1024) : nC V (ix3 a b k) = cen (fun k => V (ix3 a b k)) k := by
  unfold nC
  pointwise
  rfl

theorem nO_apply (C : FVec Ideal S8x4096x1024 .f32) (lg lb : FVec Ideal S1024 .f32) (a : Fin 8) (b : Fin 4096) (k : Fin 1024) :
    nO C lg lb (ix3 a b k) = C (ix3 a b k) * Ideal.rsqrt (var (fun k => C (ix3 a b k)) + Ideal.ofBits FTy.f32 925353388#32) * lg (ix1 k) + lb (ix1 k) := by
  unfold nO
  pointwise
  rfl

theorem res_apply (c : Dev nD) (R : Fin 32768) (k : Fin 1024) :
    res_main_v62 m c (ix3 ⟨R.val / 4096, by omega⟩ ⟨R.val % 4096, by omega⟩ k)
      = Cert.Comb.out (nW m c) (nG m c) (nH m c) (nX m c) (gate (a8 m c) R) (a9 m c) (a10 m c) (a11 m c) (a12 m c) (a13 m c) silu R k := by
  rw [res_eq, nO_apply]
  simp only [nC_apply, nV_apply, nF_apply]
  rfl

theorem res_row (c : Dev nD) (R : Fin 32768) (k : Fin 1024) :
    res_main_v62 m c (ix3 ⟨R.val / 4096, by omega⟩ ⟨R.val % 4096, by omega⟩ k)
      = row silu (a0 m c) (a1 m c) (a2 m c) (a3 m c) (a4 m c) (a5 m c) (a6 m c) (a7 m c) (a8 m c) (a9 m c) (a10 m c) (a11 m c) (a12 m c) (a13 m c) R k := by
  rw [res_apply]
  unfold row
  split
  · rename_i h
    refine congrFun (Cert.Comb.out_congr _ _ _ _ _ _ _ _ _ _ _ _ _ _ _ _ _ (fun a j q => ?_) (fun j => ?_) (fun l => ?_) fun k => ?_) k
    · unfold nW
      pointwise
      rw [dif_pos h]
    · unfold nG
      pointwise
      rw [dif_pos h]
    · unfold nH
      pointwise
      rw [dif_pos h]
    · unfold nX
      pointwise
      rw [dif_pos h]
  · rename_i h
    refine congrFun (Cert.Comb.out_congr _ _ _ _ _ _ _ _ _ _ _ _ _ _ _ _ _ (fun a j q => ?_) (fun j => ?_) (fun l => ?_) fun k => ?_) k
    · unfold nW
      pointwise
      rw [dif_neg h]
    · unfold nG
      pointwise
      rw [dif_neg h]
    · unfold nH
      pointwise
      rw [dif_neg h]
    · unfold nX
      pointwise
      rw [dif_neg h]

end Cert.Reference4Ideal.Pf

end
-- ==== Proof.CombPay.lean ====
/-
  The combination's payloads at an entry, as the plain terms of Proof/CombMath.lean on one row, and with them what a point stores.
-/
module

public import proofs.«01_k».proof.Proof.CombMath
public import proofs.«01_k».proof.Proof.Gen.Kernel4Ideal.Frame
public import Idealize.ShloMosaic.Lib.Pipeline.ValueKit
public import Idealize.ShloMosaic.Lib.Pipeline.ReadBack

@[expose] public section

set_option maxRecDepth 16384

noncomputable section

namespace Cert.Kernel4Ideal.Pf

open Cert.Kernel4Ideal Cert.Kernel4Ideal.Gen
open Idealize.ShloMosaic Idealize.ShloMosaic.TcCoe Idealize.ShloMosaic.Tactic
open Cert.Merge (nrm)
open Cert.Comb (hi lo act shared acc pre word word0 word1 word2 word3)

theorem andi_hi (w : BitVec 32) : Ideal.ofBits FTy.f32 (IntOp.andi w 4294901760#32) = hi w := rfl

theorem shli_lo (w : BitVec 32) : Ideal.ofBits FTy.f32 (IntOp.shli .vector w 16#32) = lo w := rfl

/-! ## The shared expert, and its four quarters of columns -/

theorem pay1_apply (v1 : Vec Ideal S512x1024 .bf16) (v2 : Vec Ideal S1024x512 .bf16) (v14 : Vec Ideal S256x1024 .bf16) (r : Fin 512) (k : Fin 1024) :
    k0_pay1 v1 v2 v14 (ix2 r k)
      = shared act (fun l => v1 (ix2 r l)) (fun l j => v2 (ix2 l ⟨j.val, by omega⟩)) (fun l j => v2 (ix2 l ⟨256 + j.val, by omega⟩)) (fun j k => v14 (ix2 j k)) k := by
  pointwise [k0_pay1]
  rfl

theorem pay2_apply (v1 : Vec Ideal S512x1024 .bf16) (v2 : Vec Ideal S1024x512 .bf16) (v14 : Vec Ideal S256x1024 .bf16) (r : Fin 512) (q : Fin 256) :
    k0_pay2 v1 v2 v14 (ix2 r q) = k0_pay1 v1 v2 v14 (ix2 r ⟨q.val, by omega⟩) := by
  pointwise [k0_pay2]

theorem pay3_apply (v1 : Vec Ideal S512x1024 .bf16) (v2 : Vec Ideal S1024x512 .bf16) (v14 : Vec Ideal S256x1024 .bf16) (r : Fin 512) (q : Fin 256) :
    k0_pay3 v1 v2 v14 (ix2 r q) = k0_pay1 v1 v2 v14 (ix2 r ⟨256 + q.val, by omega⟩) := by
  pointwise [k0_pay3]

theorem pay4_apply (v1 : Vec Ideal S512x1024 .bf16) (v2 : Vec Ideal S1024x512 .bf16) (v14 : Vec Ideal S256x1024 .bf16) (r : Fin 512) (q : Fin 256) :
    k0_pay4 v1 v2 v14 (ix2 r q) = k0_pay1 v1 v2 v14 (ix2 r ⟨512 + q.val, by omega⟩) := by
  pointwise [k0_pay4]

theorem pay5_apply (v1 : Vec Ideal S512x1024 .bf16) (v2 : Vec Ideal S1024x512 .bf16) (v14 : Vec Ideal S256x1024 .bf16) (r : Fin 512) (q : Fin 256) :
    k0_pay5 v1 v2 v14 (ix2 r q) = k0_pay1 v1 v2 v14 (ix2 r ⟨768 + q.val, by omega⟩) := by
  pointwise [k0_pay5]

/-! ## The eight chosen experts, quarter by quarter of the columns -/

variable (v0 : Vec Ideal S512x128 .f32) (s : FVec Ideal S512x256 .f32) (a0 a1 a2 a3 a4 a5 a6 a7 : Vec Ideal S1x1x512x256 .i32) (r : Fin 512) (q : Fin 256)

theorem quarter0 :
    k0_pay56 v0 (k0_pay43 v0 (k0_pay36 v0 (k0_pay23 v0 (k0_pay16 v0 s (k0_pay7 a0) a1) a2) (k0_pay28 a3) a4) a5) (k0_pay48 a6) a7 (ix2 r q)
      = acc (s (ix2 r q)) (fun j => v0 (ix2 r ⟨j.val, by omega⟩)) ![hi (a0 (ix4 0 0 r q)), hi (a1 (ix4 0 0 r q)), hi (a2 (ix4 0 0 r q)), hi (a3 (ix4 0 0 r q)), hi (a4 (ix4 0 0 r q)), hi (a5 (ix4 0 0 r q)), hi (a6 (ix4 0 0 r q)), hi (a7 (ix4 0 0 r q))] := by
  pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59]
  simp only [andi_hi, shli_lo]
  rfl

theorem quarter1 :
    k0_pay57 v0 (k0_pay44 v0 (k0_pay37 v0 (k0_pay24 v0 (k0_pay17 v0 s (k0_pay10 a0) a1) a2) (k0_pay31 a3) a4) a5) (k0_pay50 a6) 4294901760#32 a7 (ix2 r q)
      = acc (s (ix2 r q)) (fun j => v0 (ix2 r ⟨j.val, by omega⟩)) ![hi (a0 (ix4 0 0 r q)), hi (a1 (ix4 0 0 r q)), hi (a2 (ix4 0 0 r q)), hi (a3 (ix4 0 0 r q)), hi (a4 (ix4 0 0 r q)), hi (a5 (ix4 0 0 r q)), hi (a6 (ix4 0 0 r q)), hi (a7 (ix4 0 0 r q))] := by
  pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59]
  simp only [andi_hi, shli_lo]
  rfl

theorem quarter2 :
    k0_pay58 v0 (k0_pay45 v0 (k0_pay38 v0 (k0_pay25 v0 (k0_pay18 v0 s (k0_pay8 a0) a1) a2) (k0_pay29 a3) a4) a5) (k0_pay49 a6) a7 (ix2 r q)
      = acc (s (ix2 r q)) (fun j => v0 (ix2 r ⟨j.val, by omega⟩)) ![lo (a0 (ix4 0 0 r q)), lo (a1 (ix4 0 0 r q)), lo (a2 (ix4 0 0 r q)), lo (a3 (ix4 0 0 r q)), lo (a4 (ix4 0 0 r q)), lo (a5 (ix4 0 0 r q)), lo (a6 (ix4 0 0 r q)), lo (a7 (ix4 0 0 r q))] := by
  pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59]
  simp only [andi_hi, shli_lo]
  rfl

theorem quarter3 :
    (k0_pay52 v0 (k0_pay46 v0 (k0_pay39 v0 (k0_pay26 v0 (k0_pay19 v0 s (k0_pay11 a0) a1) a2) (k0_pay30 a3) a4) a5) (k0_pay50 a6) (ix2 r q) + k0_pay59 v0 a7 (ix2 r q) : EReal)
      = acc (s (ix2 r q)) (fun j => v0 (ix2 r ⟨j.val, by omega⟩)) ![lo (a0 (ix4 0 0 r q)), lo (a1 (ix4 0 0 r q)), lo (a2 (ix4 0 0 r q)), lo (a3 (ix4 0 0 r q)), lo (a4 (ix4 0 0 r q)), lo (a5 (ix4 0 0 r q)), lo (a6 (ix4 0 0 r q)), lo (a7 (ix4 0 0 r q))] := by
  pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59]
  simp only [andi_hi, shli_lo]
  rfl

/-! ## The norm -/

theorem pay60_apply (v223 v243 v246 v249 v251 : FVec Ideal S512x256 .f32) (v254 : Vec Ideal S1x6x1024 .f32) (v256 : Vec Ideal S512x1024 .f32) (v279 v283 : Vec Ideal S1x1024 .f32) (r : Fin 512) (k : Fin 1024) (F : Fin 1024 → EReal)
    (h0 : ∀ q : Fin 256, v243 (ix2 r q) = F ⟨q.val, by omega⟩) (h1 : ∀ q : Fin 256, v246 (ix2 r q) = F ⟨256 + q.val, by omega⟩)
    (h2 : ∀ q : Fin 256, v249 (ix2 r q) = F ⟨512 + q.val, by omega⟩) (h3 : ∀ q : Fin 256, (v223 (ix2 r q) + v251 (ix2 r q) : EReal) = F ⟨768 + q.val, by omega⟩) :
    k0_pay60 v223 v243 v246 v249 v251 v254 v256 v279 v283 (ix2 r k)
      = nrm (pre F (fun k => v256 (ix2 r k)) (fun k => v254 (ix3 0 5 k))) k * v279 (ix2 0 k) + v283 (ix2 0 k) := by
  pointwise [k0_pay60]
  have e : ∀ k : Fin 1024, (if h : k.val < 256 then v243 (ix2 r ⟨k.val, h⟩) else if h : k.val - 256 < 256 then v246 (ix2 r ⟨k.val - 256, h⟩)
      else if h : k.val - 256 - 256 < 256 then v249 (ix2 r ⟨k.val - 256 - 256, h⟩)
      else (v223 (ix2 r ⟨k.val - 256 - 256 - 256, by omega⟩) + v251 (ix2 r ⟨k.val - 256 - 256 - 256, by omega⟩) : EReal)) = F k := by
    intro k
    split
    · exact h0 _
    split
    · exact (h1 _).trans (congrArg F (Fin.ext (by dsimp only; omega)))
    split
    · exact (h2 _).trans (congrArg F (Fin.ext (by dsimp only; omega)))
    · exact (h3 _).trans (congrArg F (Fin.ext (by dsimp only; omega)))
  simp only [e]
  rfl

/-! ## What a point stores -/

variable (x0 : Vec Ideal S2x8x512x256 .i32) (x1 : Vec Ideal S512x128 .f32) (x2 : Vec Ideal S512x1024 .bf16) (x3 : Vec Ideal S512x1024 .f32)
  (x4 : Vec Ideal S1x6x1024 .f32) (x5 : Vec Ideal S1024x512 .bf16) (x6 : Vec Ideal S256x1024 .bf16) (x7 x8 : Vec Ideal S1x1024 .f32)

/-- The row's feed-forward part as the kernel adds it up. -/
def fRow (r : Fin 512) (k : Fin 1024) : EReal :=
  acc (shared act (fun l => x2 (ix2 r l)) (fun l j => x5 (ix2 l ⟨j.val, by omega⟩)) (fun l j => x5 (ix2 l ⟨256 + j.val, by omega⟩)) (fun j k => x6 (ix2 j k)) k)
    (fun j => x1 (ix2 r ⟨j.val, by omega⟩)) (fun j => word (fun a q => x0 (ix4 a j r q)) k)

/-- Row `r` of the words of expert `j`, as a load of its row of words holds it. -/
theorem ld_word (a j : ℕ) (ha : a < 2) (hj : j < 8) (inb : ∀ d, (![a, j, 0, 0] : Fin 4 → ℕ) d + S1x1x512x256.size d ≤ S2x8x512x256.size d) :
    View.ld x0 (Rect.unit (s := S2x8x512x256) ![a, j, 0, 0] S1x1x512x256.size inb) (ix4 (n0 := 1) (n1 := 1) (n2 := 512) (n3 := 256) 0 0 r q) = x0 (ix4 ⟨a, ha⟩ ⟨j, hj⟩ r q) := by
  refine View.ld_unit_apply_of _ _ _ inb _ _ fun d => ?_
  fin_cases d <;> simp

theorem acc_congr (s : EReal) (g Y : Fin 8 → EReal) (y0 y1 y2 y3 y4 y5 y6 y7 : EReal) (h0 : y0 = Y 0) (h1 : y1 = Y 1) (h2 : y2 = Y 2) (h3 : y3 = Y 3)
    (h4 : y4 = Y 4) (h5 : y5 = Y 5) (h6 : y6 = Y 6) (h7 : y7 = Y 7) : acc s g ![y0, y1, y2, y3, y4, y5, y6, y7] = acc s g Y := by
  subst h0 h1 h2 h3 h4 h5 h6 h7
  rfl

/-- The words of a row. -/
abbrev wd (j : Fin 8) : Fin 2 → Fin 256 → BitVec 32 := fun a q => x0 (ix4 a j r q)

theorem words0 (s : EReal) (g : Fin 8 → EReal) :
    acc s g ![hi (View.ld x0 r0_4 (ix4 (n0 := 1) (n1 := 1) (n2 := 512) (n3 := 256) 0 0 r q)), hi (View.ld x0 r0_6 (ix4 (n0 := 1) (n1 := 1) (n2 := 512) (n3 := 256) 0 0 r q)), hi (View.ld x0 r0_8 (ix4 (n0 := 1) (n1 := 1) (n2 := 512) (n3 := 256) 0 0 r q)), hi (View.ld x0 r0_10 (ix4 (n0 := 1) (n1 := 1) (n2 := 512) (n3 := 256) 0 0 r q)), hi (View.ld x0 r0_12 (ix4 (n0 := 1) (n1 := 1) (n2 := 512) (n3 := 256) 0 0 r q)), hi (View.ld x0 r0_14 (ix4 (n0 := 1) (n1 := 1) (n2 := 512) (n3 := 256) 0 0 r q)), hi (View.ld x0 r0_16 (ix4 (n0 := 1) (n1 := 1) (n2 := 512) (n3 := 256) 0 0 r q)), hi (View.ld x0 r0_18 (ix4 (n0 := 1) (n1 := 1) (n2 := 512) (n3 := 256) 0 0 r q))]
      = acc s g (fun j => word (wd r x0 j) ⟨q.val, by omega⟩) :=
  acc_congr s g _ _ _ _ _ _ _ _ _ ((congrArg hi (ld_word r q x0 0 0 (by decide) (by decide) _)).trans (word0 (wd r x0 0) q).symm) ((congrArg hi (ld_word r q x0 0 1 (by decide) (by decide) _)).trans (word0 (wd r x0 1) q).symm) ((congrArg hi (ld_word r q x0 0 2 (by decide) (by decide) _)).trans (word0 (wd r x0 2) q).symm) ((congrArg hi (ld_word r q x0 0 3 (by decide) (by decide) _)).trans (word0 (wd r x0 3) q).symm) ((congrArg hi (ld_word r q x0 0 4 (by decide) (by decide) _)).trans (word0 (wd r x0 4) q).symm) ((congrArg hi (ld_word r q x0 0 5 (by decide) (by decide) _)).trans (word0 (wd r x0 5) q).symm) ((congrArg hi (ld_word r q x0 0 6 (by decide) (by decide) _)).trans (word0 (wd r x0 6) q).symm) ((congrArg hi (ld_word r q x0 0 7 (by decide) (by decide) _)).trans (word0 (wd r x0 7) q).symm)

theorem words1 (s : EReal) (g : Fin 8 → EReal) :
    acc s g ![hi (View.ld x0 r0_5 (ix4 (n0 := 1) (n1 := 1) (n2 := 512) (n3 := 256) 0 0 r q)), hi (View.ld x0 r0_7 (ix4 (n0 := 1) (n1 := 1) (n2 := 512) (n3 := 256) 0 0 r q)), hi (View.ld x0 r0_9 (ix4 (n0 := 1) (n1 := 1) (n2 := 512) (n3 := 256) 0 0 r q)), hi (View.ld x0 r0_11 (ix4 (n0 := 1) (n1 := 1) (n2 := 512) (n3 := 256) 0 0 r q)), hi (View.ld x0 r0_13 (ix4 (n0 := 1) (n1 := 1) (n2 := 512) (n3 := 256) 0 0 r q)), hi (View.ld x0 r0_15 (ix4 (n0 := 1) (n1 := 1) (n2 := 512) (n3 := 256) 0 0 r q)), hi (View.ld x0 r0_17 (ix4 (n0 := 1) (n1 := 1) (n2 := 512) (n3 := 256) 0 0 r q)), hi (View.ld x0 r0_19 (ix4 (n0 := 1) (n1 := 1) (n2 := 512) (n3 := 256) 0 0 r q))]
      = acc s g (fun j => word (wd r x0 j) ⟨256 + q.val, by omega⟩) :=
  acc_congr s g _ _ _ _ _ _ _ _ _ ((congrArg hi (ld_word r q x0 1 0 (by decide) (by decide) _)).trans (word1 (wd r x0 0) q).symm) ((congrArg hi (ld_word r q x0 1 1 (by decide) (by decide) _)).trans (word1 (wd r x0 1) q).symm) ((congrArg hi (ld_word r q x0 1 2 (by decide) (by decide) _)).trans (word1 (wd r x0 2) q).symm) ((congrArg hi (ld_word r q x0 1 3 (by decide) (by decide) _)).trans (word1 (wd r x0 3) q).symm) ((congrArg hi (ld_word r q x0 1 4 (by decide) (by decide) _)).trans (word1 (wd r x0 4) q).symm) ((congrArg hi (ld_word r q x0 1 5 (by decide) (by decide) _)).trans (word1 (wd r x0 5) q).symm) ((congrArg hi (ld_word r q x0 1 6 (by decide) (by decide) _)).trans (word1 (wd r x0 6) q).symm) ((congrArg hi (ld_word r q x0 1 7 (by decide) (by decide) _)).trans (word1 (wd r x0 7) q).symm)

theorem words2 (s : EReal) (g : Fin 8 → EReal) :
    acc s g ![lo (View.ld x0 r0_4 (ix4 (n0 := 1) (n1 := 1) (n2 := 512) (n3 := 256) 0 0 r q)), lo (View.ld x0 r0_6 (ix4 (n0 := 1) (n1 := 1) (n2 := 512) (n3 := 256) 0 0 r q)), lo (View.ld x0 r0_8 (ix4 (n0 := 1) (n1 := 1) (n2 := 512) (n3 := 256) 0 0 r q)), lo (View.ld x0 r0_10 (ix4 (n0 := 1) (n1 := 1) (n2 := 512) (n3 := 256) 0 0 r q)), lo (View.ld x0 r0_12 (ix4 (n0 := 1) (n1 := 1) (n2 := 512) (n3 := 256) 0 0 r q)), lo (View.ld x0 r0_14 (ix4 (n0 := 1) (n1 := 1) (n2 := 512) (n3 := 256) 0 0 r q)), lo (View.ld x0 r0_16 (ix4 (n0 := 1) (n1 := 1) (n2 := 512) (n3 := 256) 0 0 r q)), lo (View.ld x0 r0_18 (ix4 (n0 := 1) (n1 := 1) (n2 := 512) (n3 := 256) 0 0 r q))]
      = acc s g (fun j => word (wd r x0 j) ⟨512 + q.val, by omega⟩) :=
  acc_congr s g _ _ _ _ _ _ _ _ _ ((congrArg lo (ld_word r q x0 0 0 (by decide) (by decide) _)).trans (word2 (wd r x0 0) q).symm) ((congrArg lo (ld_word r q x0 0 1 (by decide) (by decide) _)).trans (word2 (wd r x0 1) q).symm) ((congrArg lo (ld_word r q x0 0 2 (by decide) (by decide) _)).trans (word2 (wd r x0 2) q).symm) ((congrArg lo (ld_word r q x0 0 3 (by decide) (by decide) _)).trans (word2 (wd r x0 3) q).symm) ((congrArg lo (ld_word r q x0 0 4 (by decide) (by decide) _)).trans (word2 (wd r x0 4) q).symm) ((congrArg lo (ld_word r q x0 0 5 (by decide) (by decide) _)).trans (word2 (wd r x0 5) q).symm) ((congrArg lo (ld_word r q x0 0 6 (by decide) (by decide) _)).trans (word2 (wd r x0 6) q).symm) ((congrArg lo (ld_word r q x0 0 7 (by decide) (by decide) _)).trans (word2 (wd r x0 7) q).symm)

theorem words3 (s : EReal) (g : Fin 8 → EReal) :
    acc s g ![lo (View.ld x0 r0_5 (ix4 (n0 := 1) (n1 := 1) (n2 := 512) (n3 := 256) 0 0 r q)), lo (View.ld x0 r0_7 (ix4 (n0 := 1) (n1 := 1) (n2 := 512) (n3 := 256) 0 0 r q)), lo (View.ld x0 r0_9 (ix4 (n0 := 1) (n1 := 1) (n2 := 512) (n3 := 256) 0 0 r q)), lo (View.ld x0 r0_11 (ix4 (n0 := 1) (n1 := 1) (n2 := 512) (n3 := 256) 0 0 r q)), lo (View.ld x0 r0_13 (ix4 (n0 := 1) (n1 := 1) (n2 := 512) (n3 := 256) 0 0 r q)), lo (View.ld x0 r0_15 (ix4 (n0 := 1) (n1 := 1) (n2 := 512) (n3 := 256) 0 0 r q)), lo (View.ld x0 r0_17 (ix4 (n0 := 1) (n1 := 1) (n2 := 512) (n3 := 256) 0 0 r q)), lo (View.ld x0 r0_19 (ix4 (n0 := 1) (n1 := 1) (n2 := 512) (n3 := 256) 0 0 r q))]
      = acc s g (fun j => word (wd r x0 j) ⟨768 + q.val, by omega⟩) :=
  acc_congr s g _ _ _ _ _ _ _ _ _ ((congrArg lo (ld_word r q x0 1 0 (by decide) (by decide) _)).trans (word3 (wd r x0 0) q).symm) ((congrArg lo (ld_word r q x0 1 1 (by decide) (by decide) _)).trans (word3 (wd r x0 1) q).symm) ((congrArg lo (ld_word r q x0 1 2 (by decide) (by decide) _)).trans (word3 (wd r x0 2) q).symm) ((congrArg lo (ld_word r q x0 1 3 (by decide) (by decide) _)).trans (word3 (wd r x0 3) q).symm) ((congrArg lo (ld_word r q x0 1 4 (by decide) (by decide) _)).trans (word3 (wd r x0 4) q).symm) ((congrArg lo (ld_word r q x0 1 5 (by decide) (by decide) _)).trans (word3 (wd r x0 5) q).symm) ((congrArg lo (ld_word r q x0 1 6 (by decide) (by decide) _)).trans (word3 (wd r x0 6) q).symm) ((congrArg lo (ld_word r q x0 1 7 (by decide) (by decide) _)).trans (word3 (wd r x0 7) q).symm)

theorem out0_at (k : Fin 1024) :
    out0_9 x0 x1 x2 x3 x4 x5 x6 x7 x8 (ix2 r k)
      = nrm (pre (fRow x0 x1 x2 x5 x6 r) (fun k => x3 (ix2 r k)) (fun k => x4 (ix3 0 5 k))) k * x7 (ix2 0 k) + x8 (ix2 0 k) := by
  unfold_out out0_9
  frame_out
  refine pay60_apply _ _ _ _ _ _ _ _ _ r k (fRow x0 x1 x2 x5 x6 r) (fun q => ?_) (fun q => ?_) (fun q => ?_) (fun q => ?_)
  · rw [quarter0, pay2_apply, pay1_apply]
    exact words0 r q x0 _ _
  · rw [quarter1, pay3_apply, pay1_apply]
    exact words1 r q x0 _ _
  · rw [quarter2, pay4_apply, pay1_apply]
    exact words2 r q x0 _ _
  · rw [quarter3, pay5_apply, pay1_apply]
    exact words3 r q x0 _ _

theorem out1_at (V : (c : Dev nD) → (b : Ref sig .tc) → Buf (Elt Ideal) ((c : Thread nD τ).loc b)) (c : Dev nD) (t : Fin cfg1.N) : outsAt1 V c t = out0_9 (iblk1 V c 0 t) (iblk1 V c 1 t) (iblk1 V c 2 t) (iblk1 V c 3 t) (iblk1 V c 4 t) (iblk1 V c 5 t) (iblk1 V c 6 t) (iblk1 V c 7 t) (iblk1 V c 8 t) := by
  unfold outsAt1
  unfold_out out0_9
  frame_open
  frame_out
  rfl

end Cert.Kernel4Ideal.Pf

end
-- ==== Proof.CombBlk.lean ====
/-
  What each block of a point of the two calls of the combination holds, and what the host code between them prepares, entry by entry, in
  terms of the argument arrays.
-/
module

public import proofs.«01_k».proof.Proof.CombPay

@[expose] public section

set_option maxRecDepth 16384

noncomputable section

namespace Cert.Kernel4Ideal.Pf

open Cert.Kernel4Ideal Cert.Kernel4Ideal.Gen
open Idealize.ShloMosaic Idealize.ShloMosaic.TcCoe Idealize.ShloMosaic.Tactic Idealize.SL.Sem

variable (m : (ℓ : Loc nD τ sig) → Buf (Elt Ideal) ℓ) (ρ : Dev nD → PrngReg)

abbrev A0 (c : Dev nD) : Vec Ideal S2x8x24576x256 .i32 := m ((c.tc : Thread nD τ).loc main_arg0)
abbrev A1 (c : Dev nD) : Vec Ideal S24576x128 .f32 := m ((c.tc : Thread nD τ).loc main_arg1)
abbrev A2 (c : Dev nD) : Vec Ideal S24576x1024 .bf16 := m ((c.tc : Thread nD τ).loc main_arg2)
abbrev A3 (c : Dev nD) : Vec Ideal S24576x1024 .f32 := m ((c.tc : Thread nD τ).loc main_arg3)
abbrev A4 (c : Dev nD) : Vec Ideal S2x8x8192x256 .i32 := m ((c.tc : Thread nD τ).loc main_arg4)
abbrev A5 (c : Dev nD) : Vec Ideal S8192x128 .f32 := m ((c.tc : Thread nD τ).loc main_arg5)
abbrev A6 (c : Dev nD) : Vec Ideal S8192x1024 .bf16 := m ((c.tc : Thread nD τ).loc main_arg6)
abbrev A7 (c : Dev nD) : Vec Ideal S8192x1024 .f32 := m ((c.tc : Thread nD τ).loc main_arg7)
abbrev A8 (c : Dev nD) : Vec Ideal S8x6144 .f32 := m ((c.tc : Thread nD τ).loc main_arg8)
abbrev A9 (c : Dev nD) : Vec Ideal S1024x256 .f32 := m ((c.tc : Thread nD τ).loc main_arg9)
abbrev A10 (c : Dev nD) : Vec Ideal S1024x256 .f32 := m ((c.tc : Thread nD τ).loc main_arg10)
abbrev A11 (c : Dev nD) : Vec Ideal S256x1024 .f32 := m ((c.tc : Thread nD τ).loc main_arg11)
abbrev A12 (c : Dev nD) : Vec Ideal S1024 .f32 := m ((c.tc : Thread nD τ).loc main_arg12)
abbrev A13 (c : Dev nD) : Vec Ideal S1024 .f32 := m ((c.tc : Thread nD τ).loc main_arg13)

/-! ## What the host prepares -/

theorem V1_v1 (c : Dev nD) : V1 m ρ c main_v1 = (truncf .bf16 (concatenate S1024x512 1 [⟨S1024x256, A9 m c⟩, ⟨S1024x256, A10 m c⟩] concatenates_S1024x256_S1024x256_S1024x512_d1 : FVec Ideal S1024x512 .f32) bitsLt_bf16_f32 : FVec Ideal S1024x512 .bf16) := by
  show StableHlo.after _ _ _ = _
  simp only [hostOps0, StableHlo.TRef.binary, StableHlo.TRef.unary, StableHlo.TRef.toBuf, StableHlo.TRef.ofBuf, cast_eq]
  after_results_simp
theorem V1_v2 (c : Dev nD) : V1 m ρ c main_v2 = (truncf .bf16 (A11 m c : FVec Ideal S256x1024 .f32) bitsLt_bf16_f32 : FVec Ideal S256x1024 .bf16) := by
  show StableHlo.after _ _ _ = _
  simp only [hostOps0, StableHlo.TRef.binary, StableHlo.TRef.unary, StableHlo.TRef.toBuf, StableHlo.TRef.ofBuf, cast_eq]
  after_results_simp
theorem V1_v3 (c : Dev nD) : V1 m ρ c main_v3 = shapeCast S8x6x1024 (A8 m c) shapeCasts_S8x6144_S8x6x1024 := by
  show StableHlo.after _ _ _ = _
  simp only [hostOps0, StableHlo.TRef.binary, StableHlo.TRef.unary, StableHlo.TRef.toBuf, StableHlo.TRef.ofBuf, cast_eq]
  after_results_simp
  rfl
theorem V1_v4 (c : Dev nD) : V1 m ρ c main_v4 = shapeCast S1x1024 (A12 m c) shapeCasts_S1024_S1x1024 := by
  show StableHlo.after _ _ _ = _
  simp only [hostOps0, StableHlo.TRef.binary, StableHlo.TRef.unary, StableHlo.TRef.toBuf, StableHlo.TRef.ofBuf, cast_eq]
  after_results_simp
  rfl
theorem V1_v5 (c : Dev nD) : V1 m ρ c main_v5 = shapeCast S1x1024 (A13 m c) shapeCasts_S1024_S1x1024 := by
  show StableHlo.after _ _ _ = _
  simp only [hostOps0, StableHlo.TRef.binary, StableHlo.TRef.unary, StableHlo.TRef.toBuf, StableHlo.TRef.ofBuf, cast_eq]
  after_results_simp
  rfl

theorem V3_v1 (c : Dev nD) : V3 m ρ c main_v1 = V1 m ρ c main_v1 := (W3_of m ρ c main_v1 (by decide)).trans (W2_of m ρ c main_v1 (by decide))
theorem V3_v2 (c : Dev nD) : V3 m ρ c main_v2 = V1 m ρ c main_v2 := (W3_of m ρ c main_v2 (by decide)).trans (W2_of m ρ c main_v2 (by decide))
theorem V3_v3 (c : Dev nD) : V3 m ρ c main_v3 = V1 m ρ c main_v3 := (W3_of m ρ c main_v3 (by decide)).trans (W2_of m ρ c main_v3 (by decide))
theorem V3_v7 (c : Dev nD) : V3 m ρ c main_v7 = shapeCast S1x1024 (A12 m c) shapeCasts_S1024_S1x1024 := by
  show StableHlo.after _ _ _ = _
  simp only [hostOps1, StableHlo.TRef.binary, StableHlo.TRef.unary, StableHlo.TRef.toBuf, StableHlo.TRef.ofBuf, cast_eq]
  after_results_simp
  rw [W2_args m ρ c main_arg12 (by decide)]
  rfl
theorem V3_v8 (c : Dev nD) : V3 m ρ c main_v8 = shapeCast S1x1024 (A13 m c) shapeCasts_S1024_S1x1024 := by
  show StableHlo.after _ _ _ = _
  simp only [hostOps1, StableHlo.TRef.binary, StableHlo.TRef.unary, StableHlo.TRef.toBuf, StableHlo.TRef.ofBuf, cast_eq]
  after_results_simp
  rw [W2_args m ρ c main_arg13 (by decide)]
  rfl
theorem V3_v9 (c : Dev nD) : V3 m ρ c main_v9 = (dat0 (V1 m ρ) c).arrAt 9 cfg0.N := by
  refine Eq.trans ?_ (W2_arr m ρ c 9)
  show StableHlo.after _ _ _ = _
  simp only [hostOps1, StableHlo.TRef.binary, StableHlo.TRef.unary, StableHlo.TRef.toBuf, StableHlo.TRef.ofBuf, cast_eq]
  after_results_simp
  rfl
theorem W5_v10 (c : Dev nD) : W5 m ρ c (Proc.devRef .tc main_v10) = shapeCast S8x4096x1024 ((dat1 (V3 m ρ) c).arrAt 9 cfg1.N : Vec Ideal S32768x1024 .f32) shapeCasts_S32768x1024_S8x4096x1024 := by
  have e := W4_arr m ρ c 9
  show StableHlo.after _ _ _ = _
  simp only [hostOps2, StableHlo.TRef.binary, StableHlo.TRef.unary, StableHlo.TRef.toBuf, StableHlo.TRef.ofBuf, cast_eq]
  after_results_simp
  rw [← e]
  rfl

/-! ## The blocks -/

theorem lt0 (t : Fin cfg0.N) : t.val < 48 := t.isLt
theorem lt1 (t : Fin cfg1.N) : t.val < 16 := t.isLt

theorem idx0 : ∀ t : Fin cfg0.N, win0_0.index t = ![0, 0, t.val, 0] ∧ win0_1.index t = ![t.val, 0] ∧ win0_2.index t = ![t.val, 0] ∧ win0_3.index t = ![t.val, 0] ∧ win0_4.index t = ![t.val / 8, 0, 0] ∧ win0_5.index t = ![0, 0] ∧ win0_6.index t = ![0, 0] ∧ win0_7.index t = ![0, 0] ∧ win0_8.index t = ![0, 0] ∧ win0_9.index t = ![t.val, 0] := by
  decide +kernel
theorem idx1 : ∀ t : Fin cfg1.N, win1_0.index t = ![0, 0, t.val, 0] ∧ win1_1.index t = ![t.val, 0] ∧ win1_2.index t = ![t.val, 0] ∧ win1_3.index t = ![t.val, 0] ∧ win1_4.index t = ![6 + t.val / 8, 0, 0] ∧ win1_5.index t = ![0, 0] ∧ win1_6.index t = ![0, 0] ∧ win1_7.index t = ![0, 0] ∧ win1_8.index t = ![0, 0] ∧ win1_9.index t = ![48 + t.val, 0] := by
  decide +kernel

theorem V1_arg0 (c : Dev nD) : V1 m ρ c main_arg0 = A0 m c := W1_args m ρ c main_arg0 (by decide)
theorem V1_arg1 (c : Dev nD) : V1 m ρ c main_arg1 = A1 m c := W1_args m ρ c main_arg1 (by decide)
theorem V1_arg2 (c : Dev nD) : V1 m ρ c main_arg2 = A2 m c := W1_args m ρ c main_arg2 (by decide)
theorem V1_arg3 (c : Dev nD) : V1 m ρ c main_arg3 = A3 m c := W1_args m ρ c main_arg3 (by decide)
theorem yBlk0 (c : Dev nD) (t : Fin cfg0.N) (a : Fin 2) (j : Fin 8) (r : Fin 512) (q : Fin 256) (R : Fin 24576) (hR : R.val = 512 * t.val + r.val) :
    iblk0 (V1 m ρ) c 0 t (ix4 a j r q) = A0 m c (ix4 a j R q) := by
  blk_simp [iblk0]
  rw [V1_arg0 m ρ c, show (win0_0.blk t).view.emb (ix4 a j r q) = ix4 (n0 := 2) (n1 := 8) (n2 := 24576) (n3 := 256) a j R q by blk_ext [idx0 t]]
theorem gBlk0 (c : Dev nD) (t : Fin cfg0.N) (r : Fin 512) (k : Fin 128) (R : Fin 24576) (hR : R.val = 512 * t.val + r.val) :
    iblk0 (V1 m ρ) c 1 t (ix2 r k) = A1 m c (ix2 R k) := by
  blk_simp [iblk0]
  rw [V1_arg1 m ρ c, show (win0_1.blk t).view.emb (ix2 r k) = ix2 (n0 := 24576) (n1 := 128) R k by blk_ext [idx0 t]]
theorem hBlk0 (c : Dev nD) (t : Fin cfg0.N) (r : Fin 512) (k : Fin 1024) (R : Fin 24576) (hR : R.val = 512 * t.val + r.val) :
    iblk0 (V1 m ρ) c 2 t (ix2 r k) = A2 m c (ix2 R k) := by
  blk_simp [iblk0]
  rw [V1_arg2 m ρ c, show (win0_2.blk t).view.emb (ix2 r k) = ix2 (n0 := 24576) (n1 := 1024) R k by blk_ext [idx0 t]]
theorem xBlk0 (c : Dev nD) (t : Fin cfg0.N) (r : Fin 512) (k : Fin 1024) (R : Fin 24576) (hR : R.val = 512 * t.val + r.val) :
    iblk0 (V1 m ρ) c 3 t (ix2 r k) = A3 m c (ix2 R k) := by
  blk_simp [iblk0]
  rw [V1_arg3 m ρ c, show (win0_3.blk t).view.emb (ix2 r k) = ix2 (n0 := 24576) (n1 := 1024) R k by blk_ext [idx0 t]]
theorem mBlk0 (c : Dev nD) (t : Fin cfg0.N) (k : Fin 1024) (a : Fin 8) (ha : a.val = t.val / 8) :
    iblk0 (V1 m ρ) c 4 t (ix3 0 5 k) = A8 m c (ix2 a ⟨5120 + k.val, by omega⟩) := by
  blk_simp [iblk0]
  rw [V1_v3, show (win0_4.blk t).view.emb (ix3 0 5 k) = ix3 (n0 := 8) (n1 := 6) (n2 := 1024) a 5 k by blk_ext [idx0 t]]
  pointwise
theorem wgBlk0 (c : Dev nD) (t : Fin cfg0.N) (l : Fin 1024) (j : Fin 256) :
    iblk0 (V1 m ρ) c 5 t (ix2 l ⟨j.val, by omega⟩) = A9 m c (ix2 l j) := by
  blk_simp [iblk0]
  rw [V1_v1, show (win0_5.blk t).view.emb (ix2 l ⟨j.val, by omega⟩) = ix2 (n0 := 1024) (n1 := 512) l ⟨j.val, by omega⟩ by blk_ext [idx0 t]]
  pointwise
theorem wuBlk0 (c : Dev nD) (t : Fin cfg0.N) (l : Fin 1024) (j : Fin 256) :
    iblk0 (V1 m ρ) c 5 t (ix2 l ⟨256 + j.val, by omega⟩) = A10 m c (ix2 l j) := by
  blk_simp [iblk0]
  rw [V1_v1, show (win0_5.blk t).view.emb (ix2 l ⟨256 + j.val, by omega⟩) = ix2 (n0 := 1024) (n1 := 512) l ⟨256 + j.val, by omega⟩ by blk_ext [idx0 t]]
  pointwise
  blk_ext []
theorem wdBlk0 (c : Dev nD) (t : Fin cfg0.N) (j : Fin 256) (k : Fin 1024) :
    iblk0 (V1 m ρ) c 6 t (ix2 j k) = A11 m c (ix2 j k) := by
  blk_simp [iblk0]
  rw [V1_v2, show (win0_6.blk t).view.emb (ix2 j k) = ix2 (n0 := 256) (n1 := 1024) j k by blk_ext [idx0 t]]
  pointwise
theorem lgBlk0 (c : Dev nD) (t : Fin cfg0.N) (k : Fin 1024) :
    iblk0 (V1 m ρ) c 7 t (ix2 0 k) = A12 m c (ix1 k) := by
  blk_simp [iblk0]
  rw [V1_v4, show (win0_7.blk t).view.emb (ix2 0 k) = ix2 (n0 := 1) (n1 := 1024) 0 k by blk_ext [idx0 t]]
  pointwise
  try blk_ext []
theorem lbBlk0 (c : Dev nD) (t : Fin cfg0.N) (k : Fin 1024) :
    iblk0 (V1 m ρ) c 8 t (ix2 0 k) = A13 m c (ix1 k) := by
  blk_simp [iblk0]
  rw [V1_v5, show (win0_8.blk t).view.emb (ix2 0 k) = ix2 (n0 := 1) (n1 := 1024) 0 k by blk_ext [idx0 t]]
  pointwise
  try blk_ext []

theorem V3_arg4 (c : Dev nD) : V3 m ρ c main_arg4 = A4 m c := W3_args m ρ c main_arg4 (by decide)
theorem V3_arg5 (c : Dev nD) : V3 m ρ c main_arg5 = A5 m c := W3_args m ρ c main_arg5 (by decide)
theorem V3_arg6 (c : Dev nD) : V3 m ρ c main_arg6 = A6 m c := W3_args m ρ c main_arg6 (by decide)
theorem V3_arg7 (c : Dev nD) : V3 m ρ c main_arg7 = A7 m c := W3_args m ρ c main_arg7 (by decide)
theorem yBlk1 (c : Dev nD) (t : Fin cfg1.N) (a : Fin 2) (j : Fin 8) (r : Fin 512) (q : Fin 256) (R : Fin 8192) (hR : R.val = 512 * t.val + r.val) :
    iblk1 (V3 m ρ) c 0 t (ix4 a j r q) = A4 m c (ix4 a j R q) := by
  blk_simp [iblk1]
  rw [V3_arg4 m ρ c, show (win1_0.blk t).view.emb (ix4 a j r q) = ix4 (n0 := 2) (n1 := 8) (n2 := 8192) (n3 := 256) a j R q by blk_ext [idx1 t]]
theorem gBlk1 (c : Dev nD) (t : Fin cfg1.N) (r : Fin 512) (k : Fin 128) (R : Fin 8192) (hR : R.val = 512 * t.val + r.val) :
    iblk1 (V3 m ρ) c 1 t (ix2 r k) = A5 m c (ix2 R k) := by
  blk_simp [iblk1]
  rw [V3_arg5 m ρ c, show (win1_1.blk t).view.emb (ix2 r k) = ix2 (n0 := 8192) (n1 := 128) R k by blk_ext [idx1 t]]
theorem hBlk1 (c : Dev nD) (t : Fin cfg1.N) (r : Fin 512) (k : Fin 1024) (R : Fin 8192) (hR : R.val = 512 * t.val + r.val) :
    iblk1 (V3 m ρ) c 2 t (ix2 r k) = A6 m c (ix2 R k) := by
  blk_simp [iblk1]
  rw [V3_arg6 m ρ c, show (win1_2.blk t).view.emb (ix2 r k) = ix2 (n0 := 8192) (n1 := 1024) R k by blk_ext [idx1 t]]
theorem xBlk1 (c : Dev nD) (t : Fin cfg1.N) (r : Fin 512) (k : Fin 1024) (R : Fin 8192) (hR : R.val = 512 * t.val + r.val) :
    iblk1 (V3 m ρ) c 3 t (ix2 r k) = A7 m c (ix2 R k) := by
  blk_simp [iblk1]
  rw [V3_arg7 m ρ c, show (win1_3.blk t).view.emb (ix2 r k) = ix2 (n0 := 8192) (n1 := 1024) R k by blk_ext [idx1 t]]
theorem mBlk1 (c : Dev nD) (t : Fin cfg1.N) (k : Fin 1024) (a : Fin 8) (ha : a.val = 6 + t.val / 8) :
    iblk1 (V3 m ρ) c 4 t (ix3 0 5 k) = A8 m c (ix2 a ⟨5120 + k.val, by omega⟩) := by
  blk_simp [iblk1]
  rw [V3_v3, V1_v3, show (win1_4.blk t).view.emb (ix3 0 5 k) = ix3 (n0 := 8) (n1 := 6) (n2 := 1024) a 5 k by blk_ext [idx1 t]]
  pointwise
theorem wgBlk1 (c : Dev nD) (t : Fin cfg1.N) (l : Fin 1024) (j : Fin 256) :
    iblk1 (V3 m ρ) c 5 t (ix2 l ⟨j.val, by omega⟩) = A9 m c (ix2 l j) := by
  blk_simp [iblk1]
  rw [V3_v1, V1_v1, show (win1_5.blk t).view.emb (ix2 l ⟨j.val, by omega⟩) = ix2 (n0 := 1024) (n1 := 512) l ⟨j.val, by omega⟩ by blk_ext [idx1 t]]
  pointwise
theorem wuBlk1 (c : Dev nD) (t : Fin cfg1.N) (l : Fin 1024) (j : Fin 256) :
    iblk1 (V3 m ρ) c 5 t (ix2 l ⟨256 + j.val, by omega⟩) = A10 m c (ix2 l j) := by
  blk_simp [iblk1]
  rw [V3_v1, V1_v1, show (win1_5.blk t).view.emb (ix2 l ⟨256 + j.val, by omega⟩) = ix2 (n0 := 1024) (n1 := 512) l ⟨256 + j.val, by omega⟩ by blk_ext [idx1 t]]
  pointwise
  blk_ext []
theorem wdBlk1 (c : Dev nD) (t : Fin cfg1.N) (j : Fin 256) (k : Fin 1024) :
    iblk1 (V3 m ρ) c 6 t (ix2 j k) = A11 m c (ix2 j k) := by
  blk_simp [iblk1]
  rw [V3_v2, V1_v2, show (win1_6.blk t).view.emb (ix2 j k) = ix2 (n0 := 256) (n1 := 1024) j k by blk_ext [idx1 t]]
  pointwise
theorem lgBlk1 (c : Dev nD) (t : Fin cfg1.N) (k : Fin 1024) :
    iblk1 (V3 m ρ) c 7 t (ix2 0 k) = A12 m c (ix1 k) := by
  blk_simp [iblk1]
  rw [V3_v7, show (win1_7.blk t).view.emb (ix2 0 k) = ix2 (n0 := 1) (n1 := 1024) 0 k by blk_ext [idx1 t]]
  pointwise
  try blk_ext []
theorem lbBlk1 (c : Dev nD) (t : Fin cfg1.N) (k : Fin 1024) :
    iblk1 (V3 m ρ) c 8 t (ix2 0 k) = A13 m c (ix1 k) := by
  blk_simp [iblk1]
  rw [V3_v8, show (win1_8.blk t).view.emb (ix2 0 k) = ix2 (n0 := 1) (n1 := 1024) 0 k by blk_ext [idx1 t]]
  pointwise
  try blk_ext []

end Cert.Kernel4Ideal.Pf

end
-- ==== Proof.CombValue.lean ====
/-
  The combination's result at the ideal instance: row by row the plain row of Proof/CombMath.lean. The first call writes the rows of the
  first six sequences, the second those of the last two into the same array.
-/
module

public import proofs.«01_k».proof.Proof.CombBlk

@[expose] public section

set_option maxRecDepth 16384

noncomputable section

namespace Cert.Kernel4Ideal.Pf

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Comb (acc_eq act ffn out gate row)
open Cert.Merge (nrm)

local notation "𝕄" => MT nD τ sig Unit (Elt Ideal) ℕ (UR sig nD τ) ℕ

variable (m : (ℓ : Loc nD τ sig) → Buf (Elt Ideal) ℓ) (ρ : Dev nD → PrngReg)

/-- The rows of all eight sequences, one after the other. -/
def rows (c : Dev nD) : Vec Ideal S32768x1024 .f32 := fun i =>
  row act (A0 m c) (A1 m c) (A2 m c) (A3 m c) (A4 m c) (A5 m c) (A6 m c) (A7 m c) (A8 m c) (A9 m c) (A10 m c) (A11 m c) (A12 m c) (A13 m c) (i 0) (i 1)

/-! ## What a point leaves -/

theorem ffn0 (c : Dev nD) (t : Fin cfg0.N) (r : Fin 512) (R : Fin 24576) (hR : R.val = 512 * t.val + r.val) :
    fRow (iblk0 (V1 m ρ) c 0 t) (iblk0 (V1 m ρ) c 1 t) (iblk0 (V1 m ρ) c 2 t) (iblk0 (V1 m ρ) c 5 t) (iblk0 (V1 m ρ) c 6 t) r
      = ffn (A0 m c) (A1 m c) (A2 m c) (A9 m c) (A10 m c) (A11 m c) act R := by
  funext k
  unfold fRow ffn
  rw [acc_eq]
  simp only [fun a j q => yBlk0 m ρ c t a j r q R hR, fun k => gBlk0 m ρ c t r k R hR, fun k => hBlk0 m ρ c t r k R hR, wgBlk0, wuBlk0, wdBlk0]

theorem point0 (c : Dev nD) (t : Fin cfg0.N) (r : Fin 512) (k : Fin 1024) (R : Fin 24576) (hR : R.val = 512 * t.val + r.val) (Q : Fin 32768)
    (hQ : Q.val / 4096 = t.val / 8) :
    out0_9 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (ix2 r k)
      = out (A0 m c) (A1 m c) (A2 m c) (A3 m c) (gate (A8 m c) Q) (A9 m c) (A10 m c) (A11 m c) (A12 m c) (A13 m c) act R k := by
  rw [out0_at, ffn0 m ρ c t r R hR]
  unfold out
  simp only [fun k => xBlk0 m ρ c t r k R hR, fun k => mBlk0 m ρ c t k ⟨Q.val / 4096, by omega⟩ hQ, lgBlk0, lbBlk0]
  rfl

theorem ffn1 (c : Dev nD) (t : Fin cfg1.N) (r : Fin 512) (R : Fin 8192) (hR : R.val = 512 * t.val + r.val) :
    fRow (iblk1 (V3 m ρ) c 0 t) (iblk1 (V3 m ρ) c 1 t) (iblk1 (V3 m ρ) c 2 t) (iblk1 (V3 m ρ) c 5 t) (iblk1 (V3 m ρ) c 6 t) r
      = ffn (A4 m c) (A5 m c) (A6 m c) (A9 m c) (A10 m c) (A11 m c) act R := by
  funext k
  unfold fRow ffn
  rw [acc_eq]
  simp only [fun a j q => yBlk1 m ρ c t a j r q R hR, fun k => gBlk1 m ρ c t r k R hR, fun k => hBlk1 m ρ c t r k R hR, wgBlk1, wuBlk1, wdBlk1]

theorem point1 (c : Dev nD) (t : Fin cfg1.N) (r : Fin 512) (k : Fin 1024) (R : Fin 8192) (hR : R.val = 512 * t.val + r.val) (Q : Fin 32768)
    (hQ : Q.val / 4096 = 6 + t.val / 8) :
    out0_9 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (ix2 r k)
      = out (A4 m c) (A5 m c) (A6 m c) (A7 m c) (gate (A8 m c) Q) (A9 m c) (A10 m c) (A11 m c) (A12 m c) (A13 m c) act R k := by
  rw [out0_at, ffn1 m ρ c t r R hR]
  unfold out
  simp only [fun k => xBlk1 m ρ c t r k R hR, fun k => mBlk1 m ρ c t k ⟨Q.val / 4096, by omega⟩ hQ, lgBlk1, lbBlk1]
  rfl

/-! ## The array -/

theorem arr0 (c : Dev nD) : (dat0 (V1 m ρ) c).arrAt 9 cfg0.N = fun i => if (i 0 : ℕ) / 512 < 48 then rows m c i else V1 m ρ c main_v6 i := by
  refine (dat0 (V1 m ρ) c).arrAt_eq_of_coversWhere 9 _ (fun β => β (0 : Fin _) < 48) (by decide +kernel) (fun t hf y => ?_) (fun j => Iff.rfl)
  blk_simp
  rw [after0_9]
  obtain ⟨r, k, rfl⟩ : ∃ (r : Fin 512) (k : Fin 1024), y = ix2 r k := ⟨y 0, y 1, eq_ix2 y⟩
  have ht := lt0 t
  rw [show (win0_9.blk t).view.emb (ix2 r k) = ix2 (n0 := 32768) (n1 := 1024) ⟨512 * t.val + r.val, by omega⟩ k by blk_ext [idx0 t]]
  show _ = row act (A0 m c) (A1 m c) (A2 m c) (A3 m c) (A4 m c) (A5 m c) (A6 m c) (A7 m c) (A8 m c) (A9 m c) (A10 m c) (A11 m c) (A12 m c) (A13 m c) ⟨512 * t.val + r.val, by omega⟩ k
  unfold row
  rw [dif_pos (by dsimp only; omega)]
  exact point0 m ρ c t r k _ rfl _ (by dsimp only; omega)

theorem arr1 (c : Dev nD) : (dat1 (V3 m ρ) c).arrAt 9 cfg1.N = rows m c := by
  refine (dat1 (V3 m ρ) c).arrAt_eq_of_coversWhere_of_agree 9 _ (fun β => 48 ≤ β (0 : Fin _)) (by decide +kernel) (fun t hf y => ?_) (fun j hj => ?_)
  · blk_simp
    rw [after1_9, out1_at]
    obtain ⟨r, k, rfl⟩ : ∃ (r : Fin 512) (k : Fin 1024), y = ix2 r k := ⟨y 0, y 1, eq_ix2 y⟩
    have ht := lt1 t
    rw [show (win1_9.blk t).view.emb (ix2 r k) = ix2 (n0 := 32768) (n1 := 1024) ⟨512 * (48 + t.val) + r.val, by omega⟩ k by blk_ext [idx1 t]]
    show _ = row act (A0 m c) (A1 m c) (A2 m c) (A3 m c) (A4 m c) (A5 m c) (A6 m c) (A7 m c) (A8 m c) (A9 m c) (A10 m c) (A11 m c) (A12 m c) (A13 m c) ⟨512 * (48 + t.val) + r.val, by omega⟩ k
    unfold row
    rw [dif_neg (by dsimp only; omega)]
    exact point1 m ρ c t r k _ (by dsimp only; omega) _ (by dsimp only; omega)
  · obtain ⟨R, k, rfl⟩ : ∃ (R : Fin 32768) (k : Fin 1024), j = ix2 R k := ⟨j 0, j 1, eq_ix2 j⟩
    have h : ¬48 ≤ R.val / 512 := hj
    have e := congrFun ((V3_v9 m ρ c).trans (arr0 m ρ c)) (ix2 R k)
    exact e.trans (if_pos (show R.val / 512 < 48 by omega))

theorem reshape_apply (X : Vec Ideal S32768x1024 .f32) (R : Fin 32768) (k : Fin 1024) :
    shapeCast S8x4096x1024 X shapeCasts_S32768x1024_S8x4096x1024 (ix3 ⟨R.val / 4096, by omega⟩ ⟨R.val % 4096, by omega⟩ k) = X (ix2 R k) := by
  pointwise

theorem rows_apply (c : Dev nD) (R : Fin 32768) (k : Fin 1024) :
    shapeCast S8x4096x1024 (rows m c) shapeCasts_S32768x1024_S8x4096x1024 (ix3 ⟨R.val / 4096, by omega⟩ ⟨R.val % 4096, by omega⟩ k)
      = row act (A0 m c) (A1 m c) (A2 m c) (A3 m c) (A4 m c) (A5 m c) (A6 m c) (A7 m c) (A8 m c) (A9 m c) (A10 m c) (A11 m c) (A12 m c) (A13 m c) R k := reshape_apply _ R k

theorem v10_out (c : Dev nD) : W5 m ρ c (Proc.devRef .tc main_v10) = shapeCast S8x4096x1024 (rows m c) shapeCasts_S32768x1024_S8x4096x1024 := by
  rw [W5_v10, arr1]

set_option backward.isDefEq.respectTransparency.types false in
/-- The run, its result as the plain rows, its arguments unchanged. -/
theorem run_out : θ_run defs (onTc (τ := τ) (main (F := Ideal))) ⟨m, fun _ => 0, ρ⟩ (fun r => (∀ c : Dev nD,
      r.2.mem ((c.tc : Thread nD τ).loc main_v10) = shapeCast S8x4096x1024 (rows m c) shapeCasts_S32768x1024_S8x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_v10 (by decide))).trans (v10_out m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c)⟩), funext fun g => hz g (.inr (no_unscoped g.2))⟩)

end Cert.Kernel4Ideal.Pf

end
-- ==== Proof.lean ====
/-
  The proof of `Cert.Claim`. The gather's run (Proof/Launch.lean) and its reference's (Proof/Ref.lean), each over any float values, are
  read at the bits and at the ideal instance; the two results are the same array, entry by entry. The input projection's run
  (Proof/ProjRun.lean) is over any float values too; its results and its reference's are the same plain terms (Proof/ProjMath.lean). So are the
  merge's and its reference's (Proof/MergeMath.lean), and, where the shared expert's gate product is of finite numbers, the combination's and
  its reference's (Proof/CombMath.lean).
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.Pre_idx_in_rows
public import proofs.«01_k».proof.Proof.Gen.Kernel2
public import proofs.«01_k».proof.Proof.Gen.Kernel2.Skeleton
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Frame
public import proofs.«01_k».proof.Proof.Gen.Reference4Ideal.Run
public import proofs.«01_k».proof.Proof.Gen.Pre_finite_h
public import proofs.«01_k».proof.Proof.Launch
public import proofs.«01_k».proof.Proof.Ref
public import proofs.«01_k».proof.Proof.ProjRun
public import proofs.«01_k».proof.Proof.ProjRef
public import proofs.«01_k».proof.Proof.ProjValue
public import proofs.«01_k».proof.Proof.MergeRef
public import proofs.«01_k».proof.Proof.MergeValue
public import proofs.«01_k».proof.Proof.CombRef
public import proofs.«01_k».proof.Proof.CombValue

@[expose] public section

noncomputable section

namespace Cert.Proof

open Idealize.ShloMosaic Idealize.SL.Sem

variable {F : FTy → Type} [FloatOps F]

/-- The precondition at a word of the list: as a signed word from 0 to 524287, it is its own value below 524288. -/
theorem word_lt (v : BitVec 32) (e : IntOp.andi (IntOp.cmpi .sge v 0#32) (IntOp.cmpi .slt v 524288#32) = 1#1) : v.toNat < 524288 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

/-- The precondition gives what the kernel's proof asks of the launch memory. -/
theorem ok_of_pre (m : (ℓ : Loc Cert.Kernel.nD Cert.Kernel.τ Cert.Kernel.sig) → Buf (Elt F) ℓ)
    (h : ∀ c : Dev Cert.Kernel.nD, Cert.Pre_idx_in_rows.fn (F := F) (m ((c.tc : Thread Cert.Kernel.nD Cert.Kernel.τ).loc Cert.Kernel.main_arg0))
      (m ((c.tc : Thread Cert.Kernel.nD Cert.Kernel.τ).loc Cert.Kernel.main_arg1)) = fun _ => 1#1) : Cert.Kernel.Pf.PreOK m := by
  intro d j
  have e := congrFun (h d) j
  simp only [Cert.Pre_idx_in_rows.fn, andi, cmpi, broadcastInDim, constantI] at e
  exact word_lt _ e

/-- The reference's rows are the gather's: the word in range names the row both read. -/
theorem out_eq_G (m : (ℓ : Loc Cert.Kernel.nD Cert.Kernel.τ Cert.Kernel.sig) → Buf (Elt F) ℓ) (hpre : Cert.Kernel.Pf.PreOK m) (d : Dev Cert.Kernel.nD) :
    Cert.Reference.Pf.out (m (Cert.Kernel.Pf.xLoc d)) (m (Cert.Kernel.Pf.iLoc d)) = Cert.Kernel.Pf.G m d := by
  funext i
  have hi : i = ValueIdx.ix2 (n0 := 393216) (n1 := 256) (i 0) (i 1) := by
    funext a
    match a with
    | ⟨0, _⟩ => rfl
    | ⟨1, _⟩ => rfl
  have hw : m (Cert.Kernel.Pf.iLoc d) (ValueIdx.ix2 (n0 := 1) (n1 := 393216) 0 (i 0)) = Cert.Kernel.Pf.idxw m d (i 0).val := by
    unfold Cert.Kernel.Pf.idxw
    rw [dif_pos (show (i 0).val < 393216 from (i 0).isLt)]
    rfl
  have hb : (m (Cert.Kernel.Pf.iLoc d) (ValueIdx.ix2 (n0 := 1) (n1 := 393216) 0 (i 0)) : BitVec 32) = BitVec.ofNat 32 (Cert.Kernel.Pf.rowOf (Cert.Kernel.Pf.idxw m d (i 0).val)).val := by
    rw [hw, Cert.Kernel.Pf.rowOf_val m hpre, BitVec.ofNat_toNat, BitVec.setWidth_eq]
  refine (congrArg (Cert.Reference.Pf.out (m (Cert.Kernel.Pf.xLoc d)) (m (Cert.Kernel.Pf.iLoc d))) hi).trans ?_
  exact Cert.Reference.Pf.out_apply _ _ (i 0) (i 1) _ hb

/-- Both programs from memories that agree on the arguments, over any float values: equal results, arguments unchanged. -/
theorem value [∀ e, Nonempty (Elt F e)] (m : (ℓ : Loc Cert.Kernel.nD Cert.Kernel.τ Cert.Kernel.sig) → Buf (Elt F) ℓ) (g : Dev Cert.Kernel.nD → PrngReg)
    (m' : (ℓ : Loc Cert.Reference.nD Cert.Reference.τ Cert.Reference.sig) → Buf (Elt F) ℓ) (g' : Dev Cert.Reference.nD → PrngReg)
    (hpre : Cert.Kernel.Pf.PreOK m)
    (hag : ∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) :
    ∃ (v0 : (c : Dev Cert.Kernel.nD) → Buf (Elt F) ((c.tc : Thread Cert.Kernel.nD Cert.Kernel.τ).loc Cert.Kernel.main_v0)),
      θ_run (Cert.Kernel.defs (F := F)) (Cert.Kernel.threads (F := F)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := F)) (onTc (τ := Cert.Reference.τ) (Cert.Reference.main (F := F))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)) := by
  refine ⟨Cert.Kernel.Pf.G m, ?_, ?_⟩
  · exact (θ_run Cert.Kernel.defs _ _).mono (fun _ h c => ⟨(h.1 c).2.2, (h.1 c).1, (h.1 c).2.1⟩) (Cert.Kernel.Pf.run_main m g hpre)
  · refine (θ_run Cert.Reference.defs _ _).mono (fun r h c => ⟨(h.1 c).1.trans ?_, (h.1 c).2⟩) (Cert.Reference.Pf.run_main m' g')
    rw [(hag c).1, (hag c).2]
    exact out_eq_G m hpre c

theorem frame_kernel : Cert.quiescent_Kernel := fun m g h =>
  (θ_run Cert.Kernel.defs _ _).mono (fun _ h => ⟨fun c => ⟨(h.1 c).1, (h.1 c).2.1⟩, h.2⟩) (Cert.Kernel.Pf.run_main (F := Bits) m g (ok_of_pre m h))
theorem frame_kernelIdeal : Cert.quiescent_KernelIdeal := fun m g h =>
  (θ_run Cert.KernelIdeal.defs _ _).mono (fun _ h => ⟨fun c => ⟨(h.1 c).1, (h.1 c).2.1⟩, h.2⟩) (Cert.Kernel.Pf.run_main (F := Ideal) m g (ok_of_pre m h))
theorem frame_reference : Cert.quiescent_Reference := fun m g _ =>
  (θ_run Cert.Reference.defs _ _).mono (fun _ h => ⟨fun c => (h.1 c).2, h.2⟩) (Cert.Reference.Pf.run_main (F := Bits) m g)
theorem frame_referenceIdeal : Cert.quiescent_ReferenceIdeal := fun m g _ =>
  (θ_run Cert.ReferenceIdeal.defs _ _).mono (fun _ h => ⟨fun c => (h.1 c).2, h.2⟩) (Cert.Reference.Pf.run_main (F := Ideal) m g)
theorem frame_referenceIdeal_pre : Cert.quiescent_ReferenceIdeal_pre_idx_in_rows := fun m g _ => frame_referenceIdeal m g trivial
theorem algebraic : Cert.algebraic_KernelIdeal_ReferenceIdeal := fun m g m' g' h hag => value (F := Ideal) m g m' g' (ok_of_pre m h) hag
theorem bitexact : Cert.bitexact_Kernel_Reference := fun m g m' g' h hag => value (F := Bits) m g m' g' (ok_of_pre m h) hag

/-! ## The input projection -/

/-- The kernel as printed and as printed for the ideal reading are the same program (no rewrite was offered). -/
theorem defs₀_eq : Cert.Kernel2.defs₀ (F := F) = Cert.Kernel2Ideal.defs₀ (F := F) := by
  unfold Cert.Kernel2.defs₀ Cert.Kernel2Ideal.defs₀
  refine congrArg Defs.onTc ?_
  funext l a
  match l, a with
  | ⟨0, _⟩, (t, s) => rfl
  | ⟨n + 1, h⟩, _ => exact absurd h (Nat.not_lt.2 (Nat.le_add_left _ _))
theorem defs_eq : Cert.Kernel2.defs (F := F) = Cert.Kernel2Ideal.defs (F := F) := by
  unfold Cert.Kernel2.defs Cert.Kernel2Ideal.defs
  exact congrArg (Pipeline.defs Cert.Kernel2Ideal.pcfgs) defs₀_eq

theorem frame_kernel2 : Cert.quiescent_Kernel2 := fun m g _ => by
  rw [defs_eq]
  exact Cert.Kernel2Ideal.Pf.run_frame (F := Bits) m g
theorem frame_kernel2Ideal : Cert.quiescent_Kernel2Ideal := fun m g _ => Cert.Kernel2Ideal.Pf.run_frame (F := Ideal) m g
theorem frame_reference2Ideal : Cert.quiescent_Reference2Ideal := fun m g _ =>
  (θ_run Cert.Reference2Ideal.defs _ _).mono (fun r h => ⟨fun c => (h c).2.2, Idealize.ShloMosaic.sem_eq_zero_of_no_sems (by decide) r.2⟩)
    (Cert.Reference2Ideal.Value.run (F := Ideal) m g)

/-- The projection and its reference, from memories that agree on the arguments: equal results, arguments unchanged. -/
theorem algebraic2 : Cert.algebraic_Kernel2Ideal_Reference2Ideal := fun m g m' g' _ hag =>
  ⟨fun c => Cert.Proj.mainOut (Cert.Kernel2Ideal.Pf.xA m c) (Cert.Kernel2Ideal.Pf.mA m c) (Cert.Kernel2Ideal.Pf.wA m c),
    fun c => Cert.Proj.dtOut (Cert.Kernel2Ideal.Pf.xA m c) (Cert.Kernel2Ideal.Pf.mA m c) (Cert.Kernel2Ideal.Pf.wA m c),
    Cert.Kernel2Ideal.Pf.run_out m g,
    (θ_run Cert.Reference2Ideal.defs _ _).mono
      (fun _ h c => ⟨(h c).1.trans (by rw [(hag c).1, (hag c).2.1, (hag c).2.2]), (h c).2.1.trans (by rw [(hag c).1, (hag c).2.1, (hag c).2.2]), (h c).2.2⟩)
      (Cert.Reference2Ideal.Pf.run_out m' g')⟩

/-! ## The merge -/

theorem frame_kernel3 : Cert.quiescent_Kernel3 := fun m g _ => Cert.Kernel3.Gen.frame (F := Bits) m g
theorem frame_kernel3Ideal : Cert.quiescent_Kernel3Ideal := fun m g _ => Cert.Kernel3Ideal.Gen.frame (F := Ideal) m g
theorem frame_reference3Ideal : Cert.quiescent_Reference3Ideal := fun m g _ =>
  (θ_run Cert.Reference3Ideal.defs _ _).mono (fun r h => ⟨fun c => (h c).2.2.2, Idealize.ShloMosaic.sem_eq_zero_of_no_sems (by decide) r.2⟩)
    (Cert.Reference3Ideal.Value.run (F := Ideal) m g)

/-- The merge and its reference, from memories that agree on the arguments: equal results, arguments unchanged. -/
theorem algebraic3 : Cert.algebraic_Kernel3Ideal_Reference3Ideal := fun m g m' g' _ hag =>
  ⟨fun c => Cert.Merge.x1Out (Cert.Kernel3Ideal.Pf.A0 m c) (Cert.Kernel3Ideal.Pf.A1 m c) (Cert.Kernel3Ideal.Pf.A2 m c) (Cert.Kernel3Ideal.Pf.A3 m c) (Cert.Kernel3Ideal.Pf.A4 m c) (Cert.Kernel3Ideal.Pf.A5 m c) (Cert.Kernel3Ideal.Pf.A6 m c) (Cert.Kernel3Ideal.Pf.A7 m c) (Cert.Kernel3Ideal.Pf.A8 m c) (Cert.Kernel3Ideal.Pf.A9 m c),
    fun c => Cert.Merge.h2Out (Cert.Kernel3Ideal.Pf.A0 m c) (Cert.Kernel3Ideal.Pf.A1 m c) (Cert.Kernel3Ideal.Pf.A2 m c) (Cert.Kernel3Ideal.Pf.A3 m c) (Cert.Kernel3Ideal.Pf.A4 m c) (Cert.Kernel3Ideal.Pf.A5 m c) (Cert.Kernel3Ideal.Pf.A6 m c) (Cert.Kernel3Ideal.Pf.A7 m c) (Cert.Kernel3Ideal.Pf.A8 m c) (Cert.Kernel3Ideal.Pf.A9 m c),
    fun c => Cert.Merge.pairOut (Cert.Kernel3Ideal.Pf.A0 m c) (Cert.Kernel3Ideal.Pf.A1 m c) (Cert.Kernel3Ideal.Pf.A2 m c) (Cert.Kernel3Ideal.Pf.A3 m c) (Cert.Kernel3Ideal.Pf.A4 m c) (Cert.Kernel3Ideal.Pf.A5 m c) (Cert.Kernel3Ideal.Pf.A6 m c) (Cert.Kernel3Ideal.Pf.A7 m c) (Cert.Kernel3Ideal.Pf.A8 m c) (Cert.Kernel3Ideal.Pf.A9 m c),
    Cert.Kernel3Ideal.Pf.run_out m g,
    (θ_run Cert.Reference3Ideal.defs _ _).mono
      (fun _ h c => by
        obtain ⟨E0, E1, E2, E3, E4, E5, E6, E7, E8, E9, -⟩ := hag c
        change Cert.Reference3Ideal.Pf.a0 m' c = Cert.Kernel3Ideal.Pf.A0 m c at E0
        change Cert.Reference3Ideal.Pf.a1 m' c = Cert.Kernel3Ideal.Pf.A1 m c at E1
        change Cert.Reference3Ideal.Pf.a2 m' c = Cert.Kernel3Ideal.Pf.A2 m c at E2
        change Cert.Reference3Ideal.Pf.a3 m' c = Cert.Kernel3Ideal.Pf.A3 m c at E3
        change Cert.Reference3Ideal.Pf.a4 m' c = Cert.Kernel3Ideal.Pf.A4 m c at E4
        change Cert.Reference3Ideal.Pf.a5 m' c = Cert.Kernel3Ideal.Pf.A5 m c at E5
        change Cert.Reference3Ideal.Pf.a6 m' c = Cert.Kernel3Ideal.Pf.A6 m c at E6
        change Cert.Reference3Ideal.Pf.a7 m' c = Cert.Kernel3Ideal.Pf.A7 m c at E7
        change Cert.Reference3Ideal.Pf.a8 m' c = Cert.Kernel3Ideal.Pf.A8 m c at E8
        change Cert.Reference3Ideal.Pf.a9 m' c = Cert.Kernel3Ideal.Pf.A9 m c at E9
        exact ⟨(h c).1.trans (by rw [E0, E1, E2, E3, E4, E5, E6, E7, E8, E9]), (h c).2.1.trans (by rw [E0, E1, E2, E3, E4, E5, E6, E7, E8, E9]), (h c).2.2.1.trans (by rw [E0, E1, E2, E3, E4, E5, E6, E7, E8, E9]), (h c).2.2.2⟩)
      (Cert.Reference3Ideal.Pf.run_out m' g')⟩

/-! ## The combination -/

theorem frame_kernel4 : Cert.quiescent_Kernel4 := fun m g _ => Cert.Kernel4.Gen.frame (F := Bits) m g
theorem frame_kernel4Ideal : Cert.quiescent_Kernel4Ideal := fun m g _ => Cert.Kernel4Ideal.Gen.frame (F := Ideal) m g
theorem frame_kernel4Ideal_pre : Cert.quiescent_Kernel4Ideal_pre_finite_h := fun m g _ => Cert.Kernel4Ideal.Gen.frame (F := Ideal) m g
theorem frame_reference4Ideal : Cert.quiescent_Reference4Ideal := fun m g _ =>
  (θ_run Cert.Reference4Ideal.defs _ _).mono (fun r h => ⟨fun c => (h c).2, Idealize.ShloMosaic.sem_eq_zero_of_no_sems (by decide) r.2⟩)
    (Cert.Reference4Ideal.Value.run (F := Ideal) m g)
theorem frame_reference4Ideal_pre : Cert.quiescent_Reference4Ideal_pre_finite_h := fun m g _ => frame_reference4Ideal m g trivial

/-- A number whose absolute value the precondition finds below infinity is a real one. -/
theorem finite_of (x : EReal) (h : Ideal.cmp .olt (max x (-x)) (Ideal.ofBits FTy.f32 2139095040#32) = 1#1) : ∃ r : ℝ, x = r := by
  refine Cert.Comb.coe_of_abs x ?_
  by_contra hn
  rw [Cert.Comb.inf_eq] at h
  simp [Ideal.cmp, hn] at h

/-- The reference's result is the kernel's, where the shared expert's gate product is of finite numbers. -/
theorem comb_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h2 : ∀ i, ∃ v : ℝ, Cert.Kernel4Ideal.Pf.A2 m c i = v) (h6 : ∀ i, ∃ v : ℝ, Cert.Kernel4Ideal.Pf.A6 m c i = v)
    (h9 : ∀ i, ∃ v : ℝ, Cert.Kernel4Ideal.Pf.A9 m c i = v)
    (E0 : Cert.Reference4Ideal.Pf.a0 m' c = Cert.Kernel4Ideal.Pf.A0 m c)
    (E1 : Cert.Reference4Ideal.Pf.a1 m' c = Cert.Kernel4Ideal.Pf.A1 m c)
    (E2 : Cert.Reference4Ideal.Pf.a2 m' c = Cert.Kernel4Ideal.Pf.A2 m c)
    (E3 : Cert.Reference4Ideal.Pf.a3 m' c = Cert.Kernel4Ideal.Pf.A3 m c)
    (E4 : Cert.Reference4Ideal.Pf.a4 m' c = Cert.Kernel4Ideal.Pf.A4 m c)
    (E5 : Cert.Reference4Ideal.Pf.a5 m' c = Cert.Kernel4Ideal.Pf.A5 m c)
    (E6 : Cert.Reference4Ideal.Pf.a6 m' c = Cert.Kernel4Ideal.Pf.A6 m c)
    (E7 : Cert.Reference4Ideal.Pf.a7 m' c = Cert.Kernel4Ideal.Pf.A7 m c)
    (E8 : Cert.Reference4Ideal.Pf.a8 m' c = Cert.Kernel4Ideal.Pf.A8 m c)
    (E9 : Cert.Reference4Ideal.Pf.a9 m' c = Cert.Kernel4Ideal.Pf.A9 m c)
    (E10 : Cert.Reference4Ideal.Pf.a10 m' c = Cert.Kernel4Ideal.Pf.A10 m c)
    (E11 : Cert.Reference4Ideal.Pf.a11 m' c = Cert.Kernel4Ideal.Pf.A11 m c)
    (E12 : Cert.Reference4Ideal.Pf.a12 m' c = Cert.Kernel4Ideal.Pf.A12 m c)
    (E13 : Cert.Reference4Ideal.Pf.a13 m' c = Cert.Kernel4Ideal.Pf.A13 m c) :
    Cert.Reference4Ideal.Value.res_main_v62 m' c
      = shapeCast Cert.Kernel4Ideal.S8x4096x1024 (Cert.Kernel4Ideal.Pf.rows m c) Cert.Kernel4Ideal.Gen.facts.shapeCasts_S32768x1024_S8x4096x1024 := by
  funext i
  obtain ⟨a, b, k, rfl⟩ : ∃ (a : Fin 8) (b : Fin 4096) (k : Fin 1024), i = ValueIdx.ix3 a b k := ⟨i 0, i 1, i 2, ValueIdx.eq_ix3 i⟩
  obtain ⟨R, rfl, rfl⟩ : ∃ R : Fin 32768, a = ⟨R.val / 4096, by omega⟩ ∧ b = ⟨R.val % 4096, by omega⟩ :=
    ⟨⟨4096 * a.val + b.val, by omega⟩, Fin.ext (by dsimp only; omega), Fin.ext (by dsimp only; omega)⟩
  refine (Cert.Reference4Ideal.Pf.res_row m' c R k).trans (Eq.trans ?_ (Cert.Kernel4Ideal.Pf.rows_apply m c R k).symm)
  rw [E0, E1, E2, E3, E4, E5, E6, E7, E8, E9, E10, E11, E12, E13, Cert.Comb.row_eq _ _ _ _ _ _ _ _ _ _ _ _ _ _ h2 h6 h9]

/-- The combination and its reference, from memories that agree on the arguments: equal results, arguments unchanged. -/
theorem algebraic4 : Cert.algebraic_Kernel4Ideal_Reference4Ideal_pre_finite_h := fun m g m' g' hp hag =>
  ⟨fun c => shapeCast Cert.Kernel4Ideal.S8x4096x1024 (Cert.Kernel4Ideal.Pf.rows m c) Cert.Kernel4Ideal.Gen.facts.shapeCasts_S32768x1024_S8x4096x1024,
    (θ_run Cert.Kernel4Ideal.defs _ _).mono (fun _ h c => h.1 c) (Cert.Kernel4Ideal.Pf.run_out m g),
    (θ_run Cert.Reference4Ideal.defs _ _).mono
      (fun _ h c => by
        obtain ⟨E0, E1, E2, E3, E4, E5, E6, E7, E8, E9, E10, E11, E12, E13⟩ := hag c
        exact ⟨(h c).1.trans (comb_eq m m' c (fun i => finite_of _ (congrFun (hp c).1 i)) (fun i => finite_of _ (congrFun (hp c).2.1 i))
          (fun i => finite_of _ (congrFun (hp c).2.2 i)) E0 E1 E2 E3 E4 E5 E6 E7 E8 E9 E10 E11 E12 E13), (h c).2⟩)
      (Cert.Reference4Ideal.Value.run (F := Ideal) m' g')⟩

theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Pre_idx_in_rows.Gen.facts, Cert.Pre_finite_h.Gen.facts,
    frame_kernel, frame_kernelIdeal, frame_referenceIdeal, frame_referenceIdeal_pre, frame_reference,
    frame_kernel2, frame_kernel2Ideal, frame_reference2Ideal,
    frame_kernel3, frame_kernel3Ideal, frame_reference3Ideal,
    frame_kernel4, frame_kernel4Ideal, frame_kernel4Ideal_pre, frame_reference4Ideal, frame_reference4Ideal_pre,
    trivial, algebraic, bitexact, trivial, algebraic2, trivial, algebraic3, trivial, algebraic4⟩

end Cert.Proof

end
